-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_MainIdeal (m : (ℓ : Loc Cert.MainIdeal.nD Cert.MainIdeal.τ Cert.MainIdeal.sig) → Buf (Elt Ideal) ℓ) : Prop :=
  True

def Pre_MainReferenceIdeal (m : (ℓ : Loc Cert.MainReferenceIdeal.nD Cert.MainReferenceIdeal.τ Cert.MainReferenceIdeal.sig) → Buf (Elt Ideal) ℓ) : Prop :=
  True

def Pre_Main (m : (ℓ : Loc Cert.Main.nD Cert.Main.τ Cert.Main.sig) → Buf (Elt Bits) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3)
      ∧ r.2.mem ((c.tc : Thread Cert.Dy.nD Cert.Dy.τ).loc Cert.Dy.main_arg4) = m ((c.tc : Thread Cert.Dy.nD Cert.Dy.τ).loc Cert.Dy.main_arg4)
      ∧ r.2.mem ((c.tc : Thread Cert.Dy.nD Cert.Dy.τ).loc Cert.Dy.main_arg5) = m ((c.tc : Thread Cert.Dy.nD Cert.Dy.τ).loc Cert.Dy.main_arg5)
      ∧ r.2.mem ((c.tc : Thread Cert.Dy.nD Cert.Dy.τ).loc Cert.Dy.main_arg6) = m ((c.tc : Thread Cert.Dy.nD Cert.Dy.τ).loc Cert.Dy.main_arg6))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
      ∧ r.2.mem ((c.tc : Thread Cert.DyIdeal.nD Cert.DyIdeal.τ).loc Cert.DyIdeal.main_arg4) = m ((c.tc : Thread Cert.DyIdeal.nD Cert.DyIdeal.τ).loc Cert.DyIdeal.main_arg4)
      ∧ r.2.mem ((c.tc : Thread Cert.DyIdeal.nD Cert.DyIdeal.τ).loc Cert.DyIdeal.main_arg5) = m ((c.tc : Thread Cert.DyIdeal.nD Cert.DyIdeal.τ).loc Cert.DyIdeal.main_arg5)
      ∧ r.2.mem ((c.tc : Thread Cert.DyIdeal.nD Cert.DyIdeal.τ).loc Cert.DyIdeal.main_arg6) = m ((c.tc : Thread Cert.DyIdeal.nD Cert.DyIdeal.τ).loc Cert.DyIdeal.main_arg6))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1)
      ∧ r.2.mem ((c.tc : Thread Cert.DyReferenceIdeal.nD Cert.DyReferenceIdeal.τ).loc Cert.DyReferenceIdeal.main_arg2) = m ((c.tc : Thread Cert.DyReferenceIdeal.nD Cert.DyReferenceIdeal.τ).loc Cert.DyReferenceIdeal.main_arg2)
      ∧ r.2.mem ((c.tc : Thread Cert.DyReferenceIdeal.nD Cert.DyReferenceIdeal.τ).loc Cert.DyReferenceIdeal.main_arg3) = m ((c.tc : Thread Cert.DyReferenceIdeal.nD Cert.DyReferenceIdeal.τ).loc Cert.DyReferenceIdeal.main_arg3)
      ∧ r.2.mem ((c.tc : Thread Cert.DyReferenceIdeal.nD Cert.DyReferenceIdeal.τ).loc Cert.DyReferenceIdeal.main_arg4) = m ((c.tc : Thread Cert.DyReferenceIdeal.nD Cert.DyReferenceIdeal.τ).loc Cert.DyReferenceIdeal.main_arg4)
      ∧ r.2.mem ((c.tc : Thread Cert.DyReferenceIdeal.nD Cert.DyReferenceIdeal.τ).loc Cert.DyReferenceIdeal.main_arg5) = m ((c.tc : Thread Cert.DyReferenceIdeal.nD Cert.DyReferenceIdeal.τ).loc Cert.DyReferenceIdeal.main_arg5)
      ∧ r.2.mem ((c.tc : Thread Cert.DyReferenceIdeal.nD Cert.DyReferenceIdeal.τ).loc Cert.DyReferenceIdeal.main_arg6) = m ((c.tc : Thread Cert.DyReferenceIdeal.nD Cert.DyReferenceIdeal.τ).loc Cert.DyReferenceIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
      ∧ r.2.mem ((c.tc : Thread Cert.MainIdeal.nD Cert.MainIdeal.τ).loc Cert.MainIdeal.main_arg10) = m ((c.tc : Thread Cert.MainIdeal.nD Cert.MainIdeal.τ).loc Cert.MainIdeal.main_arg10)
      ∧ r.2.mem ((c.tc : Thread Cert.MainIdeal.nD Cert.MainIdeal.τ).loc Cert.MainIdeal.main_arg11) = m ((c.tc : Thread Cert.MainIdeal.nD Cert.MainIdeal.τ).loc Cert.MainIdeal.main_arg11)
      ∧ r.2.mem ((c.tc : Thread Cert.MainIdeal.nD Cert.MainIdeal.τ).loc Cert.MainIdeal.main_arg12) = m ((c.tc : Thread Cert.MainIdeal.nD Cert.MainIdeal.τ).loc Cert.MainIdeal.main_arg12)
      ∧ r.2.mem ((c.tc : Thread Cert.MainIdeal.nD Cert.MainIdeal.τ).loc Cert.MainIdeal.main_arg13) = m ((c.tc : Thread Cert.MainIdeal.nD Cert.MainIdeal.τ).loc Cert.MainIdeal.main_arg13)
      ∧ r.2.mem ((c.tc : Thread Cert.MainIdeal.nD Cert.MainIdeal.τ).loc Cert.MainIdeal.main_arg14) = m ((c.tc : Thread Cert.MainIdeal.nD Cert.MainIdeal.τ).loc Cert.MainIdeal.main_arg14)
      ∧ r.2.mem ((c.tc : Thread Cert.MainIdeal.nD Cert.MainIdeal.τ).loc Cert.MainIdeal.main_arg15) = m ((c.tc : Thread Cert.MainIdeal.nD Cert.MainIdeal.τ).loc Cert.MainIdeal.main_arg15)
      ∧ r.2.mem ((c.tc : Thread Cert.MainIdeal.nD Cert.MainIdeal.τ).loc Cert.MainIdeal.main_arg16) = m ((c.tc : Thread Cert.MainIdeal.nD Cert.MainIdeal.τ).loc Cert.MainIdeal.main_arg16)
      ∧ r.2.mem ((c.tc : Thread Cert.MainIdeal.nD Cert.MainIdeal.τ).loc Cert.MainIdeal.main_arg17) = m ((c.tc : Thread Cert.MainIdeal.nD Cert.MainIdeal.τ).loc Cert.MainIdeal.main_arg17))
      ∧ r.2.sem = fun _ => 0)

def quiescent_MainReferenceIdeal [hMainReferenceIdeal : Cert.MainReferenceIdeal.Facts] : Prop :=
  ∀ (m : (ℓ : Loc Cert.MainReferenceIdeal.nD Cert.MainReferenceIdeal.τ Cert.MainReferenceIdeal.sig) → Buf (Elt Ideal) ℓ) (g : Dev Cert.MainReferenceIdeal.nD → PrngReg), Pre_MainReferenceIdeal m →
    θ_run (Cert.MainReferenceIdeal.defs (F := Ideal)) (onTc (τ := Cert.MainReferenceIdeal.τ) (Cert.MainReferenceIdeal.main (F := Ideal))) ⟨m, fun _ => 0, g⟩ (fun r => (∀ c : Dev Cert.MainReferenceIdeal.nD,
      r.2.mem ((c.tc : Thread Cert.MainReferenceIdeal.nD Cert.MainReferenceIdeal.τ).loc Cert.MainReferenceIdeal.main_arg0) = m ((c.tc : Thread Cert.MainReferenceIdeal.nD Cert.MainReferenceIdeal.τ).loc Cert.MainReferenceIdeal.main_arg0)
      ∧ r.2.mem ((c.tc : Thread Cert.MainReferenceIdeal.nD Cert.MainReferenceIdeal.τ).loc Cert.MainReferenceIdeal.main_arg1) = m ((c.tc : Thread Cert.MainReferenceIdeal.nD Cert.MainReferenceIdeal.τ).loc Cert.MainReferenceIdeal.main_arg1)
      ∧ r.2.mem ((c.tc : Thread Cert.MainReferenceIdeal.nD Cert.MainReferenceIdeal.τ).loc Cert.MainReferenceIdeal.main_arg2) = m ((c.tc : Thread Cert.MainReferenceIdeal.nD Cert.MainReferenceIdeal.τ).loc Cert.MainReferenceIdeal.main_arg2)
      ∧ r.2.mem ((c.tc : Thread Cert.MainReferenceIdeal.nD Cert.MainReferenceIdeal.τ).loc Cert.MainReferenceIdeal.main_arg3) = m ((c.tc : Thread Cert.MainReferenceIdeal.nD Cert.MainReferenceIdeal.τ).loc Cert.MainReferenceIdeal.main_arg3)
      ∧ r.2.mem ((c.tc : Thread Cert.MainReferenceIdeal.nD Cert.MainReferenceIdeal.τ).loc Cert.MainReferenceIdeal.main_arg4) = m ((c.tc : Thread Cert.MainReferenceIdeal.nD Cert.MainReferenceIdeal.τ).loc Cert.MainReferenceIdeal.main_arg4)
      ∧ r.2.mem ((c.tc : Thread Cert.MainReferenceIdeal.nD Cert.MainReferenceIdeal.τ).loc Cert.MainReferenceIdeal.main_arg5) = m ((c.tc : Thread Cert.MainReferenceIdeal.nD Cert.MainReferenceIdeal.τ).loc Cert.MainReferenceIdeal.main_arg5)
      ∧ r.2.mem ((c.tc : Thread Cert.MainReferenceIdeal.nD Cert.MainReferenceIdeal.τ).loc Cert.MainReferenceIdeal.main_arg6) = m ((c.tc : Thread Cert.MainReferenceIdeal.nD Cert.MainReferenceIdeal.τ).loc Cert.MainReferenceIdeal.main_arg6)
      ∧ r.2.mem ((c.tc : Thread Cert.MainReferenceIdeal.nD Cert.MainReferenceIdeal.τ).loc Cert.MainReferenceIdeal.main_arg7) = m ((c.tc : Thread Cert.MainReferenceIdeal.nD Cert.MainReferenceIdeal.τ).loc Cert.MainReferenceIdeal.main_arg7)
      ∧ r.2.mem ((c.tc : Thread Cert.MainReferenceIdeal.nD Cert.MainReferenceIdeal.τ).loc Cert.MainReferenceIdeal.main_arg8) = m ((c.tc : Thread Cert.MainReferenceIdeal.nD Cert.MainReferenceIdeal.τ).loc Cert.MainReferenceIdeal.main_arg8)
      ∧ r.2.mem ((c.tc : Thread Cert.MainReferenceIdeal.nD Cert.MainReferenceIdeal.τ).loc Cert.MainReferenceIdeal.main_arg9) = m ((c.tc : Thread Cert.MainReferenceIdeal.nD Cert.MainReferenceIdeal.τ).loc Cert.MainReferenceIdeal.main_arg9)
      ∧ r.2.mem ((c.tc : Thread Cert.MainReferenceIdeal.nD Cert.MainReferenceIdeal.τ).loc Cert.MainReferenceIdeal.main_arg10) = m ((c.tc : Thread Cert.MainReferenceIdeal.nD Cert.MainReferenceIdeal.τ).loc Cert.MainReferenceIdeal.main_arg10)
      ∧ r.2.mem ((c.tc : Thread Cert.MainReferenceIdeal.nD Cert.MainReferenceIdeal.τ).loc Cert.MainReferenceIdeal.main_arg11) = m ((c.tc : Thread Cert.MainReferenceIdeal.nD Cert.MainReferenceIdeal.τ).loc Cert.MainReferenceIdeal.main_arg11)
      ∧ r.2.mem ((c.tc : Thread Cert.MainReferenceIdeal.nD Cert.MainReferenceIdeal.τ).loc Cert.MainReferenceIdeal.main_arg12) = m ((c.tc : Thread Cert.MainReferenceIdeal.nD Cert.MainReferenceIdeal.τ).loc Cert.MainReferenceIdeal.main_arg12)
      ∧ r.2.mem ((c.tc : Thread Cert.MainReferenceIdeal.nD Cert.MainReferenceIdeal.τ).loc Cert.MainReferenceIdeal.main_arg13) = m ((c.tc : Thread Cert.MainReferenceIdeal.nD Cert.MainReferenceIdeal.τ).loc Cert.MainReferenceIdeal.main_arg13)
      ∧ r.2.mem ((c.tc : Thread Cert.MainReferenceIdeal.nD Cert.MainReferenceIdeal.τ).loc Cert.MainReferenceIdeal.main_arg14) = m ((c.tc : Thread Cert.MainReferenceIdeal.nD Cert.MainReferenceIdeal.τ).loc Cert.MainReferenceIdeal.main_arg14)
      ∧ r.2.mem ((c.tc : Thread Cert.MainReferenceIdeal.nD Cert.MainReferenceIdeal.τ).loc Cert.MainReferenceIdeal.main_arg15) = m ((c.tc : Thread Cert.MainReferenceIdeal.nD Cert.MainReferenceIdeal.τ).loc Cert.MainReferenceIdeal.main_arg15)
      ∧ r.2.mem ((c.tc : Thread Cert.MainReferenceIdeal.nD Cert.MainReferenceIdeal.τ).loc Cert.MainReferenceIdeal.main_arg16) = m ((c.tc : Thread Cert.MainReferenceIdeal.nD Cert.MainReferenceIdeal.τ).loc Cert.MainReferenceIdeal.main_arg16)
      ∧ r.2.mem ((c.tc : Thread Cert.MainReferenceIdeal.nD Cert.MainReferenceIdeal.τ).loc Cert.MainReferenceIdeal.main_arg17) = m ((c.tc : Thread Cert.MainReferenceIdeal.nD Cert.MainReferenceIdeal.τ).loc Cert.MainReferenceIdeal.main_arg17))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8)
      ∧ r.2.mem ((c.tc : Thread Cert.Main.nD Cert.Main.τ).loc Cert.Main.main_arg9) = m ((c.tc : Thread Cert.Main.nD Cert.Main.τ).loc Cert.Main.main_arg9)
      ∧ r.2.mem ((c.tc : Thread Cert.Main.nD Cert.Main.τ).loc Cert.Main.main_arg10) = m ((c.tc : Thread Cert.Main.nD Cert.Main.τ).loc Cert.Main.main_arg10)
      ∧ r.2.mem ((c.tc : Thread Cert.Main.nD Cert.Main.τ).loc Cert.Main.main_arg11) = m ((c.tc : Thread Cert.Main.nD Cert.Main.τ).loc Cert.Main.main_arg11)
      ∧ r.2.mem ((c.tc : Thread Cert.Main.nD Cert.Main.τ).loc Cert.Main.main_arg12) = m ((c.tc : Thread Cert.Main.nD Cert.Main.τ).loc Cert.Main.main_arg12)
      ∧ r.2.mem ((c.tc : Thread Cert.Main.nD Cert.Main.τ).loc Cert.Main.main_arg13) = m ((c.tc : Thread Cert.Main.nD Cert.Main.τ).loc Cert.Main.main_arg13)
      ∧ r.2.mem ((c.tc : Thread Cert.Main.nD Cert.Main.τ).loc Cert.Main.main_arg14) = m ((c.tc : Thread Cert.Main.nD Cert.Main.τ).loc Cert.Main.main_arg14)
      ∧ r.2.mem ((c.tc : Thread Cert.Main.nD Cert.Main.τ).loc Cert.Main.main_arg15) = m ((c.tc : Thread Cert.Main.nD Cert.Main.τ).loc Cert.Main.main_arg15)
      ∧ r.2.mem ((c.tc : Thread Cert.Main.nD Cert.Main.τ).loc Cert.Main.main_arg16) = m ((c.tc : Thread Cert.Main.nD Cert.Main.τ).loc Cert.Main.main_arg16)
      ∧ r.2.mem ((c.tc : Thread Cert.Main.nD Cert.Main.τ).loc Cert.Main.main_arg17) = m ((c.tc : Thread Cert.Main.nD Cert.Main.τ).loc Cert.Main.main_arg17))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Dy_DyIdeal : Prop :=
  True

def preserves_Tail_TailIdeal : Prop :=
  True

def preserves_Main_MainIdeal : Prop :=
  True

def algebraic_MainIdeal_MainReferenceIdeal [hMainIdeal : Cert.MainIdeal.Facts] [hMainReferenceIdeal : Cert.MainReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainReferenceIdeal.nD Cert.MainReferenceIdeal.τ Cert.MainReferenceIdeal.sig) → Buf (Elt Ideal) ℓ) (g' : Dev Cert.MainReferenceIdeal.nD → PrngReg), Pre_MainIdeal m →
    (∀ c : Dev Cert.MainIdeal.nD,
      m' ((c.tc : Thread Cert.MainReferenceIdeal.nD Cert.MainReferenceIdeal.τ).loc Cert.MainReferenceIdeal.main_arg0) = m ((c.tc : Thread Cert.MainIdeal.nD Cert.MainIdeal.τ).loc Cert.MainIdeal.main_arg0)
      ∧ m' ((c.tc : Thread Cert.MainReferenceIdeal.nD Cert.MainReferenceIdeal.τ).loc Cert.MainReferenceIdeal.main_arg1) = m ((c.tc : Thread Cert.MainIdeal.nD Cert.MainIdeal.τ).loc Cert.MainIdeal.main_arg1)
      ∧ m' ((c.tc : Thread Cert.MainReferenceIdeal.nD Cert.MainReferenceIdeal.τ).loc Cert.MainReferenceIdeal.main_arg2) = m ((c.tc : Thread Cert.MainIdeal.nD Cert.MainIdeal.τ).loc Cert.MainIdeal.main_arg2)
      ∧ m' ((c.tc : Thread Cert.MainReferenceIdeal.nD Cert.MainReferenceIdeal.τ).loc Cert.MainReferenceIdeal.main_arg3) = m ((c.tc : Thread Cert.MainIdeal.nD Cert.MainIdeal.τ).loc Cert.MainIdeal.main_arg3)
      ∧ m' ((c.tc : Thread Cert.MainReferenceIdeal.nD Cert.MainReferenceIdeal.τ).loc Cert.MainReferenceIdeal.main_arg4) = m ((c.tc : Thread Cert.MainIdeal.nD Cert.MainIdeal.τ).loc Cert.MainIdeal.main_arg4)
      ∧ m' ((c.tc : Thread Cert.MainReferenceIdeal.nD Cert.MainReferenceIdeal.τ).loc Cert.MainReferenceIdeal.main_arg5) = m ((c.tc : Thread Cert.MainIdeal.nD Cert.MainIdeal.τ).loc Cert.MainIdeal.main_arg5)
      ∧ m' ((c.tc : Thread Cert.MainReferenceIdeal.nD Cert.MainReferenceIdeal.τ).loc Cert.MainReferenceIdeal.main_arg6) = m ((c.tc : Thread Cert.MainIdeal.nD Cert.MainIdeal.τ).loc Cert.MainIdeal.main_arg6)
      ∧ m' ((c.tc : Thread Cert.MainReferenceIdeal.nD Cert.MainReferenceIdeal.τ).loc Cert.MainReferenceIdeal.main_arg7) = m ((c.tc : Thread Cert.MainIdeal.nD Cert.MainIdeal.τ).loc Cert.MainIdeal.main_arg7)
      ∧ m' ((c.tc : Thread Cert.MainReferenceIdeal.nD Cert.MainReferenceIdeal.τ).loc Cert.MainReferenceIdeal.main_arg8) = m ((c.tc : Thread Cert.MainIdeal.nD Cert.MainIdeal.τ).loc Cert.MainIdeal.main_arg8)
      ∧ m' ((c.tc : Thread Cert.MainReferenceIdeal.nD Cert.MainReferenceIdeal.τ).loc Cert.MainReferenceIdeal.main_arg9) = m ((c.tc : Thread Cert.MainIdeal.nD Cert.MainIdeal.τ).loc Cert.MainIdeal.main_arg9)
      ∧ m' ((c.tc : Thread Cert.MainReferenceIdeal.nD Cert.MainReferenceIdeal.τ).loc Cert.MainReferenceIdeal.main_arg10) = m ((c.tc : Thread Cert.MainIdeal.nD Cert.MainIdeal.τ).loc Cert.MainIdeal.main_arg10)
      ∧ m' ((c.tc : Thread Cert.MainReferenceIdeal.nD Cert.MainReferenceIdeal.τ).loc Cert.MainReferenceIdeal.main_arg11) = m ((c.tc : Thread Cert.MainIdeal.nD Cert.MainIdeal.τ).loc Cert.MainIdeal.main_arg11)
      ∧ m' ((c.tc : Thread Cert.MainReferenceIdeal.nD Cert.MainReferenceIdeal.τ).loc Cert.MainReferenceIdeal.main_arg12) = m ((c.tc : Thread Cert.MainIdeal.nD Cert.MainIdeal.τ).loc Cert.MainIdeal.main_arg12)
      ∧ m' ((c.tc : Thread Cert.MainReferenceIdeal.nD Cert.MainReferenceIdeal.τ).loc Cert.MainReferenceIdeal.main_arg13) = m ((c.tc : Thread Cert.MainIdeal.nD Cert.MainIdeal.τ).loc Cert.MainIdeal.main_arg13)
      ∧ m' ((c.tc : Thread Cert.MainReferenceIdeal.nD Cert.MainReferenceIdeal.τ).loc Cert.MainReferenceIdeal.main_arg14) = m ((c.tc : Thread Cert.MainIdeal.nD Cert.MainIdeal.τ).loc Cert.MainIdeal.main_arg14)
      ∧ m' ((c.tc : Thread Cert.MainReferenceIdeal.nD Cert.MainReferenceIdeal.τ).loc Cert.MainReferenceIdeal.main_arg15) = m ((c.tc : Thread Cert.MainIdeal.nD Cert.MainIdeal.τ).loc Cert.MainIdeal.main_arg15)
      ∧ m' ((c.tc : Thread Cert.MainReferenceIdeal.nD Cert.MainReferenceIdeal.τ).loc Cert.MainReferenceIdeal.main_arg16) = m ((c.tc : Thread Cert.MainIdeal.nD Cert.MainIdeal.τ).loc Cert.MainIdeal.main_arg16)
      ∧ m' ((c.tc : Thread Cert.MainReferenceIdeal.nD Cert.MainReferenceIdeal.τ).loc Cert.MainReferenceIdeal.main_arg17) = m ((c.tc : Thread Cert.MainIdeal.nD Cert.MainIdeal.τ).loc Cert.MainIdeal.main_arg17)) →
    ∃ (v0 : (c : Dev Cert.MainIdeal.nD) → Buf (Elt Ideal) ((c.tc : Thread Cert.MainIdeal.nD Cert.MainIdeal.τ).loc Cert.MainIdeal.main_v39_0)) (v1 : (c : Dev Cert.MainIdeal.nD) → Buf (Elt Ideal) ((c.tc : Thread Cert.MainIdeal.nD Cert.MainIdeal.τ).loc Cert.MainIdeal.main_v39_1)) (v2 : (c : Dev Cert.MainIdeal.nD) → Buf (Elt Ideal) ((c.tc : Thread Cert.MainIdeal.nD Cert.MainIdeal.τ).loc Cert.MainIdeal.main_v39_2)) (v3 : (c : Dev Cert.MainIdeal.nD) → Buf (Elt Ideal) ((c.tc : Thread Cert.MainIdeal.nD Cert.MainIdeal.τ).loc Cert.MainIdeal.main_v39_3)) (v4 : (c : Dev Cert.MainIdeal.nD) → Buf (Elt Ideal) ((c.tc : Thread Cert.MainIdeal.nD Cert.MainIdeal.τ).loc Cert.MainIdeal.main_v39_4)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v39_0) = v0 c
          ∧ r.2.mem ((c.tc : Thread Cert.MainIdeal.nD Cert.MainIdeal.τ).loc Cert.MainIdeal.main_v39_1) = v1 c
          ∧ r.2.mem ((c.tc : Thread Cert.MainIdeal.nD Cert.MainIdeal.τ).loc Cert.MainIdeal.main_v39_2) = v2 c
          ∧ r.2.mem ((c.tc : Thread Cert.MainIdeal.nD Cert.MainIdeal.τ).loc Cert.MainIdeal.main_v39_3) = v3 c
          ∧ r.2.mem ((c.tc : Thread Cert.MainIdeal.nD Cert.MainIdeal.τ).loc Cert.MainIdeal.main_v39_4) = v4 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
          ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
          ∧ r.2.mem ((c.tc : Thread Cert.MainIdeal.nD Cert.MainIdeal.τ).loc Cert.MainIdeal.main_arg10) = m ((c.tc : Thread Cert.MainIdeal.nD Cert.MainIdeal.τ).loc Cert.MainIdeal.main_arg10)
          ∧ r.2.mem ((c.tc : Thread Cert.MainIdeal.nD Cert.MainIdeal.τ).loc Cert.MainIdeal.main_arg11) = m ((c.tc : Thread Cert.MainIdeal.nD Cert.MainIdeal.τ).loc Cert.MainIdeal.main_arg11)
          ∧ r.2.mem ((c.tc : Thread Cert.MainIdeal.nD Cert.MainIdeal.τ).loc Cert.MainIdeal.main_arg12) = m ((c.tc : Thread Cert.MainIdeal.nD Cert.MainIdeal.τ).loc Cert.MainIdeal.main_arg12)
          ∧ r.2.mem ((c.tc : Thread Cert.MainIdeal.nD Cert.MainIdeal.τ).loc Cert.MainIdeal.main_arg13) = m ((c.tc : Thread Cert.MainIdeal.nD Cert.MainIdeal.τ).loc Cert.MainIdeal.main_arg13)
          ∧ r.2.mem ((c.tc : Thread Cert.MainIdeal.nD Cert.MainIdeal.τ).loc Cert.MainIdeal.main_arg14) = m ((c.tc : Thread Cert.MainIdeal.nD Cert.MainIdeal.τ).loc Cert.MainIdeal.main_arg14)
          ∧ r.2.mem ((c.tc : Thread Cert.MainIdeal.nD Cert.MainIdeal.τ).loc Cert.MainIdeal.main_arg15) = m ((c.tc : Thread Cert.MainIdeal.nD Cert.MainIdeal.τ).loc Cert.MainIdeal.main_arg15)
          ∧ r.2.mem ((c.tc : Thread Cert.MainIdeal.nD Cert.MainIdeal.τ).loc Cert.MainIdeal.main_arg16) = m ((c.tc : Thread Cert.MainIdeal.nD Cert.MainIdeal.τ).loc Cert.MainIdeal.main_arg16)
          ∧ r.2.mem ((c.tc : Thread Cert.MainIdeal.nD Cert.MainIdeal.τ).loc Cert.MainIdeal.main_arg17) = m ((c.tc : Thread Cert.MainIdeal.nD Cert.MainIdeal.τ).loc Cert.MainIdeal.main_arg17))
      ∧ θ_run (Cert.MainReferenceIdeal.defs (F := Ideal)) (onTc (τ := Cert.MainReferenceIdeal.τ) (Cert.MainReferenceIdeal.main (F := Ideal))) ⟨m', fun _ => 0, g'⟩ (fun r => ∀ c : Dev Cert.MainReferenceIdeal.nD,
          r.2.mem ((c.tc : Thread Cert.MainReferenceIdeal.nD Cert.MainReferenceIdeal.τ).loc Cert.MainReferenceIdeal.main_v13_0) = v0 c
          ∧ r.2.mem ((c.tc : Thread Cert.MainReferenceIdeal.nD Cert.MainReferenceIdeal.τ).loc Cert.MainReferenceIdeal.main_v13_1) = v1 c
          ∧ r.2.mem ((c.tc : Thread Cert.MainReferenceIdeal.nD Cert.MainReferenceIdeal.τ).loc Cert.MainReferenceIdeal.main_v13_2) = v2 c
          ∧ r.2.mem ((c.tc : Thread Cert.MainReferenceIdeal.nD Cert.MainReferenceIdeal.τ).loc Cert.MainReferenceIdeal.main_v13_3) = v3 c
          ∧ r.2.mem ((c.tc : Thread Cert.MainReferenceIdeal.nD Cert.MainReferenceIdeal.τ).loc Cert.MainReferenceIdeal.main_v13_4) = v4 c
          ∧ r.2.mem ((c.tc : Thread Cert.MainReferenceIdeal.nD Cert.MainReferenceIdeal.τ).loc Cert.MainReferenceIdeal.main_arg0) = m' ((c.tc : Thread Cert.MainReferenceIdeal.nD Cert.MainReferenceIdeal.τ).loc Cert.MainReferenceIdeal.main_arg0)
          ∧ r.2.mem ((c.tc : Thread Cert.MainReferenceIdeal.nD Cert.MainReferenceIdeal.τ).loc Cert.MainReferenceIdeal.main_arg1) = m' ((c.tc : Thread Cert.MainReferenceIdeal.nD Cert.MainReferenceIdeal.τ).loc Cert.MainReferenceIdeal.main_arg1)
          ∧ r.2.mem ((c.tc : Thread Cert.MainReferenceIdeal.nD Cert.MainReferenceIdeal.τ).loc Cert.MainReferenceIdeal.main_arg2) = m' ((c.tc : Thread Cert.MainReferenceIdeal.nD Cert.MainReferenceIdeal.τ).loc Cert.MainReferenceIdeal.main_arg2)
          ∧ r.2.mem ((c.tc : Thread Cert.MainReferenceIdeal.nD Cert.MainReferenceIdeal.τ).loc Cert.MainReferenceIdeal.main_arg3) = m' ((c.tc : Thread Cert.MainReferenceIdeal.nD Cert.MainReferenceIdeal.τ).loc Cert.MainReferenceIdeal.main_arg3)
          ∧ r.2.mem ((c.tc : Thread Cert.MainReferenceIdeal.nD Cert.MainReferenceIdeal.τ).loc Cert.MainReferenceIdeal.main_arg4) = m' ((c.tc : Thread Cert.MainReferenceIdeal.nD Cert.MainReferenceIdeal.τ).loc Cert.MainReferenceIdeal.main_arg4)
          ∧ r.2.mem ((c.tc : Thread Cert.MainReferenceIdeal.nD Cert.MainReferenceIdeal.τ).loc Cert.MainReferenceIdeal.main_arg5) = m' ((c.tc : Thread Cert.MainReferenceIdeal.nD Cert.MainReferenceIdeal.τ).loc Cert.MainReferenceIdeal.main_arg5)
          ∧ r.2.mem ((c.tc : Thread Cert.MainReferenceIdeal.nD Cert.MainReferenceIdeal.τ).loc Cert.MainReferenceIdeal.main_arg6) = m' ((c.tc : Thread Cert.MainReferenceIdeal.nD Cert.MainReferenceIdeal.τ).loc Cert.MainReferenceIdeal.main_arg6)
          ∧ r.2.mem ((c.tc : Thread Cert.MainReferenceIdeal.nD Cert.MainReferenceIdeal.τ).loc Cert.MainReferenceIdeal.main_arg7) = m' ((c.tc : Thread Cert.MainReferenceIdeal.nD Cert.MainReferenceIdeal.τ).loc Cert.MainReferenceIdeal.main_arg7)
          ∧ r.2.mem ((c.tc : Thread Cert.MainReferenceIdeal.nD Cert.MainReferenceIdeal.τ).loc Cert.MainReferenceIdeal.main_arg8) = m' ((c.tc : Thread Cert.MainReferenceIdeal.nD Cert.MainReferenceIdeal.τ).loc Cert.MainReferenceIdeal.main_arg8)
          ∧ r.2.mem ((c.tc : Thread Cert.MainReferenceIdeal.nD Cert.MainReferenceIdeal.τ).loc Cert.MainReferenceIdeal.main_arg9) = m' ((c.tc : Thread Cert.MainReferenceIdeal.nD Cert.MainReferenceIdeal.τ).loc Cert.MainReferenceIdeal.main_arg9)
          ∧ r.2.mem ((c.tc : Thread Cert.MainReferenceIdeal.nD Cert.MainReferenceIdeal.τ).loc Cert.MainReferenceIdeal.main_arg10) = m' ((c.tc : Thread Cert.MainReferenceIdeal.nD Cert.MainReferenceIdeal.τ).loc Cert.MainReferenceIdeal.main_arg10)
          ∧ r.2.mem ((c.tc : Thread Cert.MainReferenceIdeal.nD Cert.MainReferenceIdeal.τ).loc Cert.MainReferenceIdeal.main_arg11) = m' ((c.tc : Thread Cert.MainReferenceIdeal.nD Cert.MainReferenceIdeal.τ).loc Cert.MainReferenceIdeal.main_arg11)
          ∧ r.2.mem ((c.tc : Thread Cert.MainReferenceIdeal.nD Cert.MainReferenceIdeal.τ).loc Cert.MainReferenceIdeal.main_arg12) = m' ((c.tc : Thread Cert.MainReferenceIdeal.nD Cert.MainReferenceIdeal.τ).loc Cert.MainReferenceIdeal.main_arg12)
          ∧ r.2.mem ((c.tc : Thread Cert.MainReferenceIdeal.nD Cert.MainReferenceIdeal.τ).loc Cert.MainReferenceIdeal.main_arg13) = m' ((c.tc : Thread Cert.MainReferenceIdeal.nD Cert.MainReferenceIdeal.τ).loc Cert.MainReferenceIdeal.main_arg13)
          ∧ r.2.mem ((c.tc : Thread Cert.MainReferenceIdeal.nD Cert.MainReferenceIdeal.τ).loc Cert.MainReferenceIdeal.main_arg14) = m' ((c.tc : Thread Cert.MainReferenceIdeal.nD Cert.MainReferenceIdeal.τ).loc Cert.MainReferenceIdeal.main_arg14)
          ∧ r.2.mem ((c.tc : Thread Cert.MainReferenceIdeal.nD Cert.MainReferenceIdeal.τ).loc Cert.MainReferenceIdeal.main_arg15) = m' ((c.tc : Thread Cert.MainReferenceIdeal.nD Cert.MainReferenceIdeal.τ).loc Cert.MainReferenceIdeal.main_arg15)
          ∧ r.2.mem ((c.tc : Thread Cert.MainReferenceIdeal.nD Cert.MainReferenceIdeal.τ).loc Cert.MainReferenceIdeal.main_arg16) = m' ((c.tc : Thread Cert.MainReferenceIdeal.nD Cert.MainReferenceIdeal.τ).loc Cert.MainReferenceIdeal.main_arg16)
          ∧ r.2.mem ((c.tc : Thread Cert.MainReferenceIdeal.nD Cert.MainReferenceIdeal.τ).loc Cert.MainReferenceIdeal.main_arg17) = m' ((c.tc : Thread Cert.MainReferenceIdeal.nD Cert.MainReferenceIdeal.τ).loc Cert.MainReferenceIdeal.main_arg17))

def Claim : Prop :=
  ∃ (hDown : Cert.Down.Facts) (hDownIdeal : Cert.DownIdeal.Facts) (hDownReferenceIdeal : Cert.DownReferenceIdeal.Facts) (hDy : Cert.Dy.Facts) (hDyIdeal : Cert.DyIdeal.Facts) (hDyReferenceIdeal : Cert.DyReferenceIdeal.Facts) (hTail : Cert.Tail.Facts) (hTailIdeal : Cert.TailIdeal.Facts) (hTailReferenceIdeal : Cert.TailReferenceIdeal.Facts) (hMainIdeal : Cert.MainIdeal.Facts) (hMainReferenceIdeal : Cert.MainReferenceIdeal.Facts) (hMain : Cert.Main.Facts),
    quiescent_Down (hDown := hDown)
    ∧ quiescent_DownIdeal (hDownIdeal := hDownIdeal)
    ∧ quiescent_DownReferenceIdeal (hDownReferenceIdeal := hDownReferenceIdeal)
    ∧ quiescent_Dy (hDy := hDy)
    ∧ quiescent_DyIdeal (hDyIdeal := hDyIdeal)
    ∧ quiescent_DyReferenceIdeal (hDyReferenceIdeal := hDyReferenceIdeal)
    ∧ quiescent_Tail (hTail := hTail)
    ∧ quiescent_TailIdeal (hTailIdeal := hTailIdeal)
    ∧ quiescent_TailReferenceIdeal (hTailReferenceIdeal := hTailReferenceIdeal)
    ∧ quiescent_MainIdeal (hMainIdeal := hMainIdeal)
    ∧ quiescent_MainReferenceIdeal (hMainReferenceIdeal := hMainReferenceIdeal)
    ∧ quiescent_Main (hMain := hMain)
    ∧ preserves_Down_DownIdeal
    ∧ algebraic_DownIdeal_DownReferenceIdeal (hDownIdeal := hDownIdeal) (hDownReferenceIdeal := hDownReferenceIdeal)
    ∧ preserves_Dy_DyIdeal
    ∧ preserves_Tail_TailIdeal
    ∧ preserves_Main_MainIdeal
    ∧ algebraic_MainIdeal_MainReferenceIdeal (hMainIdeal := hMainIdeal) (hMainReferenceIdeal := hMainReferenceIdeal)
-- ==== Down.lean ====
abbrev S8192x320 : Shape := ⟨2, ![8192, 320]⟩
abbrev S8192x18944 : Shape := ⟨2, ![8192, 18944]⟩
abbrev S8192x148 : Shape := ⟨2, ![8192, 148]⟩
abbrev S5x64x18944 : Shape := ⟨3, ![5, 64, 18944]⟩
abbrev S320x8192 : Shape := ⟨2, ![320, 8192]⟩
abbrev S_ : Shape := ⟨0, ![]⟩
abbrev S8192x256 : Shape := ⟨2, ![8192, 256]⟩
abbrev S320x18944 : Shape := ⟨2, ![320, 18944]⟩
abbrev S320x1024 : Shape := ⟨2, ![320, 1024]⟩
abbrev S1024x512 : Shape := ⟨2, ![1024, 512]⟩
abbrev S1024x128 : Shape := ⟨2, ![1024, 128]⟩
abbrev S320x512 : Shape := ⟨2, ![320, 512]⟩
abbrev S1024x128x1 : Shape := ⟨3, ![1024, 128, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x320, .bf16⟩
  | .hbm, ⟨1, _⟩ => ⟨S8192x18944, .fp8e4m3⟩
  | .hbm, ⟨2, _⟩ => ⟨S8192x148, .f32⟩
  | .hbm, ⟨3, _⟩ => ⟨S5x64x18944, .f32⟩
  | .hbm, ⟨4, _⟩ => ⟨S320x8192, .bf16⟩
  | .hbm, ⟨5, _⟩ => ⟨S_, .i32⟩
  | .hbm, ⟨6, _⟩ => ⟨S_, .f32⟩
  | .hbm, ⟨7, _⟩ => ⟨S8192x256, .f32⟩
  | .hbm, ⟨8, _⟩ => ⟨S320x18944, .f32⟩
  | .hbm, ⟨9, _⟩ => ⟨S320x18944, .f32⟩
  | .local _ .vmem, ⟨0, _⟩ => ⟨S320x1024, .bf16⟩
  | .local _ .vmem, ⟨1, _⟩ => ⟨S320x1024, .bf16⟩
  | .local _ .vmem, ⟨2, _⟩ => ⟨S1024x512, .fp8e4m3⟩
  | .local _ .vmem, ⟨3, _⟩ => ⟨S1024x512, .fp8e4m3⟩
  | .local _ .vmem, ⟨4, _⟩ => ⟨S1024x128, .f32⟩
  | .local _ .vmem, ⟨5, _⟩ => ⟨S1024x128, .f32⟩
  | .local _ .vmem, ⟨6, _⟩ => ⟨S320x512, .f32⟩
  | .local _ .vmem, ⟨7, _⟩ => ⟨S320x512, .f32⟩
  | .local _ .vmem, ⟨8, _⟩ => ⟨S320x512, .f32⟩
  | .local _ .vmem, ⟨9, _⟩ => ⟨S320x512, .f32⟩
  | _, _ => ⟨S8192x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![37, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![arg1.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S320x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownReferenceIdeal.lean ====
abbrev S8192x320 : Shape := ⟨2, ![8192, 320]⟩
abbrev S8192x18944 : Shape := ⟨2, ![8192, 18944]⟩
abbrev S8192x148 : Shape := ⟨2, ![8192, 148]⟩
abbrev S5x64x18944 : Shape := ⟨3, ![5, 64, 18944]⟩
abbrev S320x18944 : Shape := ⟨2, ![320, 18944]⟩
abbrev S8192x148x128 : Shape := ⟨3, ![8192, 148, 128]⟩
abbrev S8192x148x1 : Shape := ⟨3, ![8192, 148, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x320, .bf16⟩
  | .hbm, ⟨1, _⟩ => ⟨S8192x18944, .fp8e4m3⟩
  | .hbm, ⟨2, _⟩ => ⟨S8192x148, .f32⟩
  | .hbm, ⟨3, _⟩ => ⟨S5x64x18944, .f32⟩
  | .hbm, ⟨4, _⟩ => ⟨S320x18944, .f32⟩
  | .hbm, ⟨5, _⟩ => ⟨S320x18944, .f32⟩
  | .local _ .vmem, ⟨0, _⟩ => ⟨S8192x320, .bf16⟩
  | .local _ .vmem, ⟨1, _⟩ => ⟨S8192x18944, .fp8e4m3⟩
  | .local _ .vmem, ⟨2, _⟩ => ⟨S8192x148, .f32⟩
  | .local _ .vmem, ⟨3, _⟩ => ⟨S320x18944, .f32⟩
  | .local _ .vmem, ⟨4, _⟩ => ⟨S320x18944, .f32⟩
  | _, _ => ⟨S8192x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x148 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dy.lean ====
abbrev S8192x3584 : Shape := ⟨2, ![8192, 3584]⟩
abbrev S5x64x3584 : Shape := ⟨3, ![5, 64, 3584]⟩
abbrev S5 : Shape := ⟨1, ![5]⟩
abbrev S6 : Shape := ⟨1, ![6]⟩
abbrev S8192x320 : Shape := ⟨2, ![8192, 320]⟩
abbrev S64 : Shape := ⟨1, ![64]⟩
abbrev S1x64 : Shape := ⟨2, ![1, 64]⟩
abbrev S5x1 : Shape := ⟨2, ![5, 1]⟩
abbrev S5x64 : Shape := ⟨2, ![5, 64]⟩
abbrev S320 : Shape := ⟨1, ![320]⟩
abbrev S_ : Shape := ⟨0, ![]⟩
abbrev S1x320 : Shape := ⟨2, ![1, 320]⟩
abbrev S3x320 : Shape := ⟨2, ![3, 320]⟩
abbrev S5x320 : Shape := ⟨2, ![5, 320]⟩
abbrev S8x320 : Shape := ⟨2, ![8, 320]⟩
abbrev S320x1 : Shape := ⟨2, ![320, 1]⟩
abbrev S320x3584 : Shape := ⟨2, ![320, 3584]⟩
abbrev S320x8192 : Shape := ⟨2, ![320, 8192]⟩
abbrev S8192x28 : Shape := ⟨2, ![8192, 28]⟩
abbrev S512x3584 : Shape := ⟨2, ![512, 3584]⟩
abbrev S320x512 : Shape := ⟨2, ![320, 512]⟩
abbrev S512x28 : Shape := ⟨2, ![512, 28]⟩
abbrev S512x320 : Shape := ⟨2, ![512, 320]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 46
  | .vmem => 17
  | .smem => 0
  | _ => 0

abbrev bufTy : (tb : Table) → Fin (tcTables nBuf tb) → BufTy
  | .hbm, ⟨0, _⟩ => ⟨S8192x3584, .bf16⟩
  | .hbm, ⟨1, _⟩ => ⟨S5x64x3584, .bf16⟩
  | .hbm, ⟨2, _⟩ => ⟨S5, .f32⟩
  | .hbm, ⟨3, _⟩ => ⟨S5, .i32⟩
  | .hbm, ⟨4, _⟩ => ⟨S6, .i32⟩
  | .hbm, ⟨5, _⟩ => ⟨S8192x320, .bf16⟩
  | .hbm, ⟨6, _⟩ => ⟨S5x64x3584, .f32⟩
  | .hbm, ⟨7, _⟩ => ⟨S64, .i32⟩
  | .hbm, ⟨8, _⟩ => ⟨S1x64, .i32⟩
  | .hbm, ⟨9, _⟩ => ⟨S5x1, .i32⟩
  | .hbm, ⟨10, _⟩ => ⟨S5x64, .i32⟩
  | .hbm, ⟨11, _⟩ => ⟨S5x64, .i32⟩
  | .hbm, ⟨12, _⟩ => ⟨S5x64, .i1⟩
  | .hbm, ⟨13, _⟩ => ⟨S5, .i32⟩
  | .hbm, ⟨14, _⟩ => ⟨S5x64, .i32⟩
  | .hbm, ⟨15, _⟩ => ⟨S320, .i32⟩
  | .hbm, ⟨16, _⟩ => ⟨S320, .f32⟩
  | .hbm, ⟨17, _⟩ => ⟨S5, .i32⟩
  | .hbm, ⟨18, _⟩ => ⟨S5x64, .i32⟩
  | .hbm, ⟨19, _⟩ => ⟨S320, .i32⟩
  | .hbm, ⟨20, _⟩ => ⟨S320, .f32⟩
  | .hbm, ⟨21, _⟩ => ⟨S5x1, .f32⟩
  | .hbm, ⟨22, _⟩ => ⟨S_, .f32⟩
  | .hbm, ⟨23, _⟩ => ⟨S_, .f32⟩
  | .hbm, ⟨24, _⟩ => ⟨S5x64, .f32⟩
  | .hbm, ⟨25, _⟩ => ⟨S5x64, .f32⟩
  | .hbm, ⟨26, _⟩ => ⟨S5x64, .f32⟩
  | .hbm, ⟨27, _⟩ => ⟨S320, .f32⟩
  | .hbm, ⟨28, _⟩ => ⟨S1x320, .f32⟩
  | .hbm, ⟨29, _⟩ => ⟨S1x320, .f32⟩
  | .hbm, ⟨30, _⟩ => ⟨S1x320, .f32⟩
  | .hbm, ⟨31, _⟩ => ⟨S3x320, .f32⟩
  | .hbm, ⟨32, _⟩ => ⟨S_, .f32⟩
  | .hbm, ⟨33, _⟩ => ⟨S5x320, .f32⟩
  | .hbm, ⟨34, _⟩ => ⟨S8x320, .f32⟩
  | .hbm, ⟨35, _⟩ => ⟨S5x64, .f32⟩
  | .hbm, ⟨36, _⟩ => ⟨S320, .f32⟩
  | .hbm, ⟨37, _⟩ => ⟨S320x1, .f32⟩
  | .hbm, ⟨38, _⟩ => ⟨S320x3584, .bf16⟩
  | .hbm, ⟨39, _⟩ => ⟨S320x8192, .bf16⟩
  | .hbm, ⟨40, _⟩ => ⟨S320x3584, .f32⟩
  | .hbm, ⟨41, _⟩ => ⟨S8192x3584, .fp8e4m3⟩
  | .hbm, ⟨42, _⟩ => ⟨S8192x28, .f32⟩
  | .hbm, ⟨43, _⟩ => ⟨S8192x3584, .bf16⟩
  | .hbm, ⟨44, _⟩ => ⟨S8192x320, .bf16⟩
  | .hbm, ⟨45, _⟩ => ⟨S320x3584, .f32⟩
  | .local _ .vmem, ⟨0, _⟩ => ⟨S8x320, .f32⟩
  | .local _ .vmem, ⟨1, _⟩ => ⟨S320x1, .f32⟩
  | .local _ .vmem, ⟨2, _⟩ => ⟨S512x3584, .bf16⟩
  | .local _ .vmem, ⟨3, _⟩ => ⟨S512x3584, .bf16⟩
  | .local _ .vmem, ⟨4, _⟩ => ⟨S320x3584, .bf16⟩
  | .local _ .vmem, ⟨5, _⟩ => ⟨S320x512, .bf16⟩
  | .local _ .vmem, ⟨6, _⟩ => ⟨S320x512, .bf16⟩
  | .local _ .vmem, ⟨7, _⟩ => ⟨S320x3584, .f32⟩
  | .local _ .vmem, ⟨8, _⟩ => ⟨S512x3584, .fp8e4m3⟩
  | .local _ .vmem, ⟨9, _⟩ => ⟨S512x3584, .fp8e4m3⟩
  | .local _ .vmem, ⟨10, _⟩ => ⟨S512x28, .f32⟩
  | .local _ .vmem, ⟨11, _⟩ => ⟨S512x28, .f32⟩
  | .local _ .vmem, ⟨12, _⟩ => ⟨S512x3584, .bf16⟩
  | .local _ .vmem, ⟨13, _⟩ => ⟨S512x3584, .bf16⟩
  | .local _ .vmem, ⟨14, _⟩ => ⟨S512x320, .bf16⟩
  | .local _ .vmem, ⟨15, _⟩ => ⟨S512x320, .bf16⟩
  | .local _ .vmem, ⟨16, _⟩ => ⟨S320x3584, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S320x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x320 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S320x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DyReferenceIdeal.lean ====
abbrev S8192x3584 : Shape := ⟨2, ![8192, 3584]⟩
abbrev S5x64x3584 : Shape := ⟨3, ![5, 64, 3584]⟩
abbrev S5 : Shape := ⟨1, ![5]⟩
abbrev S6 : Shape := ⟨1, ![6]⟩
abbrev S8192x320 : Shape := ⟨2, ![8192, 320]⟩
abbrev S8192 : Shape := ⟨1, ![8192]⟩
abbrev S1x5 : Shape := ⟨2, ![1, 5]⟩
abbrev S8192x1 : Shape := ⟨2, ![8192, 1]⟩
abbrev S8192x5 : Shape := ⟨2, ![8192, 5]⟩
abbrev S64 : Shape := ⟨1, ![64]⟩
abbrev S1x64 : Shape := ⟨2, ![1, 64]⟩
abbrev S5x1 : Shape := ⟨2, ![5, 1]⟩
abbrev S5x64 : Shape := ⟨2, ![5, 64]⟩
abbrev S8192x5x1 : Shape := ⟨3, ![8192, 5, 1]⟩
abbrev S1x5x64 : Shape := ⟨3, ![1, 5, 64]⟩
abbrev S8192x5x64 : Shape := ⟨3, ![8192, 5, 64]⟩
abbrev S_ : Shape := ⟨0, ![]⟩
abbrev S320 : Shape := ⟨1, ![320]⟩
abbrev S320x1 : Shape := ⟨2, ![320, 1]⟩
abbrev S320x3584 : Shape := ⟨2, ![320, 3584]⟩
abbrev S8192x28 : Shape := ⟨2, ![8192, 28]⟩
abbrev S8192x28x128 : Shape := ⟨3, ![8192, 28, 128]⟩
abbrev S1x1x252 : Shape := ⟨3, ![1, 1, 252]⟩
abbrev S8192x28x1 : Shape := ⟨3, ![8192, 28, 1]⟩
abbrev S8192x28x252 : Shape := ⟨3, ![8192, 28, 252]⟩

abbrev nBuf : Space → Nat
  | .hbm => 55
  | .vmem => 11
  | .smem => 0
  | _ => 0

abbrev bufTy : (tb : Table) → Fin (tcTables nBuf tb) → BufTy
  | .hbm, ⟨0, _⟩ => ⟨S8192x3584, .bf16⟩
  | .hbm, ⟨1, _⟩ => ⟨S5x64x3584, .bf16⟩
  | .hbm, ⟨2, _⟩ => ⟨S5, .f32⟩
  | .hbm, ⟨3, _⟩ => ⟨S5, .i32⟩
  | .hbm, ⟨4, _⟩ => ⟨S6, .i32⟩
  | .hbm, ⟨5, _⟩ => ⟨S8192x320, .bf16⟩
  | .hbm, ⟨6, _⟩ => ⟨S5x64x3584, .f32⟩
  | .hbm, ⟨7, _⟩ => ⟨S8192, .i32⟩
  | .hbm, ⟨8, _⟩ => ⟨S5, .i32⟩
  | .hbm, ⟨9, _⟩ => ⟨S1x5, .i32⟩
  | .hbm, ⟨10, _⟩ => ⟨S8192x1, .i32⟩
  | .hbm, ⟨11, _⟩ => ⟨S8192x5, .i32⟩
  | .hbm, ⟨12, _⟩ => ⟨S8192x5, .i32⟩
  | .hbm, ⟨13, _⟩ => ⟨S8192x5, .i1⟩
  | .hbm, ⟨14, _⟩ => ⟨S8192x1, .i32⟩
  | .hbm, ⟨15, _⟩ => ⟨S5, .i32⟩
  | .hbm, ⟨16, _⟩ => ⟨S1x5, .i32⟩
  | .hbm, ⟨17, _⟩ => ⟨S8192x5, .i32⟩
  | .hbm, ⟨18, _⟩ => ⟨S8192x5, .i32⟩
  | .hbm, ⟨19, _⟩ => ⟨S8192x5, .i1⟩
  | .hbm, ⟨20, _⟩ => ⟨S8192x5, .i1⟩
  | .hbm, ⟨21, _⟩ => ⟨S64, .i32⟩
  | .hbm, ⟨22, _⟩ => ⟨S1x64, .i32⟩
  | .hbm, ⟨23, _⟩ => ⟨S5x1, .i32⟩
  | .hbm, ⟨24, _⟩ => ⟨S5x64, .i32⟩
  | .hbm, ⟨25, _⟩ => ⟨S5x64, .i32⟩
  | .hbm, ⟨26, _⟩ => ⟨S5x64, .i1⟩
  | .hbm, ⟨27, _⟩ => ⟨S8192x5x1, .i1⟩
  | .hbm, ⟨28, _⟩ => ⟨S1x5x64, .i1⟩
  | .hbm, ⟨29, _⟩ => ⟨S8192x5x64, .i1⟩
  | .hbm, ⟨30, _⟩ => ⟨S8192x5x64, .i1⟩
  | .hbm, ⟨31, _⟩ => ⟨S8192x5x64, .i1⟩
  | .hbm, ⟨32, _⟩ => ⟨S8192x5x64, .f32⟩
  | .hbm, ⟨33, _⟩ => ⟨S8192x320, .f32⟩
  | .hbm, ⟨34, _⟩ => ⟨S1x5, .f32⟩
  | .hbm, ⟨35, _⟩ => ⟨S_, .f32⟩
  | .hbm, ⟨36, _⟩ => ⟨S_, .f32⟩
  | .hbm, ⟨37, _⟩ => ⟨S8192x5, .f32⟩
  | .hbm, ⟨38, _⟩ => ⟨S8192x5, .f32⟩
  | .hbm, ⟨39, _⟩ => ⟨S8192x5, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S5x64, .f32⟩
  | .hbm, ⟨44, _⟩ => ⟨S320, .f32⟩
  | .hbm, ⟨45, _⟩ => ⟨S320x1, .f32⟩
  | .hbm, ⟨46, _⟩ => ⟨S320x3584, .bf16⟩
  | .hbm, ⟨47, _⟩ => ⟨S8192x320, .f32⟩
  | .hbm, ⟨48, _⟩ => ⟨S8192x320, .f32⟩
  | .hbm, ⟨49, _⟩ => ⟨S320x3584, .f32⟩
  | .hbm, ⟨50, _⟩ => ⟨S8192x3584, .fp8e4m3⟩
  | .hbm, ⟨51, _⟩ => ⟨S8192x28, .f32⟩
  | .hbm, ⟨52, _⟩ => ⟨S8192x3584, .bf16⟩
  | .hbm, ⟨53, _⟩ => ⟨S8192x320, .bf16⟩
  | .hbm, ⟨54, _⟩ => ⟨S320x3584, .f32⟩
  | .local _ .vmem, ⟨0, _⟩ => ⟨S8192x3584, .bf16⟩
  | .local _ .vmem, ⟨1, _⟩ => ⟨S320x3584, .bf16⟩
  | .local _ .vmem, ⟨2, _⟩ => ⟨S8192x320, .f32⟩
  | .local _ .vmem, ⟨3, _⟩ => ⟨S320x1, .f32⟩
  | .local _ .vmem, ⟨4, _⟩ => ⟨S8192x320, .bf16⟩
  | .local _ .vmem, ⟨5, _⟩ => ⟨S320x3584, .f32⟩
  | .local _ .vmem, ⟨6, _⟩ => ⟨S8192x3584, .fp8e4m3⟩
  | .local _ .vmem, ⟨7, _⟩ => ⟨S8192x28, .f32⟩
  | .local _ .vmem, ⟨8, _⟩ => ⟨S8192x3584, .bf16⟩
  | .local _ .vmem, ⟨9, _⟩ => ⟨S8192x320, .bf16⟩
  | .local _ .vmem, ⟨10, _⟩ => ⟨S320x3584, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x320 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Tail.lean ====
abbrev S8192x3584 : Shape := ⟨2, ![8192, 3584]⟩
abbrev S3584 : Shape := ⟨1, ![3584]⟩
abbrev S8192x320 : Shape := ⟨2, ![8192, 320]⟩
abbrev S5x64x3584 : Shape := ⟨3, ![5, 64, 3584]⟩
abbrev S8192x28 : Shape := ⟨2, ![8192, 28]⟩
abbrev S1x3584 : Shape := ⟨2, ![1, 3584]⟩
abbrev S320x3584 : Shape := ⟨2, ![320, 3584]⟩
abbrev S8192x1 : Shape := ⟨2, ![8192, 1]⟩
abbrev S256x3584 : Shape := ⟨2, ![256, 3584]⟩
abbrev S256x320 : Shape := ⟨2, ![256, 320]⟩
abbrev S256x28 : Shape := ⟨2, ![256, 28]⟩
abbrev S256x1 : Shape := ⟨2, ![256, 1]⟩
abbrev S256x128 : Shape := ⟨2, ![256, 128]⟩
abbrev S16x3584 : Shape := ⟨2, ![16, 3584]⟩
abbrev S16 : Shape := ⟨1, ![16]⟩
abbrev S16x1 : Shape := ⟨2, ![16, 1]⟩

abbrev nBuf : Space → Nat
  | .hbm => 21
  | .vmem => 26
  | .smem => 0
  | _ => 0

abbrev bufTy : (tb : Table) → Fin (tcTables nBuf tb) → BufTy
  | .hbm, ⟨0, _⟩ => ⟨S8192x3584, .f32⟩
  | .hbm, ⟨1, _⟩ => ⟨S8192x3584, .bf16⟩
  | .hbm, ⟨2, _⟩ => ⟨S8192x3584, .bf16⟩
  | .hbm, ⟨3, _⟩ => ⟨S3584, .f32⟩
  | .hbm, ⟨4, _⟩ => ⟨S8192x320, .bf16⟩
  | .hbm, ⟨5, _⟩ => ⟨S8192x320, .bf16⟩
  | .hbm, ⟨6, _⟩ => ⟨S5x64x3584, .bf16⟩
  | .hbm, ⟨7, _⟩ => ⟨S5x64x3584, .bf16⟩
  | .hbm, ⟨8, _⟩ => ⟨S8192x3584, .fp8e4m3⟩
  | .hbm, ⟨9, _⟩ => ⟨S8192x28, .f32⟩
  | .hbm, ⟨10, _⟩ => ⟨S5x64x3584, .f32⟩
  | .hbm, ⟨11, _⟩ => ⟨S5x64x3584, .f32⟩
  | .hbm, ⟨12, _⟩ => ⟨S1x3584, .f32⟩
  | .hbm, ⟨13, _⟩ => ⟨S320x3584, .bf16⟩
  | .hbm, ⟨14, _⟩ => ⟨S320x3584, .bf16⟩
  | .hbm, ⟨15, _⟩ => ⟨S320x3584, .f32⟩
  | .hbm, ⟨16, _⟩ => ⟨S320x3584, .f32⟩
  | .hbm, ⟨17, _⟩ => ⟨S8192x3584, .bf16⟩
  | .hbm, ⟨18, _⟩ => ⟨S8192x1, .f32⟩
  | .hbm, ⟨19, _⟩ => ⟨S320x3584, .f32⟩
  | .hbm, ⟨20, _⟩ => ⟨S320x3584, .f32⟩
  | .local _ .vmem, ⟨0, _⟩ => ⟨S256x3584, .f32⟩
  | .local _ .vmem, ⟨1, _⟩ => ⟨S256x3584, .f32⟩
  | .local _ .vmem, ⟨2, _⟩ => ⟨S256x3584, .bf16⟩
  | .local _ .vmem, ⟨3, _⟩ => ⟨S256x3584, .bf16⟩
  | .local _ .vmem, ⟨4, _⟩ => ⟨S256x3584, .bf16⟩
  | .local _ .vmem, ⟨5, _⟩ => ⟨S256x3584, .bf16⟩
  | .local _ .vmem, ⟨6, _⟩ => ⟨S1x3584, .f32⟩
  | .local _ .vmem, ⟨7, _⟩ => ⟨S256x320, .bf16⟩
  | .local _ .vmem, ⟨8, _⟩ => ⟨S256x320, .bf16⟩
  | .local _ .vmem, ⟨9, _⟩ => ⟨S256x320, .bf16⟩
  | .local _ .vmem, ⟨10, _⟩ => ⟨S256x320, .bf16⟩
  | .local _ .vmem, ⟨11, _⟩ => ⟨S320x3584, .bf16⟩
  | .local _ .vmem, ⟨12, _⟩ => ⟨S320x3584, .bf16⟩
  | .local _ .vmem, ⟨13, _⟩ => ⟨S256x3584, .fp8e4m3⟩
  | .local _ .vmem, ⟨14, _⟩ => ⟨S256x3584, .fp8e4m3⟩
  | .local _ .vmem, ⟨15, _⟩ => ⟨S256x28, .f32⟩
  | .local _ .vmem, ⟨16, _⟩ => ⟨S256x28, .f32⟩
  | .local _ .vmem, ⟨17, _⟩ => ⟨S320x3584, .f32⟩
  | .local _ .vmem, ⟨18, _⟩ => ⟨S320x3584, .f32⟩
  | .local _ .vmem, ⟨19, _⟩ => ⟨S256x3584, .bf16⟩
  | .local _ .vmem, ⟨20, _⟩ => ⟨S256x3584, .bf16⟩
  | .local _ .vmem, ⟨21, _⟩ => ⟨S256x1, .f32⟩
  | .local _ .vmem, ⟨22, _⟩ => ⟨S256x1, .f32⟩
  | .local _ .vmem, ⟨23, _⟩ => ⟨S320x3584, .f32⟩
  | .local _ .vmem, ⟨24, _⟩ => ⟨S320x3584, .f32⟩
  | .local _ .vmem, ⟨25, _⟩ => ⟨S256x3584, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_85 : BitVec 32 := 0#32
  let c16_i32 : BitVec 32 := 16#32
  let v198 : BitVec 32 := Scalar.addi c0_i32_85 c16_i32
  let c1_i32 : BitVec 32 := 1#32
  ⟨c0_i32_85, v198, c1_i32⟩
def k0_mult1 (k0_t1 : Fin k0_t1_loop.trips) : BitVec 32 :=
  let c0_i32_85 : BitVec 32 := 0#32
  let c1_i32 : BitVec 32 := 1#32
  let arg18 : BitVec 32 := Scf.iv c0_i32_85 c1_i32 k0_t1
  let c16_i32_87 : BitVec 32 := 16#32
  let v199 : BitVec 32 := Scalar.muli arg18 c16_i32_87
  v199
def k0_off1 (k0_t1 : Fin k0_t1_loop.trips) : Fin 2 → Nat :=
  let c0_i32_85 : BitVec 32 := 0#32
  let c1_i32 : BitVec 32 := 1#32
  let arg18 : BitVec 32 := Scf.iv c0_i32_85 c1_i32 k0_t1
  let c16_i32_87 : BitVec 32 := 16#32
  let v199 : BitVec 32 := Scalar.muli arg18 c16_i32_87
  let v200 : BitVec 32 := v199
  let v201 : Index := Scalar.indexCast v200
  let c0_88 : Index := 0#32
  ![v201.toNat, 0]
def k0_off2 (k0_t1 : Fin k0_t1_loop.trips) : Fin 2 → Nat :=
  let c0_i32_85 : BitVec 32 := 0#32
  let c1_i32 : BitVec 32 := 1#32
  let arg18 : BitVec 32 := Scf.iv c0_i32_85 c1_i32 k0_t1
  let c16_i32_87 : BitVec 32 := 16#32
  let v199 : BitVec 32 := Scalar.muli arg18 c16_i32_87
  let v200 : BitVec 32 := v199
  let v227 : Index := Scalar.indexCast v200
  let c0_98 : Index := 0#32
  ![v227.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x320 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S320x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S320x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x28 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S320x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S320x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S320x3584 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S320x3584 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== TailReferenceIdeal.lean ====
abbrev S8192x3584 : Shape := ⟨2, ![8192, 3584]⟩
abbrev S3584 : Shape := ⟨1, ![3584]⟩
abbrev S8192x320 : Shape := ⟨2, ![8192, 320]⟩
abbrev S5x64x3584 : Shape := ⟨3, ![5, 64, 3584]⟩
abbrev S8192x28 : Shape := ⟨2, ![8192, 28]⟩
abbrev S1x3584 : Shape := ⟨2, ![1, 3584]⟩
abbrev S320x3584 : Shape := ⟨2, ![320, 3584]⟩
abbrev S8192x1 : Shape := ⟨2, ![8192, 1]⟩
abbrev S8192 : Shape := ⟨1, ![8192]⟩
abbrev S8192x28x128 : Shape := ⟨3, ![8192, 28, 128]⟩
abbrev S8192x28x1 : Shape := ⟨3, ![8192, 28, 1]⟩

abbrev nBuf : Space → Nat
  | .hbm => 21
  | .vmem => 16
  | .smem => 0
  | _ => 0

abbrev bufTy : (tb : Table) → Fin (tcTables nBuf tb) → BufTy
  | .hbm, ⟨0, _⟩ => ⟨S8192x3584, .f32⟩
  | .hbm, ⟨1, _⟩ => ⟨S8192x3584, .bf16⟩
  | .hbm, ⟨2, _⟩ => ⟨S8192x3584, .bf16⟩
  | .hbm, ⟨3, _⟩ => ⟨S3584, .f32⟩
  | .hbm, ⟨4, _⟩ => ⟨S8192x320, .bf16⟩
  | .hbm, ⟨5, _⟩ => ⟨S8192x320, .bf16⟩
  | .hbm, ⟨6, _⟩ => ⟨S5x64x3584, .bf16⟩
  | .hbm, ⟨7, _⟩ => ⟨S5x64x3584, .bf16⟩
  | .hbm, ⟨8, _⟩ => ⟨S8192x3584, .fp8e4m3⟩
  | .hbm, ⟨9, _⟩ => ⟨S8192x28, .f32⟩
  | .hbm, ⟨10, _⟩ => ⟨S5x64x3584, .f32⟩
  | .hbm, ⟨11, _⟩ => ⟨S5x64x3584, .f32⟩
  | .hbm, ⟨12, _⟩ => ⟨S1x3584, .f32⟩
  | .hbm, ⟨13, _⟩ => ⟨S320x3584, .bf16⟩
  | .hbm, ⟨14, _⟩ => ⟨S320x3584, .bf16⟩
  | .hbm, ⟨15, _⟩ => ⟨S320x3584, .f32⟩
  | .hbm, ⟨16, _⟩ => ⟨S320x3584, .f32⟩
  | .hbm, ⟨17, _⟩ => ⟨S8192x3584, .bf16⟩
  | .hbm, ⟨18, _⟩ => ⟨S8192x1, .f32⟩
  | .hbm, ⟨19, _⟩ => ⟨S320x3584, .f32⟩
  | .hbm, ⟨20, _⟩ => ⟨S320x3584, .f32⟩
  | .local _ .vmem, ⟨0, _⟩ => ⟨S8192x3584, .f32⟩
  | .local _ .vmem, ⟨1, _⟩ => ⟨S8192x3584, .bf16⟩
  | .local _ .vmem, ⟨2, _⟩ => ⟨S8192x3584, .bf16⟩
  | .local _ .vmem, ⟨3, _⟩ => ⟨S1x3584, .f32⟩
  | .local _ .vmem, ⟨4, _⟩ => ⟨S8192x320, .bf16⟩
  | .local _ .vmem, ⟨5, _⟩ => ⟨S8192x320, .bf16⟩
  | .local _ .vmem, ⟨6, _⟩ => ⟨S320x3584, .bf16⟩
  | .local _ .vmem, ⟨7, _⟩ => ⟨S320x3584, .bf16⟩
  | .local _ .vmem, ⟨8, _⟩ => ⟨S8192x3584, .fp8e4m3⟩
  | .local _ .vmem, ⟨9, _⟩ => ⟨S8192x28, .f32⟩
  | .local _ .vmem, ⟨10, _⟩ => ⟨S320x3584, .f32⟩
  | .local _ .vmem, ⟨11, _⟩ => ⟨S320x3584, .f32⟩
  | .local _ .vmem, ⟨12, _⟩ => ⟨S8192x3584, .bf16⟩
  | .local _ .vmem, ⟨13, _⟩ => ⟨S8192x1, .f32⟩
  | .local _ .vmem, ⟨14, _⟩ => ⟨S320x3584, .f32⟩
  | .local _ .vmem, ⟨15, _⟩ => ⟨S320x3584, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8192x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x320 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S320x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S320x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x28 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S320x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S320x3584 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S320x3584 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== MainReferenceIdeal.lean ====
abbrev S8192x3584 : Shape := ⟨2, ![8192, 3584]⟩
abbrev S8192x320 : Shape := ⟨2, ![8192, 320]⟩
abbrev S18944x3584 : Shape := ⟨2, ![18944, 3584]⟩
abbrev S148x28 : Shape := ⟨2, ![148, 28]⟩
abbrev S3584x18944 : Shape := ⟨2, ![3584, 18944]⟩
abbrev S28x148 : Shape := ⟨2, ![28, 148]⟩
abbrev S5x64x18944 : Shape := ⟨3, ![5, 64, 18944]⟩
abbrev S5 : Shape := ⟨1, ![5]⟩
abbrev S6 : Shape := ⟨1, ![6]⟩
abbrev S8192x18944 : Shape := ⟨2, ![8192, 18944]⟩
abbrev S148x1x28x1 : Shape := ⟨4, ![148, 1, 28, 1]⟩
abbrev S148x128x28x128 : Shape := ⟨4, ![148, 128, 28, 128]⟩
abbrev S28x1x148x1 : Shape := ⟨4, ![28, 1, 148, 1]⟩
abbrev S28x128x148x128 : Shape := ⟨4, ![28, 128, 148, 128]⟩
abbrev S320x18944 : Shape := ⟨2, ![320, 18944]⟩
abbrev S8192x148 : Shape := ⟨2, ![8192, 148]⟩
abbrev S8192x148x128 : Shape := ⟨3, ![8192, 148, 128]⟩
abbrev S1x1x252 : Shape := ⟨3, ![1, 1, 252]⟩
abbrev S8192x148x1 : Shape := ⟨3, ![8192, 148, 1]⟩
abbrev S8192x148x252 : Shape := ⟨3, ![8192, 148, 252]⟩

abbrev nBuf : Space → Nat
  | .hbm => 36
  | .vmem => 16
  | .smem => 0
  | _ => 0

abbrev bufTy : (tb : Table) → Fin (tcTables nBuf tb) → BufTy
  | .hbm, ⟨0, _⟩ => ⟨S8192x3584, .bf16⟩
  | .hbm, ⟨1, _⟩ => ⟨S8192x320, .bf16⟩
  | .hbm, ⟨2, _⟩ => ⟨S18944x3584, .fp8e4m3⟩
  | .hbm, ⟨3, _⟩ => ⟨S148x28, .f32⟩
  | .hbm, ⟨4, _⟩ => ⟨S18944x3584, .fp8e4m3⟩
  | .hbm, ⟨5, _⟩ => ⟨S148x28, .f32⟩
  | .hbm, ⟨6, _⟩ => ⟨S3584x18944, .fp8e4m3⟩
  | .hbm, ⟨7, _⟩ => ⟨S28x148, .f32⟩
  | .hbm, ⟨8, _⟩ => ⟨S5x64x18944, .bf16⟩
  | .hbm, ⟨9, _⟩ => ⟨S5x64x18944, .bf16⟩
  | .hbm, ⟨10, _⟩ => ⟨S5x64x18944, .bf16⟩
  | .hbm, ⟨11, _⟩ => ⟨S5, .f32⟩
  | .hbm, ⟨12, _⟩ => ⟨S5, .i32⟩
  | .hbm, ⟨13, _⟩ => ⟨S6, .i32⟩
  | .hbm, ⟨14, _⟩ => ⟨S8192x320, .bf16⟩
  | .hbm, ⟨15, _⟩ => ⟨S8192x320, .bf16⟩
  | .hbm, ⟨16, _⟩ => ⟨S8192x18944, .bf16⟩
  | .hbm, ⟨17, _⟩ => ⟨S8192x18944, .bf16⟩
  | .hbm, ⟨18, _⟩ => ⟨S148x28, .bf16⟩
  | .hbm, ⟨19, _⟩ => ⟨S148x1x28x1, .bf16⟩
  | .hbm, ⟨20, _⟩ => ⟨S148x128x28x128, .bf16⟩
  | .hbm, ⟨21, _⟩ => ⟨S18944x3584, .bf16⟩
  | .hbm, ⟨22, _⟩ => ⟨S148x28, .bf16⟩
  | .hbm, ⟨23, _⟩ => ⟨S148x1x28x1, .bf16⟩
  | .hbm, ⟨24, _⟩ => ⟨S148x128x28x128, .bf16⟩
  | .hbm, ⟨25, _⟩ => ⟨S18944x3584, .bf16⟩
  | .hbm, ⟨26, _⟩ => ⟨S28x148, .bf16⟩
  | .hbm, ⟨27, _⟩ => ⟨S28x1x148x1, .bf16⟩
  | .hbm, ⟨28, _⟩ => ⟨S28x128x148x128, .bf16⟩
  | .hbm, ⟨29, _⟩ => ⟨S3584x18944, .bf16⟩
  | .hbm, ⟨30, _⟩ => ⟨S320x18944, .bf16⟩
  | .hbm, ⟨31, _⟩ => ⟨S8192x3584, .f32⟩
  | .hbm, ⟨32, _⟩ => ⟨S8192x18944, .fp8e4m3⟩
  | .hbm, ⟨33, _⟩ => ⟨S8192x148, .f32⟩
  | .hbm, ⟨34, _⟩ => ⟨S8192x18944, .fp8e4m3⟩
  | .hbm, ⟨35, _⟩ => ⟨S8192x148, .f32⟩
  | .local _ .vmem, ⟨0, _⟩ => ⟨S8192x3584, .bf16⟩
  | .local _ .vmem, ⟨1, _⟩ => ⟨S8192x320, .bf16⟩
  | .local _ .vmem, ⟨2, _⟩ => ⟨S18944x3584, .fp8e4m3⟩
  | .local _ .vmem, ⟨3, _⟩ => ⟨S18944x3584, .bf16⟩
  | .local _ .vmem, ⟨4, _⟩ => ⟨S18944x3584, .fp8e4m3⟩
  | .local _ .vmem, ⟨5, _⟩ => ⟨S18944x3584, .bf16⟩
  | .local _ .vmem, ⟨6, _⟩ => ⟨S3584x18944, .fp8e4m3⟩
  | .local _ .vmem, ⟨7, _⟩ => ⟨S3584x18944, .bf16⟩
  | .local _ .vmem, ⟨8, _⟩ => ⟨S320x18944, .bf16⟩
  | .local _ .vmem, ⟨9, _⟩ => ⟨S8192x18944, .bf16⟩
  | .local _ .vmem, ⟨10, _⟩ => ⟨S8192x18944, .bf16⟩
  | .local _ .vmem, ⟨11, _⟩ => ⟨S8192x3584, .f32⟩
  | .local _ .vmem, ⟨12, _⟩ => ⟨S8192x18944, .fp8e4m3⟩
  | .local _ .vmem, ⟨13, _⟩ => ⟨S8192x148, .f32⟩
  | .local _ .vmem, ⟨14, _⟩ => ⟨S8192x18944, .fp8e4m3⟩
  | .local _ .vmem, ⟨15, _⟩ => ⟨S8192x148, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18944x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x18944 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S320x18944 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x18944 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x18944 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x18944 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x148 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x18944 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x148 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Main.lean ====
abbrev S8192x3584 : Shape := ⟨2, ![8192, 3584]⟩
abbrev S8192x320 : Shape := ⟨2, ![8192, 320]⟩
abbrev S18944x3584 : Shape := ⟨2, ![18944, 3584]⟩
abbrev S148x28 : Shape := ⟨2, ![148, 28]⟩
abbrev S3584x18944 : Shape := ⟨2, ![3584, 18944]⟩
abbrev S28x148 : Shape := ⟨2, ![28, 148]⟩
abbrev S5x64x18944 : Shape := ⟨3, ![5, 64, 18944]⟩
abbrev S5 : Shape := ⟨1, ![5]⟩
abbrev S6 : Shape := ⟨1, ![6]⟩
abbrev S8192x18944 : Shape := ⟨2, ![8192, 18944]⟩
abbrev S64 : Shape := ⟨1, ![64]⟩
abbrev S1x64 : Shape := ⟨2, ![1, 64]⟩
abbrev S5x1 : Shape := ⟨2, ![5, 1]⟩
abbrev S5x64 : Shape := ⟨2, ![5, 64]⟩
abbrev S320 : Shape := ⟨1, ![320]⟩
abbrev S_ : Shape := ⟨0, ![]⟩
abbrev S1x320 : Shape := ⟨2, ![1, 320]⟩
abbrev S3x320 : Shape := ⟨2, ![3, 320]⟩
abbrev S5x320 : Shape := ⟨2, ![5, 320]⟩
abbrev S8x320 : Shape := ⟨2, ![8, 320]⟩
abbrev S320x1 : Shape := ⟨2, ![320, 1]⟩
abbrev S28x148x128 : Shape := ⟨3, ![28, 148, 128]⟩
abbrev S28x18944 : Shape := ⟨2, ![28, 18944]⟩
abbrev S148x28x128 : Shape := ⟨3, ![148, 28, 128]⟩
abbrev S148x3584 : Shape := ⟨2, ![148, 3584]⟩
abbrev S37x4x3584 : Shape := ⟨3, ![37, 4, 3584]⟩
abbrev S320x18944 : Shape := ⟨2, ![320, 18944]⟩
abbrev S320x8192 : Shape := ⟨2, ![320, 8192]⟩
abbrev S8192x148 : Shape := ⟨2, ![8192, 148]⟩
abbrev S5120x18944 : Shape := ⟨2, ![5120, 18944]⟩
abbrev S512x3584 : Shape := ⟨2, ![512, 3584]⟩
abbrev S512x320 : Shape := ⟨2, ![512, 320]⟩
abbrev S3584x512 : Shape := ⟨2, ![3584, 512]⟩
abbrev S28x512 : Shape := ⟨2, ![28, 512]⟩
abbrev S1x4x3584 : Shape := ⟨3, ![1, 4, 3584]⟩
abbrev S512x512 : Shape := ⟨2, ![512, 512]⟩
abbrev S320x512 : Shape := ⟨2, ![320, 512]⟩
abbrev S512x148 : Shape := ⟨2, ![512, 148]⟩
abbrev S3584x256 : Shape := ⟨2, ![3584, 256]⟩
abbrev S2x512x256 : Shape := ⟨3, ![2, 512, 256]⟩
abbrev S128x256 : Shape := ⟨2, ![128, 256]⟩
abbrev S1x256 : Shape := ⟨2, ![1, 256]⟩
abbrev S512x256 : Shape := ⟨2, ![512, 256]⟩
abbrev S320x256 : Shape := ⟨2, ![320, 256]⟩
abbrev S1x512x256 : Shape := ⟨3, ![1, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x1x512 : Shape := ⟨3, ![1, 1, 512]⟩
abbrev S1x512 : Shape := ⟨2, ![1, 512]⟩
abbrev S256x512 : Shape := ⟨2, ![256, 512]⟩

abbrev nBuf : Space → Nat
  | .hbm => 71
  | .vmem => 58
  | .smem => 0
  | _ => 0

abbrev bufTy : (tb : Table) → Fin (tcTables nBuf tb) → BufTy
  | .hbm, ⟨0, _⟩ => ⟨S8192x3584, .bf16⟩
  | .hbm, ⟨1, _⟩ => ⟨S8192x320, .bf16⟩
  | .hbm, ⟨2, _⟩ => ⟨S18944x3584, .fp8e4m3⟩
  | .hbm, ⟨3, _⟩ => ⟨S148x28, .f32⟩
  | .hbm, ⟨4, _⟩ => ⟨S18944x3584, .fp8e4m3⟩
  | .hbm, ⟨5, _⟩ => ⟨S148x28, .f32⟩
  | .hbm, ⟨6, _⟩ => ⟨S3584x18944, .fp8e4m3⟩
  | .hbm, ⟨7, _⟩ => ⟨S28x148, .f32⟩
  | .hbm, ⟨8, _⟩ => ⟨S5x64x18944, .bf16⟩
  | .hbm, ⟨9, _⟩ => ⟨S5x64x18944, .bf16⟩
  | .hbm, ⟨10, _⟩ => ⟨S5x64x18944, .bf16⟩
  | .hbm, ⟨11, _⟩ => ⟨S5, .f32⟩
  | .hbm, ⟨12, _⟩ => ⟨S5, .i32⟩
  | .hbm, ⟨13, _⟩ => ⟨S6, .i32⟩
  | .hbm, ⟨14, _⟩ => ⟨S8192x320, .bf16⟩
  | .hbm, ⟨15, _⟩ => ⟨S8192x320, .bf16⟩
  | .hbm, ⟨16, _⟩ => ⟨S8192x18944, .bf16⟩
  | .hbm, ⟨17, _⟩ => ⟨S8192x18944, .bf16⟩
  | .hbm, ⟨18, _⟩ => ⟨S64, .i32⟩
  | .hbm, ⟨19, _⟩ => ⟨S1x64, .i32⟩
  | .hbm, ⟨20, _⟩ => ⟨S5x1, .i32⟩
  | .hbm, ⟨21, _⟩ => ⟨S5x64, .i32⟩
  | .hbm, ⟨22, _⟩ => ⟨S5x64, .i32⟩
  | .hbm, ⟨23, _⟩ => ⟨S5x64, .i1⟩
  | .hbm, ⟨24, _⟩ => ⟨S5, .i32⟩
  | .hbm, ⟨25, _⟩ => ⟨S5x64, .i32⟩
  | .hbm, ⟨26, _⟩ => ⟨S320, .i32⟩
  | .hbm, ⟨27, _⟩ => ⟨S320, .f32⟩
  | .hbm, ⟨28, _⟩ => ⟨S5, .i32⟩
  | .hbm, ⟨29, _⟩ => ⟨S5x64, .i32⟩
  | .hbm, ⟨30, _⟩ => ⟨S320, .i32⟩
  | .hbm, ⟨31, _⟩ => ⟨S320, .f32⟩
  | .hbm, ⟨32, _⟩ => ⟨S5x1, .f32⟩
  | .hbm, ⟨33, _⟩ => ⟨S_, .f32⟩
  | .hbm, ⟨34, _⟩ => ⟨S_, .f32⟩
  | .hbm, ⟨35, _⟩ => ⟨S5x64, .f32⟩
  | .hbm, ⟨36, _⟩ => ⟨S5x64, .f32⟩
  | .hbm, ⟨37, _⟩ => ⟨S5x64, .f32⟩
  | .hbm, ⟨38, _⟩ => ⟨S320, .f32⟩
  | .hbm, ⟨39, _⟩ => ⟨S1x320, .f32⟩
  | .hbm, ⟨40, _⟩ => ⟨S1x320, .f32⟩
  | .hbm, ⟨41, _⟩ => ⟨S1x320, .f32⟩
  | .hbm, ⟨42, _⟩ => ⟨S3x320, .f32⟩
  | .hbm, ⟨43, _⟩ => ⟨S_, .f32⟩
  | .hbm, ⟨44, _⟩ => ⟨S5x320, .f32⟩
  | .hbm, ⟨45, _⟩ => ⟨S8x320, .f32⟩
  | .hbm, ⟨46, _⟩ => ⟨S5x64, .f32⟩
  | .hbm, ⟨47, _⟩ => ⟨S320, .f32⟩
  | .hbm, ⟨48, _⟩ => ⟨S320x1, .f32⟩
  | .hbm, ⟨49, _⟩ => ⟨S28x148x128, .f32⟩
  | .hbm, ⟨50, _⟩ => ⟨S28x18944, .f32⟩
  | .hbm, ⟨51, _⟩ => ⟨S148x28x128, .f32⟩
  | .hbm, ⟨52, _⟩ => ⟨S148x3584, .f32⟩
  | .hbm, ⟨53, _⟩ => ⟨S37x4x3584, .f32⟩
  | .hbm, ⟨54, _⟩ => ⟨S148x28x128, .f32⟩
  | .hbm, ⟨55, _⟩ => ⟨S148x3584, .f32⟩
  | .hbm, ⟨56, _⟩ => ⟨S37x4x3584, .f32⟩
  | .hbm, ⟨57, _⟩ => ⟨S320x18944, .bf16⟩
  | .hbm, ⟨58, _⟩ => ⟨S320x18944, .bf16⟩
  | .hbm, ⟨59, _⟩ => ⟨S320x18944, .bf16⟩
  | .hbm, ⟨60, _⟩ => ⟨S320x8192, .bf16⟩
  | .hbm, ⟨61, _⟩ => ⟨S320x8192, .bf16⟩
  | .hbm, ⟨62, _⟩ => ⟨S8192x3584, .f32⟩
  | .hbm, ⟨63, _⟩ => ⟨S8192x18944, .fp8e4m3⟩
  | .hbm, ⟨64, _⟩ => ⟨S8192x148, .f32⟩
  | .hbm, ⟨65, _⟩ => ⟨S8192x18944, .fp8e4m3⟩
  | .hbm, ⟨66, _⟩ => ⟨S8192x148, .f32⟩
  | .hbm, ⟨67, _⟩ => ⟨S8192x320, .bf16⟩
  | .hbm, ⟨68, _⟩ => ⟨S8192x320, .bf16⟩
  | .hbm, ⟨69, _⟩ => ⟨S5120x18944, .f32⟩
  | .hbm, ⟨70, _⟩ => ⟨S5120x18944, .f32⟩
  | .local _ .vmem, ⟨0, _⟩ => ⟨S8x320, .f32⟩
  | .local _ .vmem, ⟨1, _⟩ => ⟨S320x1, .f32⟩
  | .local _ .vmem, ⟨2, _⟩ => ⟨S512x3584, .bf16⟩
  | .local _ .vmem, ⟨3, _⟩ => ⟨S512x3584, .bf16⟩
  | .local _ .vmem, ⟨4, _⟩ => ⟨S512x320, .bf16⟩
  | .local _ .vmem, ⟨5, _⟩ => ⟨S512x320, .bf16⟩
  | .local _ .vmem, ⟨6, _⟩ => ⟨S3584x512, .fp8e4m3⟩
  | .local _ .vmem, ⟨7, _⟩ => ⟨S3584x512, .fp8e4m3⟩
  | .local _ .vmem, ⟨8, _⟩ => ⟨S28x512, .f32⟩
  | .local _ .vmem, ⟨9, _⟩ => ⟨S28x512, .f32⟩
  | .local _ .vmem, ⟨10, _⟩ => ⟨S512x3584, .fp8e4m3⟩
  | .local _ .vmem, ⟨11, _⟩ => ⟨S512x3584, .fp8e4m3⟩
  | .local _ .vmem, ⟨12, _⟩ => ⟨S1x4x3584, .f32⟩
  | .local _ .vmem, ⟨13, _⟩ => ⟨S1x4x3584, .f32⟩
  | .local _ .vmem, ⟨14, _⟩ => ⟨S512x3584, .fp8e4m3⟩
  | .local _ .vmem, ⟨15, _⟩ => ⟨S512x3584, .fp8e4m3⟩
  | .local _ .vmem, ⟨16, _⟩ => ⟨S1x4x3584, .f32⟩
  | .local _ .vmem, ⟨17, _⟩ => ⟨S1x4x3584, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S320x512, .bf16⟩
  | .local _ .vmem, ⟨23, _⟩ => ⟨S320x512, .bf16⟩
  | .local _ .vmem, ⟨24, _⟩ => ⟨S320x512, .bf16⟩
  | .local _ .vmem, ⟨25, _⟩ => ⟨S320x512, .bf16⟩
  | .local _ .vmem, ⟨26, _⟩ => ⟨S320x512, .bf16⟩
  | .local _ .vmem, ⟨27, _⟩ => ⟨S320x512, .bf16⟩
  | .local _ .vmem, ⟨28, _⟩ => ⟨S320x512, .bf16⟩
  | .local _ .vmem, ⟨29, _⟩ => ⟨S320x512, .bf16⟩
  | .local _ .vmem, ⟨30, _⟩ => ⟨S320x512, .bf16⟩
  | .local _ .vmem, ⟨31, _⟩ => ⟨S320x512, .bf16⟩
  | .local _ .vmem, ⟨32, _⟩ => ⟨S512x3584, .f32⟩
  | .local _ .vmem, ⟨33, _⟩ => ⟨S512x3584, .f32⟩
  | .local _ .vmem, ⟨34, _⟩ => ⟨S512x512, .fp8e4m3⟩
  | .local _ .vmem, ⟨35, _⟩ => ⟨S512x512, .fp8e4m3⟩
  | .local _ .vmem, ⟨36, _⟩ => ⟨S512x148, .f32⟩
  | .local _ .vmem, ⟨37, _⟩ => ⟨S512x148, .f32⟩
  | .local _ .vmem, ⟨38, _⟩ => ⟨S512x512, .fp8e4m3⟩
  | .local _ .vmem, ⟨39, _⟩ => ⟨S512x512, .fp8e4m3⟩
  | .local _ .vmem, ⟨40, _⟩ => ⟨S512x148, .f32⟩
  | .local _ .vmem, ⟨41, _⟩ => ⟨S512x148, .f32⟩
  | .local _ .vmem, ⟨42, _⟩ => ⟨S512x320, .bf16⟩
  | .local _ .vmem, ⟨43, _⟩ => ⟨S512x320, .bf16⟩
  | .local _ .vmem, ⟨44, _⟩ => ⟨S512x320, .bf16⟩
  | .local _ .vmem, ⟨45, _⟩ => ⟨S512x320, .bf16⟩
  | .local _ .vmem, ⟨46, _⟩ => ⟨S320x512, .f32⟩
  | .local _ .vmem, ⟨47, _⟩ => ⟨S320x512, .f32⟩
  | .local _ .vmem, ⟨48, _⟩ => ⟨S320x512, .f32⟩
  | .local _ .vmem, ⟨49, _⟩ => ⟨S320x512, .f32⟩
  | .local _ .vmem, ⟨50, _⟩ => ⟨S3584x256, .bf16⟩
  | .local _ .vmem, ⟨51, _⟩ => ⟨S2x512x256, .f32⟩
  | .local _ .vmem, ⟨52, _⟩ => ⟨S512x512, .bf16⟩
  | .local _ .vmem, ⟨53, _⟩ => ⟨S512x512, .bf16⟩
  | .local _ .vmem, ⟨54, _⟩ => ⟨S512x512, .bf16⟩
  | .local _ .vmem, ⟨55, _⟩ => ⟨S512x512, .bf16⟩
  | .local _ .vmem, ⟨56, _⟩ => ⟨S512x320, .f32⟩
  | .local _ .vmem, ⟨57, _⟩ => ⟨S512x320, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_v39_2 : Ref sig .tc := ⟨.hbm, 64, rfl⟩
abbrev main_v39_3 : Ref sig .tc := ⟨.hbm, 65, rfl⟩
abbrev main_v39_4 : Ref sig .tc := ⟨.hbm, 66, rfl⟩
abbrev main_v39_5 : Ref sig .tc := ⟨.hbm, 67, rfl⟩
abbrev main_v39_6 : Ref sig .tc := ⟨.hbm, 68, rfl⟩
abbrev main_v39_7 : Ref sig .tc := ⟨.hbm, 69, rfl⟩
abbrev main_v39_8 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_scratch4 : Ref sig .tc := ⟨.vmem, 54, rfl⟩
abbrev cc0_scratch5 : Ref sig .tc := ⟨.vmem, 55, rfl⟩
abbrev cc0_scratch6 : Ref sig .tc := ⟨.vmem, 56, rfl⟩
abbrev cc0_scratch7 : Ref sig .tc := ⟨.vmem, 57, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47
abbrev cc0_sem25_0 : DmaSem sig := 48
abbrev cc0_sem25_1 : DmaSem sig := 49

abbrev nD : Nat := 1
abbrev τ : Topo := Topo.v7x

variable {F : FTy → Type} [FloatOps F]

abbrev grid0 : Pipeline.Grid := ⟨2, ![16, 37], ![false, false]⟩

def k0_cond2 (i : grid0.Coords) : BitVec 1 :=
  let arg1 : BitVec 32 := BitVec.ofNat 32 (i 1).val
  let c36_i32 : BitVec 32 := 36#32
  let v1696 : BitVec 1 := Scalar.cmpi .eq arg1 c36_i32
  let v1697 : BitVec 32 := Scalar.extui v1696
  let c0_i32_989 : BitVec 32 := 0#32
  let v1698 : BitVec 1 := Scalar.cmpi .ne v1697 c0_i32_989
  v1698

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S320x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S28x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4x3584 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S320x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S320x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S320x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S320x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S320x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x3584 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x512 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x148 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x512 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x148 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S512x320 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S512x320 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S320x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S320x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Proof.MainRuns.lean ====
/-
What the body of the main call leaves behind at one grid point: the generated runs of its three cases, taken at the
buffers and blocks of a point, and that the pieces they store cover every buffer they store into.
-/
module

public import proofs.«01_k».proof.Proof.Gen.MainIdeal.Frame.RunC
public import Idealize.ShloMosaic.Lib.Claim

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point that is the first column tile of a row tile. -/
def runA (c : Dev nD) (t : Fin cfg0.N) (h0 : t.val % 37 = 0) (h1 : ¬t.val % 37 = 36) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The run of the body at a point that is a column tile that is neither the first nor the last of its row tile, the blocks it goes on with holding the given contents. -/
def runB (c : Dev nD) (t : Fin cfg0.N) (h0 : ¬t.val % 37 = 0) (h1 : ¬t.val % 37 = 36)
    (x17 : Vec F S512x3584 .f32) (x19 x21 : Vec F S512x148 .f32) (x6 x7 : Vec F S512x320 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x17 x19 x21 x6 x7

/-- The run of the body at a point that is the last column tile of a row tile, the blocks it goes on with holding the given contents. -/
def runC (c : Dev nD) (t : Fin cfg0.N) (h0 : ¬t.val % 37 = 0) (h1 : t.val % 37 = 36)
    (x17 : Vec F S512x3584 .f32) (x19 x21 : Vec F S512x148 .f32) (x6 x7 : Vec F S512x320 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x17 x19 x21 x6 x7

/-- What one grid point leaves: the nine outputs' blocks and the two scratch buffers the next point reads. -/
structure Outs (F : FTy → Type) [FloatOps F] where
  o17 : Vec F S512x3584 .f32
  o18 : Vec F S512x512 .fp8e4m3
  o19 : Vec F S512x148 .f32
  o20 : Vec F S512x512 .fp8e4m3
  o21 : Vec F S512x148 .f32
  o22 : Vec F S512x320 .bf16
  o23 : Vec F S512x320 .bf16
  o24 : Vec F S320x512 .f32
  o25 : Vec F S320x512 .f32
  s6 : Vec F S512x320 .f32
  s7 : Vec F S512x320 .f32

/-- What the body leaves at the first column tile of a row tile. -/
def outsA (c : Dev nD) (t : Fin cfg0.N) (h0 : t.val % 37 = 0) (h1 : ¬t.val % 37 = 36) : Outs F where
  o17 := VO0_17.read (Elt F) (VO0_17.writes (Elt F) VO0_17.junk (runA m c t h0 h1).1)
  o18 := VO0_18.read (Elt F) (VO0_18.writes (Elt F) VO0_18.junk (runA m c t h0 h1).2.1)
  o19 := VO0_19.read (Elt F) (VO0_19.writes (Elt F) VO0_19.junk (runA m c t h0 h1).2.2.1)
  o20 := VO0_20.read (Elt F) (VO0_20.writes (Elt F) VO0_20.junk (runA m c t h0 h1).2.2.2.1)
  o21 := VO0_21.read (Elt F) (VO0_21.writes (Elt F) VO0_21.junk (runA m c t h0 h1).2.2.2.2.1)
  o22 := VO0_22.read (Elt F) (VO0_22.writes (Elt F) VO0_22.junk (runA m c t h0 h1).2.2.2.2.2.1)
  o23 := VO0_23.read (Elt F) (VO0_23.writes (Elt F) VO0_23.junk (runA m c t h0 h1).2.2.2.2.2.2.1)
  o24 := VO0_24.read (Elt F) (VO0_24.writes (Elt F) VO0_24.junk (runA m c t h0 h1).2.2.2.2.2.2.2.1)
  o25 := VO0_25.read (Elt F) (VO0_25.writes (Elt F) VO0_25.junk (runA m c t h0 h1).2.2.2.2.2.2.2.2.1)
  s6 := VS0_6.read (Elt F) (VS0_6.writes (Elt F) VS0_6.junk (runA m c t h0 h1).2.2.2.2.2.2.2.2.2.1)
  s7 := VS0_7.read (Elt F) (VS0_7.writes (Elt F) VS0_7.junk (runA m c t h0 h1).2.2.2.2.2.2.2.2.2.2.1)

/-- What the body leaves at a column tile that is neither the first nor the last of its row tile. -/
def outsB (c : Dev nD) (t : Fin cfg0.N) (h0 : ¬t.val % 37 = 0) (h1 : ¬t.val % 37 = 36)
    (x17 : Vec F S512x3584 .f32) (x19 x21 : Vec F S512x148 .f32) (x6 x7 : Vec F S512x320 .f32) : Outs F where
  o17 := VO0_17.read (Elt F) (VO0_17.writes (Elt F) VO0_17.junk (runB m c t h0 h1 x17 x19 x21 x6 x7).1)
  o18 := VO0_18.read (Elt F) (VO0_18.writes (Elt F) VO0_18.junk (runB m c t h0 h1 x17 x19 x21 x6 x7).2.1)
  o19 := VO0_19.read (Elt F) (VO0_19.writes (Elt F) VO0_19.junk (runB m c t h0 h1 x17 x19 x21 x6 x7).2.2.1)
  o20 := VO0_20.read (Elt F) (VO0_20.writes (Elt F) VO0_20.junk (runB m c t h0 h1 x17 x19 x21 x6 x7).2.2.2.1)
  o21 := VO0_21.read (Elt F) (VO0_21.writes (Elt F) VO0_21.junk (runB m c t h0 h1 x17 x19 x21 x6 x7).2.2.2.2.1)
  o22 := VO0_22.read (Elt F) (VO0_22.writes (Elt F) VO0_22.junk (runB m c t h0 h1 x17 x19 x21 x6 x7).2.2.2.2.2.1)
  o23 := VO0_23.read (Elt F) (VO0_23.writes (Elt F) VO0_23.junk (runB m c t h0 h1 x17 x19 x21 x6 x7).2.2.2.2.2.2.1)
  o24 := VO0_24.read (Elt F) (VO0_24.writes (Elt F) VO0_24.junk (runB m c t h0 h1 x17 x19 x21 x6 x7).2.2.2.2.2.2.2.1)
  o25 := VO0_25.read (Elt F) (VO0_25.writes (Elt F) VO0_25.junk (runB m c t h0 h1 x17 x19 x21 x6 x7).2.2.2.2.2.2.2.2.1)
  s6 := VS0_6.read (Elt F) (VS0_6.writes (Elt F) VS0_6.junk (runB m c t h0 h1 x17 x19 x21 x6 x7).2.2.2.2.2.2.2.2.2.1)
  s7 := VS0_7.read (Elt F) (VS0_7.writes (Elt F) VS0_7.junk (runB m c t h0 h1 x17 x19 x21 x6 x7).2.2.2.2.2.2.2.2.2.2.1)

/-- What the body leaves at the last column tile of a row tile. -/
def outsC (c : Dev nD) (t : Fin cfg0.N) (h0 : ¬t.val % 37 = 0) (h1 : t.val % 37 = 36)
    (x17 : Vec F S512x3584 .f32) (x19 x21 : Vec F S512x148 .f32) (x6 x7 : Vec F S512x320 .f32) : Outs F where
  o17 := VO0_17.read (Elt F) (VO0_17.writes (Elt F) VO0_17.junk (runC m c t h0 h1 x17 x19 x21 x6 x7).1)
  o18 := VO0_18.read (Elt F) (VO0_18.writes (Elt F) VO0_18.junk (runC m c t h0 h1 x17 x19 x21 x6 x7).2.1)
  o19 := VO0_19.read (Elt F) (VO0_19.writes (Elt F) VO0_19.junk (runC m c t h0 h1 x17 x19 x21 x6 x7).2.2.1)
  o20 := VO0_20.read (Elt F) (VO0_20.writes (Elt F) VO0_20.junk (runC m c t h0 h1 x17 x19 x21 x6 x7).2.2.2.1)
  o21 := VO0_21.read (Elt F) (VO0_21.writes (Elt F) VO0_21.junk (runC m c t h0 h1 x17 x19 x21 x6 x7).2.2.2.2.1)
  o22 := VO0_22.read (Elt F) (VO0_22.writes (Elt F) VO0_22.junk (runC m c t h0 h1 x17 x19 x21 x6 x7).2.2.2.2.2.1)
  o23 := VO0_23.read (Elt F) (VO0_23.writes (Elt F) VO0_23.junk (runC m c t h0 h1 x17 x19 x21 x6 x7).2.2.2.2.2.2.1)
  o24 := VO0_24.read (Elt F) (VO0_24.writes (Elt F) VO0_24.junk (runC m c t h0 h1 x17 x19 x21 x6 x7).2.2.2.2.2.2.2.1)
  o25 := VO0_25.read (Elt F) (VO0_25.writes (Elt F) VO0_25.junk (runC m c t h0 h1 x17 x19 x21 x6 x7).2.2.2.2.2.2.2.2.1)
  s6 := VS0_6.read (Elt F) (VS0_6.writes (Elt F) VS0_6.junk (runC m c t h0 h1 x17 x19 x21 x6 x7).2.2.2.2.2.2.2.2.2.1)
  s7 := VS0_7.read (Elt F) (VS0_7.writes (Elt F) VS0_7.junk (runC m c t h0 h1 x17 x19 x21 x6 x7).2.2.2.2.2.2.2.2.2.2.1)

/-- What the body stores at the first column tile of a row tile covers output 17. -/
theorem coverA_17 (c : Dev nD) (t : Fin cfg0.N) (h0 : t.val % 37 = 0) (h1 : ¬t.val % 37 = 36) (y : S512x3584.Idx) :
    ∃ pc ∈ (runA m c t h0 h1).1, y ∈ pc.1.set :=
  View.cover_of_tiledBy (runA m c t h0 h1).1 ![512, 512] (by sl_kernel_rfl) y

/-- What the body stores at the first column tile of a row tile covers output 18. -/
theorem coverA_18 (c : Dev nD) (t : Fin cfg0.N) (h0 : t.val % 37 = 0) (h1 : ¬t.val % 37 = 36) (y : S512x512.Idx) :
    ∃ pc ∈ (runA m c t h0 h1).2.1, y ∈ pc.1.set :=
  View.cover_of_tiledL (runA m c t h0 h1).2.1 S512x128.size (by sl_kernel_rfl) y

/-- What the body stores at the first column tile of a row tile covers output 19. -/
theorem coverA_19 (c : Dev nD) (t : Fin cfg0.N) (h0 : t.val % 37 = 0) (h1 : ¬t.val % 37 = 36) (y : S512x148.Idx) :
    ∃ pc ∈ (runA m c t h0 h1).2.2.1, y ∈ pc.1.set :=
  View.cover_of_tiledL (runA m c t h0 h1).2.2.1 S512x148.size (by sl_kernel_rfl) y

/-- What the body stores at the first column tile of a row tile covers output 20. -/
theorem coverA_20 (c : Dev nD) (t : Fin cfg0.N) (h0 : t.val % 37 = 0) (h1 : ¬t.val % 37 = 36) (y : S512x512.Idx) :
    ∃ pc ∈ (runA m c t h0 h1).2.2.2.1, y ∈ pc.1.set :=
  View.cover_of_tiledL (runA m c t h0 h1).2.2.2.1 S512x128.size (by sl_kernel_rfl) y

/-- What the body stores at the first column tile of a row tile covers output 21. -/
theorem coverA_21 (c : Dev nD) (t : Fin cfg0.N) (h0 : t.val % 37 = 0) (h1 : ¬t.val % 37 = 36) (y : S512x148.Idx) :
    ∃ pc ∈ (runA m c t h0 h1).2.2.2.2.1, y ∈ pc.1.set :=
  View.cover_of_tiledL (runA m c t h0 h1).2.2.2.2.1 S512x148.size (by sl_kernel_rfl) y

/-- What the body stores at the first column tile of a row tile covers output 24. -/
theorem coverA_24 (c : Dev nD) (t : Fin cfg0.N) (h0 : t.val % 37 = 0) (h1 : ¬t.val % 37 = 36) (y : S320x512.Idx) :
    ∃ pc ∈ (runA m c t h0 h1).2.2.2.2.2.2.2.1, y ∈ pc.1.set :=
  View.cover_of_tiledL (runA m c t h0 h1).2.2.2.2.2.2.2.1 S320x512.size (by sl_kernel_rfl) y

/-- What the body stores at the first column tile of a row tile covers output 25. -/
theorem coverA_25 (c : Dev nD) (t : Fin cfg0.N) (h0 : t.val % 37 = 0) (h1 : ¬t.val % 37 = 36) (y : S320x512.Idx) :
    ∃ pc ∈ (runA m c t h0 h1).2.2.2.2.2.2.2.2.1, y ∈ pc.1.set :=
  View.cover_of_tiledL (runA m c t h0 h1).2.2.2.2.2.2.2.2.1 S320x512.size (by sl_kernel_rfl) y

/-- What the body stores at the first column tile of a row tile covers scratch 6. -/
theorem scoverA_6 (c : Dev nD) (t : Fin cfg0.N) (h0 : t.val % 37 = 0) (h1 : ¬t.val % 37 = 36) (y : S512x320.Idx) :
    ∃ pc ∈ (runA m c t h0 h1).2.2.2.2.2.2.2.2.2.1, y ∈ pc.1.set :=
  View.cover_of_tiledL (runA m c t h0 h1).2.2.2.2.2.2.2.2.2.1 S512x320.size (by sl_kernel_rfl) y

/-- What the body stores at the first column tile of a row tile covers scratch 7. -/
theorem scoverA_7 (c : Dev nD) (t : Fin cfg0.N) (h0 : t.val % 37 = 0) (h1 : ¬t.val % 37 = 36) (y : S512x320.Idx) :
    ∃ pc ∈ (runA m c t h0 h1).2.2.2.2.2.2.2.2.2.2.1, y ∈ pc.1.set :=
  View.cover_of_tiledL (runA m c t h0 h1).2.2.2.2.2.2.2.2.2.2.1 S512x320.size (by sl_kernel_rfl) y

/-- What the body stores at a column tile that is neither the first nor the last of its row tile covers output 17. -/
theorem coverB_17 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x3584.Idx) :
    ∃ pc ∈ (runB m c t h0 h1 x17 x19 x21 x6 x7).1, y ∈ pc.1.set :=
  View.cover_of_tiledL (runB m c t h0 h1 x17 x19 x21 x6 x7).1 S512x512.size (by sl_kernel_rfl) y

/-- What the body stores at a column tile that is neither the first nor the last of its row tile covers output 18. -/
theorem coverB_18 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x512.Idx) :
    ∃ pc ∈ (runB m c t h0 h1 x17 x19 x21 x6 x7).2.1, y ∈ pc.1.set :=
  View.cover_of_tiledL (runB m c t h0 h1 x17 x19 x21 x6 x7).2.1 S512x128.size (by sl_kernel_rfl) y

/-- What the body stores at a column tile that is neither the first nor the last of its row tile covers output 19. -/
theorem coverB_19 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x148.Idx) :
    ∃ pc ∈ (runB m c t h0 h1 x17 x19 x21 x6 x7).2.2.1, y ∈ pc.1.set :=
  View.cover_of_tiledL (runB m c t h0 h1 x17 x19 x21 x6 x7).2.2.1 S512x148.size (by sl_kernel_rfl) y

/-- What the body stores at a column tile that is neither the first nor the last of its row tile covers output 20. -/
theorem coverB_20 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x512.Idx) :
    ∃ pc ∈ (runB m c t h0 h1 x17 x19 x21 x6 x7).2.2.2.1, y ∈ pc.1.set :=
  View.cover_of_tiledL (runB m c t h0 h1 x17 x19 x21 x6 x7).2.2.2.1 S512x128.size (by sl_kernel_rfl) y

/-- What the body stores at a column tile that is neither the first nor the last of its row tile covers output 21. -/
theorem coverB_21 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x148.Idx) :
    ∃ pc ∈ (runB m c t h0 h1 x17 x19 x21 x6 x7).2.2.2.2.1, y ∈ pc.1.set :=
  View.cover_of_tiledL (runB m c t h0 h1 x17 x19 x21 x6 x7).2.2.2.2.1 S512x148.size (by sl_kernel_rfl) y

/-- What the body stores at a column tile that is neither the first nor the last of its row tile covers output 24. -/
theorem coverB_24 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S320x512.Idx) :
    ∃ pc ∈ (runB m c t h0 h1 x17 x19 x21 x6 x7).2.2.2.2.2.2.2.1, y ∈ pc.1.set :=
  View.cover_of_tiledL (runB m c t h0 h1 x17 x19 x21 x6 x7).2.2.2.2.2.2.2.1 S320x512.size (by sl_kernel_rfl) y

/-- What the body stores at a column tile that is neither the first nor the last of its row tile covers output 25. -/
theorem coverB_25 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S320x512.Idx) :
    ∃ pc ∈ (runB m c t h0 h1 x17 x19 x21 x6 x7).2.2.2.2.2.2.2.2.1, y ∈ pc.1.set :=
  View.cover_of_tiledL (runB m c t h0 h1 x17 x19 x21 x6 x7).2.2.2.2.2.2.2.2.1 S320x512.size (by sl_kernel_rfl) y

/-- What the body stores at a column tile that is neither the first nor the last of its row tile covers scratch 6. -/
theorem scoverB_6 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x320.Idx) :
    ∃ pc ∈ (runB m c t h0 h1 x17 x19 x21 x6 x7).2.2.2.2.2.2.2.2.2.1, y ∈ pc.1.set :=
  View.cover_of_tiledL (runB m c t h0 h1 x17 x19 x21 x6 x7).2.2.2.2.2.2.2.2.2.1 S512x320.size (by sl_kernel_rfl) y

/-- What the body stores at a column tile that is neither the first nor the last of its row tile covers scratch 7. -/
theorem scoverB_7 (c : Dev nD) (t : Fin cfg0.N) (h0 : ¬t.val % 37 = 0) (h1 : ¬t.val % 37 = 36)
    (x17 : Vec F S512x3584 .f32) (x19 x21 : Vec F S512x148 .f32) (x6 x7 : Vec F S512x320 .f32) (y : S512x320.Idx) :
    ∃ pc ∈ (runB m c t h0 h1 x17 x19 x21 x6 x7).2.2.2.2.2.2.2.2.2.2.1, y ∈ pc.1.set :=
  View.cover_of_tiledL (runB m c t h0 h1 x17 x19 x21 x6 x7).2.2.2.2.2.2.2.2.2.2.1 S512x320.size (by sl_kernel_rfl) y

/-- What the body stores at the last column tile of a row tile covers output 17. -/
theorem coverC_17 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x3584.Idx) :
    ∃ pc ∈ (runC m c t h0 h1 x17 x19 x21 x6 x7).1, y ∈ pc.1.set :=
  View.cover_of_tiledL (runC m c t h0 h1 x17 x19 x21 x6 x7).1 S512x512.size (by sl_kernel_rfl) y

/-- What the body stores at the last column tile of a row tile covers output 18. -/
theorem coverC_18 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x512.Idx) :
    ∃ pc ∈ (runC m c t h0 h1 x17 x19 x21 x6 x7).2.1, y ∈ pc.1.set :=
  View.cover_of_tiledL (runC m c t h0 h1 x17 x19 x21 x6 x7).2.1 S512x128.size (by sl_kernel_rfl) y

/-- What the body stores at the last column tile of a row tile covers output 19. -/
theorem coverC_19 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x148.Idx) :
    ∃ pc ∈ (runC m c t h0 h1 x17 x19 x21 x6 x7).2.2.1, y ∈ pc.1.set :=
  View.cover_of_tiledL (runC m c t h0 h1 x17 x19 x21 x6 x7).2.2.1 S512x148.size (by sl_kernel_rfl) y

/-- What the body stores at the last column tile of a row tile covers output 20. -/
theorem coverC_20 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x512.Idx) :
    ∃ pc ∈ (runC m c t h0 h1 x17 x19 x21 x6 x7).2.2.2.1, y ∈ pc.1.set :=
  View.cover_of_tiledL (runC m c t h0 h1 x17 x19 x21 x6 x7).2.2.2.1 S512x128.size (by sl_kernel_rfl) y

/-- What the body stores at the last column tile of a row tile covers output 21. -/
theorem coverC_21 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x148.Idx) :
    ∃ pc ∈ (runC m c t h0 h1 x17 x19 x21 x6 x7).2.2.2.2.1, y ∈ pc.1.set :=
  View.cover_of_tiledL (runC m c t h0 h1 x17 x19 x21 x6 x7).2.2.2.2.1 S512x148.size (by sl_kernel_rfl) y

/-- What the body stores at the last column tile of a row tile covers output 22. -/
theorem coverC_22 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x320.Idx) :
    ∃ pc ∈ (runC m c t h0 h1 x17 x19 x21 x6 x7).2.2.2.2.2.1, y ∈ pc.1.set :=
  View.cover_of_tiledL (runC m c t h0 h1 x17 x19 x21 x6 x7).2.2.2.2.2.1 S512x320.size (by sl_kernel_rfl) y

/-- What the body stores at the last column tile of a row tile covers output 23. -/
theorem coverC_23 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x320.Idx) :
    ∃ pc ∈ (runC m c t h0 h1 x17 x19 x21 x6 x7).2.2.2.2.2.2.1, y ∈ pc.1.set :=
  View.cover_of_tiledL (runC m c t h0 h1 x17 x19 x21 x6 x7).2.2.2.2.2.2.1 S512x320.size (by sl_kernel_rfl) y

/-- What the body stores at the last column tile of a row tile covers output 24. -/
theorem coverC_24 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S320x512.Idx) :
    ∃ pc ∈ (runC m c t h0 h1 x17 x19 x21 x6 x7).2.2.2.2.2.2.2.1, y ∈ pc.1.set :=
  View.cover_of_tiledL (runC m c t h0 h1 x17 x19 x21 x6 x7).2.2.2.2.2.2.2.1 S320x512.size (by sl_kernel_rfl) y

/-- What the body stores at the last column tile of a row tile covers output 25. -/
theorem coverC_25 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S320x512.Idx) :
    ∃ pc ∈ (runC m c t h0 h1 x17 x19 x21 x6 x7).2.2.2.2.2.2.2.2.1, y ∈ pc.1.set :=
  View.cover_of_tiledL (runC m c t h0 h1 x17 x19 x21 x6 x7).2.2.2.2.2.2.2.2.1 S320x512.size (by sl_kernel_rfl) y

/-- What the body stores at the last column tile of a row tile covers scratch 6. -/
theorem scoverC_6 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x320.Idx) :
    ∃ pc ∈ (runC m c t h0 h1 x17 x19 x21 x6 x7).2.2.2.2.2.2.2.2.2.1, y ∈ pc.1.set :=
  View.cover_of_tiledL (runC m c t h0 h1 x17 x19 x21 x6 x7).2.2.2.2.2.2.2.2.2.1 S512x320.size (by sl_kernel_rfl) y

/-- What the body stores at the last column tile of a row tile covers scratch 7. -/
theorem scoverC_7 (c : Dev nD) (t : Fin cfg0.N) (h0 : ¬t.val % 37 = 0) (h1 : t.val % 37 = 36)
    (x17 : Vec F S512x3584 .f32) (x19 x21 : Vec F S512x148 .f32) (x6 x7 : Vec F S512x320 .f32) (y : S512x320.Idx) :
    ∃ pc ∈ (runC m c t h0 h1 x17 x19 x21 x6 x7).2.2.2.2.2.2.2.2.2.2.1, y ∈ pc.1.set :=
  View.cover_of_tiledL (runC m c t h0 h1 x17 x19 x21 x6 x7).2.2.2.2.2.2.2.2.2.2.1 S512x320.size (by sl_kernel_rfl) y

end Cert.MainIdeal.Gen

end
-- ==== Proof.MainPoints.lean ====
/-
The main call's grid points one after another: what each leaves behind (`outsAt0`), and the proof data built from it.
-/
module

public import proofs.«01_k».proof.Proof.MainRuns

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the point `n` leaves: its case's contents, the cases after the first column tile going on from what the point
    before left. -/
def outsAt0 (c : Dev nD) : (n : ℕ) → n < cfg0.N → Outs F
  | 0, hn => outsA m c ⟨0, hn⟩ (Nat.zero_mod _) (fun h => by dsimp only at h; omega)
  | n + 1, hn =>
    let p := outsAt0 c n (Nat.lt_of_succ_lt hn)
    if h0 : (n + 1) % 37 = 0 then outsA m c ⟨n + 1, hn⟩ h0 (fun h => by dsimp only at h; omega)
    else if h1 : (n + 1) % 37 = 36 then outsC m c ⟨n + 1, hn⟩ h0 h1 p.o17 p.o19 p.o21 p.s6 p.s7
    else outsB m c ⟨n + 1, hn⟩ h0 h1 p.o17 p.o19 p.o21 p.s6 p.s7

/-- At the first column tile of a row tile. -/
theorem outsAt0_A (c : Dev nD) (t : Fin cfg0.N) (h0 : t.val % 37 = 0) (h1 : ¬t.val % 37 = 36) :
    outsAt0 m c t.val t.isLt = outsA m c t h0 h1 := by
  obtain ⟨n, hn⟩ := t
  cases n with
  | zero => rfl
  | succ n => exact dif_pos h0

/-- At a column tile that is neither the first nor the last of its row tile: on from what the point before left. -/
theorem outsAt0_B (c : Dev nD) (t : Fin cfg0.N) (h0 : ¬t.val % 37 = 0) (h1 : ¬t.val % 37 = 36) :
    outsAt0 m c t.val t.isLt = outsB m c t h0 h1
      (outsAt0 m c (t.val - 1) (Nat.lt_of_le_of_lt (Nat.sub_le _ _) t.isLt)).o17
      (outsAt0 m c (t.val - 1) (Nat.lt_of_le_of_lt (Nat.sub_le _ _) t.isLt)).o19
      (outsAt0 m c (t.val - 1) (Nat.lt_of_le_of_lt (Nat.sub_le _ _) t.isLt)).o21
      (outsAt0 m c (t.val - 1) (Nat.lt_of_le_of_lt (Nat.sub_le _ _) t.isLt)).s6
      (outsAt0 m c (t.val - 1) (Nat.lt_of_le_of_lt (Nat.sub_le _ _) t.isLt)).s7 := by
  obtain ⟨n, hn⟩ := t
  cases n with
  | zero => exact absurd rfl h0
  | succ n => exact (dif_neg h0).trans (dif_neg h1)

/-- At the last column tile of a row tile: on from what the point before left. -/
theorem outsAt0_C (c : Dev nD) (t : Fin cfg0.N) (h0 : ¬t.val % 37 = 0) (h1 : t.val % 37 = 36) :
    outsAt0 m c t.val t.isLt = outsC m c t h0 h1
      (outsAt0 m c (t.val - 1) (Nat.lt_of_le_of_lt (Nat.sub_le _ _) t.isLt)).o17
      (outsAt0 m c (t.val - 1) (Nat.lt_of_le_of_lt (Nat.sub_le _ _) t.isLt)).o19
      (outsAt0 m c (t.val - 1) (Nat.lt_of_le_of_lt (Nat.sub_le _ _) t.isLt)).o21
      (outsAt0 m c (t.val - 1) (Nat.lt_of_le_of_lt (Nat.sub_le _ _) t.isLt)).s6
      (outsAt0 m c (t.val - 1) (Nat.lt_of_le_of_lt (Nat.sub_le _ _) t.isLt)).s7 := by
  obtain ⟨n, hn⟩ := t
  cases n with
  | zero => exact absurd rfl h0
  | succ n => exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).s6) ∗ owns (c : Thread nD τ) scM0_7 fullShare ((outsAt0 m c n hn).s7)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).s6) ∗ owns (c : Thread nD τ) scM0_7 fullShare ((outsAt0 m c n hn).s7)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).s6) ∗ owns (c : Thread nD τ) scM0_7 fullShare ((outsAt0 m c (n - 1) (by omega)).s7)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).o17
    | ⟨18, _⟩ => (outsAt0 m c t.val t.isLt).o18
    | ⟨19, _⟩ => (outsAt0 m c t.val t.isLt).o19
    | ⟨20, _⟩ => (outsAt0 m c t.val t.isLt).o20
    | ⟨21, _⟩ => (outsAt0 m c t.val t.isLt).o21
    | ⟨22, _⟩ => (outsAt0 m c t.val t.isLt).o22
    | ⟨23, _⟩ => (outsAt0 m c t.val t.isLt).o23
    | ⟨24, _⟩ => (outsAt0 m c t.val t.isLt).o24
    | ⟨25, _⟩ => (outsAt0 m c t.val t.isLt).o25
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).o17 := by dsimp only [dats]
theorem after0_18 (c : Dev nD) (t : Fin cfg0.N) : (dats m 0 c).after 18 t = (outsAt0 m c t.val t.isLt).o18 := by dsimp only [dats]
theorem after0_19 (c : Dev nD) (t : Fin cfg0.N) : (dats m 0 c).after 19 t = (outsAt0 m c t.val t.isLt).o19 := by dsimp only [dats]
theorem after0_20 (c : Dev nD) (t : Fin cfg0.N) : (dats m 0 c).after 20 t = (outsAt0 m c t.val t.isLt).o20 := by dsimp only [dats]
theorem after0_21 (c : Dev nD) (t : Fin cfg0.N) : (dats m 0 c).after 21 t = (outsAt0 m c t.val t.isLt).o21 := by dsimp only [dats]
theorem after0_22 (c : Dev nD) (t : Fin cfg0.N) : (dats m 0 c).after 22 t = (outsAt0 m c t.val t.isLt).o22 := by dsimp only [dats]
theorem after0_23 (c : Dev nD) (t : Fin cfg0.N) : (dats m 0 c).after 23 t = (outsAt0 m c t.val t.isLt).o23 := by dsimp only [dats]
theorem after0_24 (c : Dev nD) (t : Fin cfg0.N) : (dats m 0 c).after 24 t = (outsAt0 m c t.val t.isLt).o24 := by dsimp only [dats]
theorem after0_25 (c : Dev nD) (t : Fin cfg0.N) : (dats m 0 c).after 25 t = (outsAt0 m c t.val t.isLt).o25 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- After the first column tile of a row tile output 17's block still holds what the point before left in it. -/
theorem before0_17_keep (c : Dev nD) (t : Fin cfg0.N) (h0 : ¬t.val % 37 = 0) (d) :
    (dats m 0 c).before 17 t d = (outsAt0 m c (t.val - 1) (Nat.lt_of_le_of_lt (Nat.sub_le _ _) t.isLt)).o17 := by
  have hN : t.val < 592 := lt_of_lt_of_eq t.isLt (show cfg0.N = 592 from N_0)
  rw [Dat.before_out_kept _ 17 rfl t (by omega) (Bool.eq_false_iff.mpr fun h => by have := (flush0_17 _).mp h; dsimp only at this; omega)
    (fun _ => rfl) (fun _ _ => rfl)]
  dsimp only [dats]

/-- After the first column tile of a row tile output 19's block still holds what the point before left in it. -/
theorem before0_19_keep (c : Dev nD) (t : Fin cfg0.N) (h0 : ¬t.val % 37 = 0) (d) :
    (dats m 0 c).before 19 t d = (outsAt0 m c (t.val - 1) (Nat.lt_of_le_of_lt (Nat.sub_le _ _) t.isLt)).o19 := by
  have hN : t.val < 592 := lt_of_lt_of_eq t.isLt (show cfg0.N = 592 from N_0)
  rw [Dat.before_out_kept _ 19 rfl t (by omega) (Bool.eq_false_iff.mpr fun h => by have := (flush0_19 _).mp h; dsimp only at this; omega)
    (fun _ => rfl) (fun _ _ => rfl)]
  dsimp only [dats]

/-- After the first column tile of a row tile output 21's block still holds what the point before left in it. -/
theorem before0_21_keep (c : Dev nD) (t : Fin cfg0.N) (h0 : ¬t.val % 37 = 0) (d) :
    (dats m 0 c).before 21 t d = (outsAt0 m c (t.val - 1) (Nat.lt_of_le_of_lt (Nat.sub_le _ _) t.isLt)).o21 := by
  have hN : t.val < 592 := lt_of_lt_of_eq t.isLt (show cfg0.N = 592 from N_0)
  rw [Dat.before_out_kept _ 21 rfl t (by omega) (Bool.eq_false_iff.mpr fun h => by have := (flush0_21 _).mp h; dsimp only at this; omega)
    (fun _ => rfl) (fun _ _ => rfl)]
  dsimp only [dats]

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]

theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]

theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]

theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]

theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]

theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]

theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]

theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]

theorem leaves0_8 (c : Dev nD) (t : Fin cfg0.N) :
    (dats m 0 c).leavesExact 8 t = owns (c : Thread nD τ) (ms0_8 t) fullShare ((dats m 0 c).after 8 t) := by
  unfold Dat.leavesExact; rw [liveAt0_8 t]

theorem leaves0_9 (c : Dev nD) (t : Fin cfg0.N) :
    (dats m 0 c).leavesExact 9 t = owns (c : Thread nD τ) (ms0_9 t) fullShare ((dats m 0 c).after 9 t) := by
  unfold Dat.leavesExact; rw [liveAt0_9 t]

theorem leaves0_10 (c : Dev nD) (t : Fin cfg0.N) :
    (dats m 0 c).leavesExact 10 t = owns (c : Thread nD τ) (ms0_10 t) fullShare ((dats m 0 c).after 10 t) := by
  unfold Dat.leavesExact; rw [liveAt0_10 t]

theorem leaves0_11 (c : Dev nD) (t : Fin cfg0.N) :
    (dats m 0 c).leavesExact 11 t = owns (c : Thread nD τ) (ms0_11 t) fullShare ((dats m 0 c).after 11 t) := by
  unfold Dat.leavesExact; rw [liveAt0_11 t]

theorem leaves0_12 (c : Dev nD) (t : Fin cfg0.N) :
    (dats m 0 c).leavesExact 12 t = owns (c : Thread nD τ) (ms0_12 t) fullShare ((dats m 0 c).after 12 t) := by
  unfold Dat.leavesExact; rw [liveAt0_12 t]

theorem leaves0_13 (c : Dev nD) (t : Fin cfg0.N) :
    (dats m 0 c).leavesExact 13 t = owns (c : Thread nD τ) (ms0_13 t) fullShare ((dats m 0 c).after 13 t) := by
  unfold Dat.leavesExact; rw [liveAt0_13 t]

theorem leaves0_14 (c : Dev nD) (t : Fin cfg0.N) :
    (dats m 0 c).leavesExact 14 t = owns (c : Thread nD τ) (ms0_14 t) fullShare ((dats m 0 c).after 14 t) := by
  unfold Dat.leavesExact; rw [liveAt0_14 t]

theorem leaves0_15 (c : Dev nD) (t : Fin cfg0.N) :
    (dats m 0 c).leavesExact 15 t = owns (c : Thread nD τ) (ms0_15 t) fullShare ((dats m 0 c).after 15 t) := by
  unfold Dat.leavesExact; rw [liveAt0_15 t]

theorem leaves0_16 (c : Dev nD) (t : Fin cfg0.N) :
    (dats m 0 c).leavesExact 16 t = owns (c : Thread nD τ) (ms0_16 t) fullShare ((dats m 0 c).after 16 t) := by
  unfold Dat.leavesExact; rw [liveAt0_16 t]

theorem leaves0_17 (c : Dev nD) (t : Fin cfg0.N) :
    (dats m 0 c).leavesExact 17 t = owns (c : Thread nD τ) (ms0_17 t) fullShare ((dats m 0 c).after 17 t) := by
  unfold Dat.leavesExact; rw [liveAt0_17 t]

theorem leaves0_18 (c : Dev nD) (t : Fin cfg0.N) :
    (dats m 0 c).leavesExact 18 t = owns (c : Thread nD τ) (ms0_18 t) fullShare ((dats m 0 c).after 18 t) := by
  unfold Dat.leavesExact; rw [liveAt0_18 t]

theorem leaves0_19 (c : Dev nD) (t : Fin cfg0.N) :
    (dats m 0 c).leavesExact 19 t = owns (c : Thread nD τ) (ms0_19 t) fullShare ((dats m 0 c).after 19 t) := by
  unfold Dat.leavesExact; rw [liveAt0_19 t]

theorem leaves0_20 (c : Dev nD) (t : Fin cfg0.N) :
    (dats m 0 c).leavesExact 20 t = owns (c : Thread nD τ) (ms0_20 t) fullShare ((dats m 0 c).after 20 t) := by
  unfold Dat.leavesExact; rw [liveAt0_20 t]

theorem leaves0_21 (c : Dev nD) (t : Fin cfg0.N) :
    (dats m 0 c).leavesExact 21 t = owns (c : Thread nD τ) (ms0_21 t) fullShare ((dats m 0 c).after 21 t) := by
  unfold Dat.leavesExact; rw [liveAt0_21 t]

theorem leaves0_24 (c : Dev nD) (t : Fin cfg0.N) :
    (dats m 0 c).leavesExact 24 t = owns (c : Thread nD τ) (ms0_24 t) fullShare ((dats m 0 c).after 24 t) := by
  unfold Dat.leavesExact; rw [liveAt0_24 t]

theorem leaves0_25 (c : Dev nD) (t : Fin cfg0.N) :
    (dats m 0 c).leavesExact 25 t = owns (c : Thread nD τ) (ms0_25 t) fullShare ((dats m 0 c).after 25 t) := by
  unfold Dat.leavesExact; rw [liveAt0_25 t]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

end Cert.MainIdeal.Gen

end
-- ==== Proof.MainFrame.lean ====
/-
The body of the main call at every grid point, the run of the whole call, and that it leaves its arguments alone.
-/
module

public import proofs.«01_k».proof.Proof.MainPoints

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at the first column tile of a row tile, the very first point of the grid. -/
theorem bodyA0 (c : Dev nD) (t : Fin cfg0.N) (h0 : t.val % 37 = 0) (h1 : ¬t.val % 37 = 36) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20, leaves0_21, after0_21, leaves0_24, after0_24, leaves0_25, after0_25]
  rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
  rw [Dat.leavesExact_idle (dats m 0 c) 23 t (idleAt0_23_A t ((hcond0_0 t).mpr h0) (fun h => h1 ((hcond0_1 t).mp h))) (noFlush0_23_A t ((hcond0_0 t).mpr h0) (fun h => h1 ((hcond0_1 t).mp h)))]
  rw [PhiS_castSucc m c t, PhiS_zero m c _ _ hz, PhiA0_eq]
  rw [outsAt0_A m c t h0 h1]
  unfold outsA; dsimp only
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runA m c t h0 h1).2.2.2.2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, ⟨%e24, H24⟩, ⟨%e25, H25⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ _ _ _ (scoverA_6 m c t h0 h1)
      unfold owns; iexists _; isplitr
      swap; · iexact HS7
      ipureintro; exact View.read_writes_of_cover _ _ _ _ _ (scoverA_7 m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverA_17 m c t h0 h1)
  isplitl [H18]
  · unfold owns; iexists _; isplitr
    swap; · iexact H18
    ipureintro; exact View.read_writes_of_cover _ _ _ _ _ (coverA_18 m c t h0 h1)
  isplitl [H19]
  · unfold owns; iexists _; isplitr
    swap; · iexact H19
    ipureintro; exact View.read_writes_of_cover _ _ _ _ _ (coverA_19 m c t h0 h1)
  isplitl [H20]
  · unfold owns; iexists _; isplitr
    swap; · iexact H20
    ipureintro; exact View.read_writes_of_cover _ _ _ _ _ (coverA_20 m c t h0 h1)
  isplitl [H21]
  · unfold owns; iexists _; isplitr
    swap; · iexact H21
    ipureintro; exact View.read_writes_of_cover _ _ _ _ _ (coverA_21 m c t h0 h1)
  isplitl [H22]; · iexists _; iexact H22
  isplitl [H23]; · iexists _; iexact H23
  isplitl [H24]
  · unfold owns; iexists _; isplitr
    swap; · iexact H24
    ipureintro; exact View.read_writes_of_cover _ _ _ _ _ (coverA_24 m c t h0 h1)
  unfold owns; iexists _; isplitr
  swap; · iexact H25
  ipureintro; exact View.read_writes_of_cover _ _ _ _ _ (coverA_25 m c t h0 h1)

set_option maxHeartbeats 10000000 in
/-- The body at the first column tile of a row tile, not the first of the grid. -/
theorem bodyA (c : Dev nD) (t : Fin cfg0.N) (h0 : t.val % 37 = 0) (h1 : ¬t.val % 37 = 36) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20, leaves0_21, after0_21, leaves0_24, after0_24, leaves0_25, after0_25]
  rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
  rw [Dat.leavesExact_idle (dats m 0 c) 23 t (idleAt0_23_A t ((hcond0_0 t).mpr h0) (fun h => h1 ((hcond0_1 t).mp h))) (noFlush0_23_A t ((hcond0_0 t).mpr h0) (fun h => h1 ((hcond0_1 t).mp h)))]
  rw [PhiS_castSucc m c t, PhiS_pos m c _ _ hz]
  rw [outsAt0_A m c t h0 h1]
  unfold outsA; dsimp only
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runA m c t h0 h1).2.2.2.2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexists _; iexact HS6
  isplitl [HS7]; · iexists _; iexact HS7
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, ⟨%e24, H24⟩, ⟨%e25, H25⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ _ _ _ (scoverA_6 m c t h0 h1)
      unfold owns; iexists _; isplitr
      swap; · iexact HS7
      ipureintro; exact View.read_writes_of_cover _ _ _ _ _ (scoverA_7 m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverA_17 m c t h0 h1)
  isplitl [H18]
  · unfold owns; iexists _; isplitr
    swap; · iexact H18
    ipureintro; exact View.read_writes_of_cover _ _ _ _ _ (coverA_18 m c t h0 h1)
  isplitl [H19]
  · unfold owns; iexists _; isplitr
    swap; · iexact H19
    ipureintro; exact View.read_writes_of_cover _ _ _ _ _ (coverA_19 m c t h0 h1)
  isplitl [H20]
  · unfold owns; iexists _; isplitr
    swap; · iexact H20
    ipureintro; exact View.read_writes_of_cover _ _ _ _ _ (coverA_20 m c t h0 h1)
  isplitl [H21]
  · unfold owns; iexists _; isplitr
    swap; · iexact H21
    ipureintro; exact View.read_writes_of_cover _ _ _ _ _ (coverA_21 m c t h0 h1)
  isplitl [H22]; · iexists _; iexact H22
  isplitl [H23]; · iexists _; iexact H23
  isplitl [H24]
  · unfold owns; iexists _; isplitr
    swap; · iexact H24
    ipureintro; exact View.read_writes_of_cover _ _ _ _ _ (coverA_24 m c t h0 h1)
  unfold owns; iexists _; isplitr
  swap; · iexact H25
  ipureintro; exact View.read_writes_of_cover _ _ _ _ _ (coverA_25 m c t h0 h1)

set_option maxHeartbeats 10000000 in
/-- The body at a column tile that is neither the first nor the last of its row tile. -/
theorem bodyB (c : Dev nD) (t : Fin cfg0.N) (h0 : ¬t.val % 37 = 0) (h1 : ¬t.val % 37 = 36) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20, leaves0_21, after0_21, leaves0_24, after0_24, leaves0_25, after0_25]
  rw [Dat.leavesExact_idle (dats m 0 c) 22 t (idleAt0_22_B t (fun h => h0 ((hcond0_0 t).mp h)) (fun h => h1 ((hcond0_1 t).mp h))) (noFlush0_22_B t (fun h => h0 ((hcond0_0 t).mp h)) (fun h => h1 ((hcond0_1 t).mp h)))]
  rw [Dat.leavesExact_idle (dats m 0 c) 23 t (idleAt0_23_B t (fun h => h0 ((hcond0_0 t).mp h)) (fun h => h1 ((hcond0_1 t).mp h))) (noFlush0_23_B t (fun h => h0 ((hcond0_0 t).mp h)) (fun h => h1 ((hcond0_1 t).mp h)))]
  have hz : t.val ≠ 0 := fun h => h0 (by rw [h])
  rw [PhiS_castSucc m c t, PhiS_pos m c _ _ hz]
  rw [outsAt0_B m c t h0 h1]
  simp only [before0_17_keep m c t h0, before0_19_keep m c t h0, before0_21_keep m c t h0]
  unfold outsB; dsimp only
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runB m c t h0 h1 _ _ _ _ _).2.2.2.2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexact H19
  isplitl [H20]; · iexists _; iexact H20
  isplitl [H21]; · iexact H21
  isplitl [H22]; · iexact H22
  isplitl [H23]; · iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, H22, H23, ⟨%e24, H24⟩, ⟨%e25, H25⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ _ _ _ (scoverB_6 m c t h0 h1 _ _ _ _ _)
      unfold owns; iexists _; isplitr
      swap; · iexact HS7
      ipureintro; exact View.read_writes_of_cover _ _ _ _ _ (scoverB_7 m c t h0 h1 _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverB_17 m c t h0 h1 _ _ _ _ _)
  isplitl [H18]
  · unfold owns; iexists _; isplitr
    swap; · iexact H18
    ipureintro; exact View.read_writes_of_cover _ _ _ _ _ (coverB_18 m c t h0 h1 _ _ _ _ _)
  isplitl [H19]
  · unfold owns; iexists _; isplitr
    swap; · iexact H19
    ipureintro; exact View.read_writes_of_cover _ _ _ _ _ (coverB_19 m c t h0 h1 _ _ _ _ _)
  isplitl [H20]
  · unfold owns; iexists _; isplitr
    swap; · iexact H20
    ipureintro; exact View.read_writes_of_cover _ _ _ _ _ (coverB_20 m c t h0 h1 _ _ _ _ _)
  isplitl [H21]
  · unfold owns; iexists _; isplitr
    swap; · iexact H21
    ipureintro; exact View.read_writes_of_cover _ _ _ _ _ (coverB_21 m c t h0 h1 _ _ _ _ _)
  isplitl [H22]; · iexists _; iexact H22
  isplitl [H23]; · iexists _; iexact H23
  isplitl [H24]
  · unfold owns; iexists _; isplitr
    swap; · iexact H24
    ipureintro; exact View.read_writes_of_cover _ _ _ _ _ (coverB_24 m c t h0 h1 _ _ _ _ _)
  unfold owns; iexists _; isplitr
  swap; · iexact H25
  ipureintro; exact View.read_writes_of_cover _ _ _ _ _ (coverB_25 m c t h0 h1 _ _ _ _ _)

set_option maxHeartbeats 10000000 in
/-- The body at the last column tile of a row tile. -/
theorem bodyC (c : Dev nD) (t : Fin cfg0.N) (h0 : ¬t.val % 37 = 0) (h1 : t.val % 37 = 36) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20, leaves0_21, after0_21, leaves0_24, after0_24, leaves0_25, after0_25]
  rw [show (dats m 0 c).leavesExact 22 t = owns (c : Thread nD τ) (ms0_22 t) fullShare ((dats m 0 c).after 22 t) from by
    unfold Dat.leavesExact; rw [liveAt0_22_C t (fun h => h0 ((hcond0_0 t).mp h)) ((hcond0_1 t).mpr h1)], after0_22]
  rw [show (dats m 0 c).leavesExact 23 t = owns (c : Thread nD τ) (ms0_23 t) fullShare ((dats m 0 c).after 23 t) from by
    unfold Dat.leavesExact; rw [liveAt0_23_C t (fun h => h0 ((hcond0_0 t).mp h)) ((hcond0_1 t).mpr h1)], after0_23]
  have hz : t.val ≠ 0 := fun h => h0 (by rw [h])
  rw [PhiS_castSucc m c t, PhiS_pos m c _ _ hz]
  rw [outsAt0_C m c t h0 h1]
  simp only [before0_17_keep m c t h0, before0_19_keep m c t h0, before0_21_keep m c t h0]
  unfold outsC; dsimp only
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runC m c t h0 h1 _ _ _ _ _).2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexact H19
  isplitl [H20]; · iexists _; iexact H20
  isplitl [H21]; · iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ _ _ _ (scoverC_6 m c t h0 h1 _ _ _ _ _)
      unfold owns; iexists _; isplitr
      swap; · iexact HS7
      ipureintro; exact View.read_writes_of_cover _ _ _ _ _ (scoverC_7 m c t h0 h1 _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverC_17 m c t h0 h1 _ _ _ _ _)
  isplitl [H18]
  · unfold owns; iexists _; isplitr
    swap; · iexact H18
    ipureintro; exact View.read_writes_of_cover _ _ _ _ _ (coverC_18 m c t h0 h1 _ _ _ _ _)
  isplitl [H19]
  · unfold owns; iexists _; isplitr
    swap; · iexact H19
    ipureintro; exact View.read_writes_of_cover _ _ _ _ _ (coverC_19 m c t h0 h1 _ _ _ _ _)
  isplitl [H20]
  · unfold owns; iexists _; isplitr
    swap; · iexact H20
    ipureintro; exact View.read_writes_of_cover _ _ _ _ _ (coverC_20 m c t h0 h1 _ _ _ _ _)
  isplitl [H21]
  · unfold owns; iexists _; isplitr
    swap; · iexact H21
    ipureintro; exact View.read_writes_of_cover _ _ _ _ _ (coverC_21 m c t h0 h1 _ _ _ _ _)
  isplitl [H22]
  · unfold owns; iexists _; isplitr
    swap; · iexact H22
    ipureintro; exact View.read_writes_of_cover _ _ _ _ _ (coverC_22 m c t h0 h1 _ _ _ _ _)
  isplitl [H23]
  · unfold owns; iexists _; isplitr
    swap; · iexact H23
    ipureintro; exact View.read_writes_of_cover _ _ _ _ _ (coverC_23 m c t h0 h1 _ _ _ _ _)
  isplitl [H24]
  · unfold owns; iexists _; isplitr
    swap; · iexact H24
    ipureintro; exact View.read_writes_of_cover _ _ _ _ _ (coverC_24 m c t h0 h1 _ _ _ _ _)
  unfold owns; iexists _; isplitr
  swap; · iexact H25
  ipureintro; exact View.read_writes_of_cover _ _ _ _ _ (coverC_25 m c t h0 h1 _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 37 = 0
  · by_cases hz : t.val = 0
    · exact bodyA0 m c t h0 (by omega) hz
    · exact bodyA m c t h0 (by omega) hz
  · by_cases h1 : t.val % 37 = 36
    · exact bodyC m c t h0 h1
    · exact bodyB m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexists _; iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 592 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The whole call ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.MainIdeal.Gen

end
-- ==== Proof.DownStep.lean ====
module
public import proofs.«01_k».proof.Proof.Gen.DownIdeal.Skeleton
public import Idealize.ShloMosaic.Lib.Pointwise

@[expose] public section
noncomputable section
namespace Cert.DownIdeal.Step
open Cert.DownIdeal Cert.DownIdeal.Gen Idealize.ShloMosaic Idealize.ShloMosaic.TcCoe Idealize.ShloMosaic.Pointwise

/-- The first of the four scale lanes that a column tile uses, as the body computes it. -/
def lane0 (n : ℕ) : BitVec 32 :=
  let v0 : BitVec 32 := Scalar.muli (BitVec.ofNat 32 n) 4#32
  let v2 : BitVec 32 := Scalar.select (Scalar.cmpi .eq 128#32 0#32) 1#32 128#32
  let v3 : BitVec 32 := Scalar.remsi v0 v2
  Scalar.select (Scalar.andi (Scalar.xori (Scalar.cmpi .slt v3 0#32) (Scalar.cmpi .slt v2 0#32)) (Scalar.cmpi .ne v3 0#32))
    (Scalar.addi v3 v2) v3

/-- The lane that piece `g` of column tile `n` reads, after the wrap of negative indices. -/
theorem lane_eq : ∀ n : Fin 37, ∀ g : Fin 4, (Scalar.select (Scalar.cmpi .slt (Scalar.addi (lane0 n.val) (BitVec.ofNat 32 g.val)) 0#32)
    (Scalar.addi (Scalar.addi (lane0 n.val) (BitVec.ofNat 32 g.val)) 128#32) (Scalar.addi (lane0 n.val) (BitVec.ofNat 32 g.val))).toNat % 128
      = 4 * n.val % 128 + g.val := by
  decide +kernel

theorem lane_lt (n : ℕ) (f : Fin 512) : 4 * n % 128 + f.val / 128 < 128 := by
  have := f.isLt
  omega

/-- One dequantised tile of the activation: the code times the scale of its row and of its group of 128 columns. -/
theorem deq_apply (i : grid0.Coords) (x1 : Vec Ideal S1024x512 .fp8e4m3) (c0 c1 c2 c3 : Vec Ideal S1024x128 .fp8e4m3) (s : Vec Ideal S1024x128 .f32)
    (h0 : ∀ k (l : Fin 128), c0 (ix2 k l) = x1 (ix2 k ⟨l.val, by omega⟩))
    (h1 : ∀ k (l : Fin 128), c1 (ix2 k l) = x1 (ix2 k ⟨128 + l.val, by omega⟩))
    (h2 : ∀ k (l : Fin 128), c2 (ix2 k l) = x1 (ix2 k ⟨256 + l.val, by omega⟩))
    (h3 : ∀ k (l : Fin 128), c3 (ix2 k l) = x1 (ix2 k ⟨384 + l.val, by omega⟩))
    (k : Fin 1024) (f : Fin 512) :
   k0_pay8 (lane0 (i 0).val) (k0_pay2 i c0 s) (k0_pay3 c1) (k0_pay4 s) (k0_pay5 i) (k0_pay6 i) (k0_pay7 i) c2 s c3 s (ix2 k f)
     = (x1 (ix2 k f) * s (ix2 k ⟨4 * (i 0).val % 128 + f.val / 128, lane_lt _ f⟩) : EReal) := by
  have hi : (i 0).val < 37 := (i 0).isLt
  have hf := f.isLt
  pointwise [k0_pay8, k0_pay2, k0_pay3, k0_pay4, k0_pay5, k0_pay6, k0_pay7]
  split
  · rw [h0]
    refine Ideal.mul_congr (congrArg (fun q => x1 (ix2 k q)) (Fin.ext ?_)) (congrArg (fun q => s (ix2 k q)) (Fin.ext ?_))
    · show f.val = f.val; omega
    · refine (lane_eq ⟨(i 0).val, hi⟩ 0).trans ?_
      show 4 * (i 0).val % 128 + 0 = 4 * (i 0).val % 128 + f.val / 128
      omega
  split
  · rw [h1]
    refine Ideal.mul_congr (congrArg (fun q => x1 (ix2 k q)) (Fin.ext ?_)) (congrArg (fun q => s (ix2 k q)) (Fin.ext ?_))
    · show 128 + (f.val - 128) = f.val; omega
    · refine (lane_eq ⟨(i 0).val, hi⟩ 1).trans ?_
      show 4 * (i 0).val % 128 + 1 = 4 * (i 0).val % 128 + f.val / 128
      omega
  split
  · rw [h2]
    refine Ideal.mul_congr (congrArg (fun q => x1 (ix2 k q)) (Fin.ext ?_)) (congrArg (fun q => s (ix2 k q)) (Fin.ext ?_))
    · show 256 + (f.val - 128 - 128) = f.val; omega
    · refine (lane_eq ⟨(i 0).val, hi⟩ 2).trans ?_
      show 4 * (i 0).val % 128 + 2 = 4 * (i 0).val % 128 + f.val / 128
      omega
  · rw [h3]
    refine Ideal.mul_congr (congrArg (fun q => x1 (ix2 k q)) (Fin.ext ?_)) (congrArg (fun q => s (ix2 k q)) (Fin.ext ?_))
    · show 384 + (f.val - 128 - 128 - 128) = f.val; omega
    · refine (lane_eq ⟨(i 0).val, hi⟩ 3).trans ?_
      show 4 * (i 0).val % 128 + 3 = 4 * (i 0).val % 128 + f.val / 128
      omega

/-- One token tile's step: the block it finds plus the product over the tile's 1024 tokens. -/
theorem pay1_apply (v75 : FVec Ideal S1024x512 .bf16) (v79 : Vec Ideal S320x512 .f32) (v81 : Vec Ideal S320x1024 .bf16) (r : Fin 320) (f : Fin 512) :
    k0_pay1 v75 v79 v81 (ix2 r f) = (v79 (ix2 r f) + ∑ k : Fin 1024, v81 (ix2 r k) * v75 (ix2 k f) : EReal) := by
  pointwise [k0_pay1]

theorem pay9_eq (v : Vec Ideal S320x512 .f32) : k0_pay9 v = v := by
  unfold k0_pay9
  exact shapeCast_self _ _
end Cert.DownIdeal.Step
-- ==== Proof.DownMath.lean ====
/-
  The gradient of the down projection's A matrices as one formula: what is accumulated already, plus the sum over all
  8192 tokens of the token's projected gradient times the dequantised activation (code times the scale of its group of
  128 columns). Also the cut of that sum into tiles of 1024 tokens, for the kernel, which adds one tile per grid point.
-/
module

public import Idealize.ShloMosaic.Lib.Pointwise

@[expose] public section

noncomputable section

namespace Cert.Down

open Idealize.ShloMosaic Idealize.ShloMosaic.Pointwise

/-- One token's contribution to the entry at row `r`, column `f`. -/
def term (dz : (⟨2, ![8192, 320]⟩ : Shape).Idx → EReal) (codes : (⟨2, ![8192, 18944]⟩ : Shape).Idx → EReal)
    (scales : (⟨2, ![8192, 148]⟩ : Shape).Idx → EReal) (r : Fin 320) (f : Fin 18944) (u : Fin 8192) : EReal :=
  dz (ix2 u r) * (codes (ix2 u f) * scales (ix2 u ⟨f.val / 128, by omega⟩))

/-- The result: the accumulated array plus the contributions of all tokens. -/
def value (dz : (⟨2, ![8192, 320]⟩ : Shape).Idx → EReal) (codes : (⟨2, ![8192, 18944]⟩ : Shape).Idx → EReal)
    (scales : (⟨2, ![8192, 148]⟩ : Shape).Idx → EReal) (acc : (⟨2, ![320, 18944]⟩ : Shape).Idx → EReal) :
    (⟨2, ![320, 18944]⟩ : Shape).Idx → EReal := fun j =>
  acc j + ∑ u : Fin 8192, term dz codes scales (j 0) (j 1) u

/-- A function of the tokens, continued by zero to all naturals. -/
def ext {n : ℕ} (g : Fin n → EReal) (u : ℕ) : EReal := if h : u < n then g ⟨u, h⟩ else 0

theorem ext_of_lt {n : ℕ} (g : Fin n → EReal) (u : ℕ) (h : u < n) : ext g u = g ⟨u, h⟩ := dif_pos h

/-- Tiles of `b` tokens summed one after another are one sum. -/
theorem sum_tiles (g : ℕ → EReal) (b n : ℕ) :
    ∑ q ∈ Finset.range n, ∑ k : Fin b, g (b * q + k.val) = ∑ u ∈ Finset.range (b * n), g u := by
  induction n with
  | zero => simp
  | succ n ih => rw [Finset.sum_range_succ, ih, Nat.mul_succ, Finset.sum_range_add, Finset.sum_range (fun x => g (b * n + x))]

/-- All tiles together are the sum over all the tokens. -/
theorem sum_all {N : ℕ} (g : Fin N → EReal) (b n : ℕ) (h : b * n = N) :
    ∑ q ∈ Finset.range n, ∑ k : Fin b, ext g (b * q + k.val) = ∑ u : Fin N, g u := by
  subst h
  rw [sum_tiles, Finset.sum_range]
  exact Finset.sum_congr rfl fun u _ => ext_of_lt g u.val u.isLt

end Cert.Down

end
-- ==== Proof.DownValue.lean ====
module
public import proofs.«01_k».proof.Proof.Gen.DownIdeal.Value
public import proofs.«01_k».proof.Proof.DownStep
public import proofs.«01_k».proof.Proof.DownMath
public import Idealize.ShloMosaic.Lib.Pipeline.Value
public import Idealize.ShloMosaic.Lib.StableHlo.Run
public import Idealize.ShloMosaic.Lib.Tactic
public import Idealize.ShloMosaic.Lib.Pointwise
public import Idealize.ShloMosaic.Lib.Claim

@[expose] public section
noncomputable section
namespace Cert.DownIdeal.Step
open Cert.DownIdeal Cert.DownIdeal.Gen Idealize.ShloMosaic Idealize.ShloMosaic.TcCoe Idealize.ShloMosaic.Pointwise Idealize.SL.Sem
variable (m : (ℓ : Loc nD τ sig) → Buf (Elt Ideal) ℓ)

theorem V_v0 (c : Dev nD) : V m c main_v0 = transpose S320x8192 [1, 0] (m ((c : Thread nD τ).loc main_arg0)) transposes_S8192x320_S320x8192_1_0 := by
  unfold V hostOps0 hostOps0_1 hostOps0_2
  simp only [List.flatten_cons, List.flatten_nil, List.append_nil, List.cons_append, List.nil_append]
  after_results
theorem V_v2 (c : Dev nD) : V m c main_v2 = shapeCast (α := EReal) S320x18944 (m ((c : Thread nD τ).loc main_arg3)) shapeCasts_S5x64x18944_S320x18944 := by
  unfold V hostOps0 hostOps0_1 hostOps0_2
  simp only [List.flatten_cons, List.flatten_nil, List.append_nil, List.cons_append, List.nil_append]
  after_results
  rfl
theorem V_v1 (c : Dev nD) : V m c main_v1 = pad (α := EReal) S8192x256 ![0, 0] ![0, 108] ![0, 0] (m ((c : Thread nD τ).loc main_arg2)) (sitofp (F := Ideal) .f32 (constantI S_ 32 0#32)) pads_S8192x148_S8192x256_000_01080 h_S_ := by
  unfold V hostOps0 hostOps0_1 hostOps0_2
  simp only [List.flatten_cons, List.flatten_nil, List.append_nil, List.cons_append, List.nil_append]
  after_results
  rfl

theorem coords_eq : ∀ t : Fin grid0.N, (grid0.coords t 0).val = t.val / 8 ∧ (grid0.coords t 1).val = t.val % 8 := by
  decide +kernel
theorem index0 : ∀ t : Fin grid0.N, win0_0.index t 0 = 0 ∧ win0_0.index t 1 = t.val % 8 := by decide +kernel
theorem index1 : ∀ t : Fin grid0.N, win0_1.index t 0 = t.val % 8 ∧ win0_1.index t 1 = t.val / 8 := by decide +kernel
theorem index2 : ∀ t : Fin grid0.N, win0_2.index t 0 = t.val % 8 ∧ win0_2.index t 1 = t.val / 8 * 4 / 128 := by decide +kernel
theorem index3 : ∀ t : Fin grid0.N, win0_3.index t 0 = 0 ∧ win0_3.index t 1 = t.val / 8 := by decide +kernel
theorem index4 : ∀ t : Fin grid0.N, win0_4.index t 0 = 0 ∧ win0_4.index t 1 = t.val / 8 := by decide +kernel

theorem hz : (![0, 0] : Fin 2 → Nat) = fun _ => 0 := funext fun a => by fin_cases a <;> rfl

/-- What the body leaves in the output block, at an index, over the block it accumulates onto. -/
def stepAt (n : ℕ) (x0 : Vec Ideal S320x1024 .bf16) (x1 : Vec Ideal S1024x512 .fp8e4m3) (x2 : Vec Ideal S1024x128 .f32) (r : Fin 320) (f : Fin 512) : EReal :=
  ∑ k : Fin 1024, x0 (ix2 r k) * (x1 (ix2 k f) * x2 (ix2 k ⟨4 * n % 128 + f.val / 128, lane_lt _ f⟩))

theorem out_B (c : Dev nD) (i : grid0.Coords) (arg2 : Memref sig .tc .vmem S320x1024 .bf16) (harg2 : arg2.IsWhole) (arg3 : Memref sig .tc .vmem S1024x512 .fp8e4m3) (harg3 : arg3.IsWhole) (arg4 : Memref sig .tc .vmem S1024x128 .f32) (harg4 : arg4.IsWhole) (arg5 : Memref sig .tc .vmem S320x512 .f32) (harg5 : arg5.IsWhole) (arg6 : Memref sig .tc .vmem S320x512 .f32) (harg6 : arg6.IsWhole) (hc0 : ¬cond0_0 i)
    (x0 : Vec Ideal S320x1024 .bf16) (x1 : Vec Ideal S1024x512 .fp8e4m3) (x2 : Vec Ideal S1024x128 .f32) (x3 xo : Vec Ideal S320x512 .f32) (r : Fin 320) (f : Fin 512) :
    out0_B_4 c i arg2 harg2 arg3 harg3 arg4 harg4 arg5 harg5 arg6 harg6 hc0 x0 x1 x2 x3 xo (ix2 r f) = (xo (ix2 r f) + stepAt (i 0).val x0 x1 x2 r f : EReal) := by
  unfold out0_B_4
  rw [View.read_writes_eq_canon _ _ _ (cover0_B_4 c i arg2 harg2 arg3 harg3 arg4 harg4 arg5 harg5 arg6 harg6 hc0 x0 x1 x2 x3 xo)]
  unfold kernelRun0_B
  dsimp only
  sl_unfold_words
  rw [View.canon_unit_zero hz]
  simp only [View.readAt_eq_ld, harg2.read_unread, harg3.read_unread, harg4.read_unread, harg6.read_unread, View.ld_unit_zero (S := S320x512) hz, View.ld_unit_zero (S := S320x1024) hz, View.ld_unit_zero (S := S1024x128) hz]
  rw [pay1_apply]
  refine congrArg (xo (ix2 r f) + ·) (Finset.sum_congr rfl fun k _ => congrArg (x0 (ix2 r k) * ·) ?_)
  refine deq_apply i x1 _ _ _ _ x2 ?_ ?_ ?_ ?_ k f <;> intro k l <;> pointwise []

theorem out_A (c : Dev nD) (i : grid0.Coords) (arg2 : Memref sig .tc .vmem S320x1024 .bf16) (harg2 : arg2.IsWhole) (arg3 : Memref sig .tc .vmem S1024x512 .fp8e4m3) (harg3 : arg3.IsWhole) (arg4 : Memref sig .tc .vmem S1024x128 .f32) (harg4 : arg4.IsWhole) (arg5 : Memref sig .tc .vmem S320x512 .f32) (harg5 : arg5.IsWhole) (arg6 : Memref sig .tc .vmem S320x512 .f32) (harg6 : arg6.IsWhole) (hc0 : cond0_0 i)
    (x0 : Vec Ideal S320x1024 .bf16) (x1 : Vec Ideal S1024x512 .fp8e4m3) (x2 : Vec Ideal S1024x128 .f32) (x3 : Vec Ideal S320x512 .f32) (r : Fin 320) (f : Fin 512) :
    out0_A_4 c i arg2 harg2 arg3 harg3 arg4 harg4 arg5 harg5 arg6 harg6 hc0 x0 x1 x2 x3 (ix2 r f) = (x3 (ix2 r f) + stepAt (i 0).val x0 x1 x2 r f : EReal) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S320x512) hz, View.readCov_unit_zero (S := S320x512) _ hz]
  simp only [View.readAt_eq_ld, harg2.read_unread, harg3.read_unread, harg4.read_unread, harg5.read_unread, View.ld_unit_zero (S := S320x512) hz, View.ld_unit_zero (S := S320x1024) hz, View.ld_unit_zero (S := S1024x128) hz, pay9_eq]
  rw [pay1_apply]
  refine congrArg (x3 (ix2 r f) + ·) (Finset.sum_congr rfl fun k _ => congrArg (x0 (ix2 r k) * ·) ?_)
  refine deq_apply i x1 _ _ _ _ x2 ?_ ?_ ?_ ?_ k f <;> intro k l <;> pointwise []

theorem lt_N (t : Fin cfg0.N) : t.val < 296 := lt_of_lt_of_eq t.isLt N_0

/-- The padded scales at a group index that exists are the scales. -/
theorem pad_apply (x : (⟨2, ![8192, 148]⟩ : Shape).Idx → EReal) (v : (⟨0, ![]⟩ : Shape).Idx → EReal) (k : Fin 8192) (g : Fin 256) (hg : g.val < 148) :
    pad S8192x256 ![0, 0] ![0, 108] ![0, 0] x v pads_S8192x148_S8192x256_000_01080 h_S_ (ix2 k g) = x (ix2 k ⟨g.val, hg⟩) := by
  pointwise []
  exact dif_pos hg

theorem iblk0 (c : Dev nD) (t : Fin cfg0.N) (r : Fin 320) (k : Fin 1024) :
    iblk m c 0 t (ix2 r k) = m ((c : Thread nD τ).loc main_arg0) (ix2 ⟨1024 * (t.val % 8) + k.val, by omega⟩ r) := by
  unfold iblk
  rw [View.read_apply]
  show V m c main_v0 _ = _
  rw [V_v0]
  pointwise []
  congr 1
  refine congrArg₂ ix2 (Fin.ext ?_) (Fin.ext ?_)
  · show win0_0.index t 1 * 1024 + 1 * k.val = 1024 * (t.val % 8) + k.val
    rw [(index0 t).2]; omega
  · show win0_0.index t 0 * 320 + 1 * r.val = r.val
    rw [(index0 t).1]; omega

theorem iblk1 (c : Dev nD) (t : Fin cfg0.N) (k : Fin 1024) (f : Fin 512) :
    iblk m c 1 t (ix2 k f) = m ((c : Thread nD τ).loc main_arg1) (ix2 ⟨1024 * (t.val % 8) + k.val, by omega⟩ ⟨512 * (t.val / 8) + f.val, by have := lt_N t; omega⟩) := by
  unfold iblk
  rw [View.read_apply]
  show V m c main_arg1 _ = _
  rw [V_main_arg1]
  congr 1
  funext a
  apply Fin.ext
  match a with
  | ⟨0, _⟩ =>
    show win0_1.index t 0 * 1024 + 1 * k.val = 1024 * (t.val % 8) + k.val
    rw [(index1 t).1]; omega
  | ⟨1, _⟩ =>
    show win0_1.index t 1 * 512 + 1 * f.val = 512 * (t.val / 8) + f.val
    rw [(index1 t).2]; omega

theorem iblk3 (c : Dev nD) (t : Fin cfg0.N) (r : Fin 320) (f : Fin 512) :
    iblk m c 3 t (ix2 r f) = shapeCast (α := EReal) S320x18944 (m ((c : Thread nD τ).loc main_arg3)) shapeCasts_S5x64x18944_S320x18944 (ix2 r ⟨512 * (t.val / 8) + f.val, by have := lt_N t; omega⟩) := by
  unfold iblk
  rw [View.read_apply]
  show V m c main_v2 _ = _
  rw [V_v2]
  congr 1
  funext a
  apply Fin.ext
  match a with
  | ⟨0, _⟩ =>
    show win0_3.index t 0 * 320 + 1 * r.val = r.val
    rw [(index3 t).1]; omega
  | ⟨1, _⟩ =>
    show win0_3.index t 1 * 512 + 1 * f.val = 512 * (t.val / 8) + f.val
    rw [(index3 t).2]; omega

theorem iblk2 (c : Dev nD) (t : Fin cfg0.N) (k : Fin 1024) (f : Fin 512) :
    iblk m c 2 t (ix2 k ⟨4 * (t.val / 8) % 128 + f.val / 128, lane_lt _ f⟩) = m ((c : Thread nD τ).loc main_arg2) (ix2 ⟨1024 * (t.val % 8) + k.val, by omega⟩ ⟨(512 * (t.val / 8) + f.val) / 128, by have := lt_N t; omega⟩) := by
  unfold iblk
  rw [View.read_apply]
  show V m c main_v1 _ = _
  rw [V_v1]
  have e : ((cfg0.win 2).blk t).view.emb (ix2 k ⟨4 * (t.val / 8) % 128 + f.val / 128, lane_lt _ f⟩) = ix2 (⟨1024 * (t.val % 8) + k.val, by omega⟩ : Fin 8192) (⟨(512 * (t.val / 8) + f.val) / 128, by have := lt_N t; omega⟩ : Fin 256) := by
    funext a
    apply Fin.ext
    match a with
    | ⟨0, _⟩ =>
      show win0_2.index t 0 * 1024 + 1 * k.val = 1024 * (t.val % 8) + k.val
      rw [(index2 t).1]; omega
    | ⟨1, _⟩ =>
      show win0_2.index t 1 * 128 + 1 * (4 * (t.val / 8) % 128 + f.val / 128) = (512 * (t.val / 8) + f.val) / 128
      rw [(index2 t).2]; omega
  refine (congrArg _ e).trans ?_
  exact pad_apply _ _ _ _ (by have := lt_N t; show (512 * (t.val / 8) + f.val) / 128 < 148; omega)

/-- What the kernel computes from its four arguments. -/
abbrev result (c : Dev nD) : Buf (Elt Ideal) ((c : Thread nD τ).loc main_v3) :=
  Down.value (m ((c : Thread nD τ).loc main_arg0)) (m ((c : Thread nD τ).loc main_arg1)) (m ((c : Thread nD τ).loc main_arg2))
    (shapeCast (α := EReal) S320x18944 (m ((c : Thread nD τ).loc main_arg3)) shapeCasts_S5x64x18944_S320x18944)

/-- The token contributions to an entry. -/
abbrev tok (c : Dev nD) (r : Fin 320) (f : Fin 18944) : Fin 8192 → EReal :=
  Down.term (m ((c : Thread nD τ).loc main_arg0)) (m ((c : Thread nD τ).loc main_arg1)) (m ((c : Thread nD τ).loc main_arg2)) r f

/-- The array's column of a column of the block at a grid point. -/
abbrev col (t : Fin cfg0.N) (f : Fin 512) : Fin 18944 := ⟨512 * (t.val / 8) + f.val, by have := lt_N t; omega⟩

/-- One grid point adds its tile's tokens. -/
theorem stepAt_eq (c : Dev nD) (t : Fin cfg0.N) (r : Fin 320) (f : Fin 512) :
    stepAt (grid0.coords t 0).val (iblk m c 0 t) (iblk m c 1 t) (iblk m c 2 t) r f
      = ∑ k : Fin 1024, Down.ext (tok m c r (col t f)) (1024 * (t.val % 8) + k.val) := by
  rw [(coords_eq t).1]
  unfold stepAt
  refine Finset.sum_congr rfl fun k _ => ?_
  rw [iblk0, iblk1, iblk2, Down.ext_of_lt _ _ (by omega)]
  rfl

/-- After a grid point the output block holds the accumulated array plus the tiles of its column so far. -/
theorem outsAt_eq (c : Dev nD) (r : Fin 320) (f : Fin 512) : ∀ (n : ℕ) (h : n < cfg0.N), outsAt0 m c n h (ix2 r f)
    = (shapeCast (α := EReal) S320x18944 (m ((c : Thread nD τ).loc main_arg3)) shapeCasts_S5x64x18944_S320x18944 (ix2 r (col ⟨n, h⟩ f))
      + ∑ q ∈ Finset.range (n % 8 + 1), ∑ k : Fin 1024, Down.ext (tok m c r (col ⟨n, h⟩ f)) (1024 * q + k.val) : EReal) := by
  intro n
  induction n with
  | zero =>
    intro h
    refine (congrFun (outsAt0_A m c ⟨0, h⟩ rfl) _).trans ?_
    rw [out_A, stepAt_eq, iblk3]
    simp only [Nat.zero_mod, zero_add, Finset.sum_range_one]
  | succ n ih =>
    intro h
    by_cases h0 : (n + 1) % 8 = 0
    · refine (congrFun (outsAt0_A m c ⟨n + 1, h⟩ h0) _).trans ?_
      rw [out_A, stepAt_eq, iblk3]
      simp only [h0, zero_add, Finset.sum_range_one]
    · refine (congrFun (outsAt0_B m c ⟨n + 1, h⟩ h0) _).trans ?_
      rw [out_B, stepAt_eq]
      refine (congrArg (· + _) (ih (Nat.lt_of_succ_lt h))).trans ?_
      have e1 : col ⟨n, Nat.lt_of_succ_lt h⟩ f = col ⟨n + 1, h⟩ f := by
        apply Fin.ext
        show 512 * (n / 8) + f.val = 512 * ((n + 1) / 8) + f.val
        omega
      have e2 : (n + 1) % 8 = n % 8 + 1 := by omega
      rw [e1]
      simp only [e2]
      rw [Finset.sum_range_succ _ (n % 8 + 1), add_assoc]

/-- The last token tile of a column writes back the result's block. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  show (cfg0.win 4).cut (grid0.coords t) ((dats m 0 c).after 4 t) = _
  rw [after0_4]
  funext j
  rw [View.read_apply]
  obtain ⟨r, f, rfl⟩ : ∃ (r : Fin 320) (f : Fin 512), j = ix2 r f := ⟨j 0, j 1, eq_ix2 j⟩
  have e : ((cfg0.win 4).blk t).view.emb (ix2 r f) = ix2 r (col t f) := by
    funext a
    apply Fin.ext
    match a with
    | ⟨0, _⟩ =>
      show win0_4.index t 0 * 320 + 1 * r.val = r.val
      rw [(index4 t).1]; omega
    | ⟨1, _⟩ =>
      show win0_4.index t 1 * 512 + 1 * f.val = 512 * (t.val / 8) + f.val
      rw [(index4 t).2]; omega
  refine Eq.trans ?_ (congrArg (result m c) e).symm
  refine (outsAt_eq m c r f t.val t.isLt).trans ?_
  rw [h7, Down.sum_all _ 1024 8 rfl]
  rfl

/-- So the result array ends holding the formula. -/
theorem final_o (c : Dev nD) : (dats m 0 c).arrAt 4 cfg0.N = result m c :=
  (dats m 0 c).arrAt_eq_of_cover 4 (result m c) (flushed_eq m c) fun i => by
    have h0 : (i 0 : Nat) < 320 := (i 0).isLt
    have h1 : (i 1 : Nat) < 18944 := (i 1).isLt
    have hN : cfg0.N = 296 := N_0
    let t : Fin cfg0.N := ⟨(i 1 : Nat) / 512 * 8 + 7, by omega⟩
    have ht : t.val / 8 = (i 1 : Nat) / 512 := by show ((i 1 : Nat) / 512 * 8 + 7) / 8 = _; omega
    refine ⟨t, (flush0_4 t).mpr (by show ((i 1 : Nat) / 512 * 8 + 7) % 8 = 7; omega), ?_⟩
    show i ∈ ((View.whole main_v3).slice (win0_4.rect t)).set
    rw [View.set_slice_whole, Rect.mem_set_unit]
    intro a
    match a with
    | ⟨0, _⟩ =>
      show win0_4.index t 0 * 320 ≤ (i 0 : Nat) ∧ (i 0 : Nat) < win0_4.index t 0 * 320 + 320
      rw [(index4 t).1]; omega
    | ⟨1, _⟩ =>
      show win0_4.index t 1 * 512 ≤ (i 1 : Nat) ∧ (i 1 : Nat) < win0_4.index t 1 * 512 + 512
      rw [(index4 t).2, ht]; omega

/-- The run: the result array holds the formula and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_o m c), (h c).2⟩) (Value.run_blocks m ρ)

end Cert.DownIdeal.Step

end
-- ==== Proof.DownReference.lean ====
/-
  What the reference of the down call computes: the same formula, read off its one body.
-/
module

public import proofs.«01_k».proof.Proof.Gen.DownReferenceIdeal.Value
public import proofs.«01_k».proof.Proof.DownMath
public import Idealize.ShloMosaic.Lib.StableHlo.Run
public import Idealize.ShloMosaic.Lib.Tactic
public import Idealize.ShloMosaic.Lib.Claim

@[expose] public section

noncomputable section

namespace Cert.DownReferenceIdeal.Step

open Cert.DownReferenceIdeal Cert.DownReferenceIdeal.Gen Idealize.ShloMosaic Idealize.ShloMosaic.TcCoe Idealize.ShloMosaic.Pointwise Idealize.SL.Sem

variable (m : (ℓ : Loc nD τ sig) → Buf (Elt Ideal) ℓ)

theorem hz : (![0, 0] : Fin 2 → Nat) = fun _ => 0 := funext fun a => by fin_cases a <;> rfl

/-- The body's value is the formula. -/
theorem pay1_eq (v0 : Vec Ideal S320x18944 .f32) (v2 : Vec Ideal S8192x320 .bf16) (v3 : Vec Ideal S8192x18944 .fp8e4m3) (v4 : Vec Ideal S8192x148 .f32) :
    k0_pay1 v0 v2 v3 v4 = Down.value v2 v3 v4 v0 := by
  funext j
  obtain ⟨r, f, rfl⟩ : ∃ (r : Fin 320) (f : Fin 18944), j = ix2 r f := ⟨j 0, j 1, eq_ix2 j⟩
  pointwise [k0_pay1]
  rfl

theorem V_v0 (c : Dev nD) : V m c main_v0 = shapeCast (α := EReal) S320x18944 (m ((c : Thread nD τ).loc main_arg3)) shapeCasts_S5x64x18944_S320x18944 := by
  unfold V hostOps0
  after_results
  rfl

/-- What the reference computes from its four arguments. -/
abbrev result (c : Dev nD) : Buf (Elt Ideal) ((c : Thread nD τ).loc main_v1) :=
  Down.value (m ((c : Thread nD τ).loc main_arg0)) (m ((c : Thread nD τ).loc main_arg1)) (m ((c : Thread nD τ).loc main_arg2))
    (shapeCast (α := EReal) S320x18944 (m ((c : Thread nD τ).loc main_arg3)) shapeCasts_S5x64x18944_S320x18944)

theorem iblk0 (c : Dev nD) (t : Fin cfg0.N) : iblk m c 0 t = m ((c : Thread nD τ).loc main_arg0) := by
  refine Eq.trans ?_ (V_main_arg0 m c)
  funext j
  unfold iblk
  rw [View.read_apply]
  show V m c main_arg0 _ = _
  exact congrArg (V m c main_arg0) (funext fun a => Fin.ext (win0_0.rect_emb_val_of_index_zero t a rfl j))
theorem iblk1 (c : Dev nD) (t : Fin cfg0.N) : iblk m c 1 t = m ((c : Thread nD τ).loc main_arg1) := by
  refine Eq.trans ?_ (V_main_arg1 m c)
  funext j
  unfold iblk
  rw [View.read_apply]
  show V m c main_arg1 _ = _
  exact congrArg (V m c main_arg1) (funext fun a => Fin.ext (win0_1.rect_emb_val_of_index_zero t a rfl j))
theorem iblk2 (c : Dev nD) (t : Fin cfg0.N) : iblk m c 2 t = m ((c : Thread nD τ).loc main_arg2) := by
  refine Eq.trans ?_ (V_main_arg2 m c)
  funext j
  unfold iblk
  rw [View.read_apply]
  show V m c main_arg2 _ = _
  exact congrArg (V m c main_arg2) (funext fun a => Fin.ext (win0_2.rect_emb_val_of_index_zero t a rfl j))
theorem iblk3 (c : Dev nD) (t : Fin cfg0.N) : iblk m c 3 t = shapeCast (α := EReal) S320x18944 (m ((c : Thread nD τ).loc main_arg3)) shapeCasts_S5x64x18944_S320x18944 := by
  refine Eq.trans ?_ (V_v0 m c)
  funext j
  unfold iblk
  rw [View.read_apply]
  show V m c main_v0 _ = _
  exact congrArg (V m c main_v0) (funext fun a => Fin.ext (win0_3.rect_emb_val_of_index_zero t a rfl j))

theorem flushed_eq (c : Dev nD) (t : Fin cfg0.N) (hf : (cfg0.win 4).flush t = true) :
    (dats m 0 c).flushed 4 t = ((cfg0.win 4).blk t).view.read (Elt Ideal) (result m c) := by
  rw [Value.flushed4, iblk0, iblk1, iblk2, iblk3]
  unfold out0_4
  rw [View.canon_unit_zero hz]
  simp only [View.ld_unit_zero (S := S320x18944) hz, View.ld_unit_zero (S := S8192x320) hz, View.ld_unit_zero (S := S8192x18944) hz, View.ld_unit_zero (S := S8192x148) hz]
  rw [pay1_eq]
  funext j
  rw [View.read_apply]
  show result m c _ = result m c _
  exact congrArg (result m c) (funext fun a => Fin.ext (win0_4.rect_emb_val_of_index_zero t a rfl j)).symm

theorem final_o (c : Dev nD) : (dats m 0 c).arrAt 4 cfg0.N = result m c :=
  (dats m 0 c).arrAt_eq_of_cover 4 (result m c) (flushed_eq m c) fun i => by
    have h0 : (i 0 : Nat) < 320 := (i 0).isLt
    have h1 : (i 1 : Nat) < 18944 := (i 1).isLt
    let t : Fin cfg0.N := ⟨0, by decide⟩
    refine ⟨t, by decide, ?_⟩
    show i ∈ ((View.whole main_v1).slice (win0_4.rect t)).set
    rw [View.set_slice_whole, Rect.mem_set_unit]
    intro a
    match a with
    | ⟨0, _⟩ =>
      show 0 * 320 ≤ (i 0 : Nat) ∧ (i 0 : Nat) < 0 * 320 + 320
      omega
    | ⟨1, _⟩ =>
      show 0 * 18944 ≤ (i 1 : Nat) ∧ (i 1 : Nat) < 0 * 18944 + 18944
      omega

/-- The run: the result array holds the formula and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_o m c), (h c).2⟩) (Value.run_blocks m ρ)

end Cert.DownReferenceIdeal.Step

end
-- ==== Proof.DownClaim.lean ====
/-
  The down call against its reference: both end with the same array, the formula of `DownMath`.
-/
module

public import proofs.«01_k».proof.Defs
public import proofs.«01_k».proof.Proof.DownValue
public import proofs.«01_k».proof.Proof.DownReference

@[expose] public section

noncomputable section

namespace Cert.Down

open Idealize.ShloMosaic Idealize.SL.Sem

/-- The tiled accumulation of the down call and its reference compute the same array over the extended reals. -/
theorem algebraic : Cert.algebraic_DownIdeal_DownReferenceIdeal := by
  intro m ρ m' ρ' _ h
  refine ⟨fun c => DownIdeal.Step.result m c, DownIdeal.Step.run m ρ, ?_⟩
  refine (θ_run _ _ _).mono (fun r hr c => ⟨(hr c).1.trans ?_, (hr c).2⟩) (DownReferenceIdeal.Step.run m' ρ')
  obtain ⟨h0, h1, h2, h3⟩ := h c
  unfold DownReferenceIdeal.Step.result DownIdeal.Step.result
  rw [h0, h1, h2, h3]

end Cert.Down

end
-- ==== Proof.MainBits.lean ====
/-
The frame of the main call as compiled. Its text is that of the program read over the extended reals, so the proof of
that program, which holds for any float operations, is a proof about it.
-/
module

public import proofs.«01_k».proof.Defs
public import proofs.«01_k».proof.Proof.MainFrame
public import proofs.«01_k».proof.Proof.Gen.Main

@[expose] public section

set_option maxRecDepth 65536

noncomputable section

namespace Cert.MainBits

open Idealize.ShloMosaic Idealize.SL.Sem

set_option maxHeartbeats 4000000 in
/-- The two programs are the same program. -/
theorem same_main : (Cert.Main.main (F := Bits)) = (Cert.MainIdeal.main (F := Bits)) := rfl

set_option maxHeartbeats 4000000 in
/-- The bodies they call are the same. -/
theorem same_bodies : Cert.Main.defs₀ (F := Bits) = Cert.MainIdeal.defs₀ (F := Bits) := by
  unfold Cert.Main.defs₀ Cert.MainIdeal.defs₀
  congr 1
  funext l x
  match l with
  | 0 => rfl
  | ⟨n + 1, h⟩ => exact absurd h (Nat.not_lt.2 (Nat.le_add_left _ _))

set_option maxHeartbeats 4000000 in
/-- So the pipelines' definitions are the same. -/
theorem same_defs : Cert.Main.defs (F := Bits) = Cert.MainIdeal.defs (F := Bits) := by
  unfold Cert.Main.defs Cert.MainIdeal.defs
  rw [same_bodies]
  rfl

set_option maxHeartbeats 4000000 in
/-- The main call as compiled ends, and leaves its arguments as they were and every counter at zero. -/
theorem frame : Cert.quiescent_Main (hMain := Cert.Main.Gen.facts) := by
  intro m g _
  rw [same_defs, same_main]
  exact Cert.MainIdeal.Gen.frame (F := Bits) m g

end Cert.MainBits

end
-- ==== Proof.MainHost.lean ====
/-
The arrays the host operations before the main call prepare, and the blocks the call's windows cut from the arrays, at
one entry.
-/
module

public import proofs.«01_k».proof.Proof.MainPoints
public import Idealize.ShloMosaic.Lib.StableHlo.Run
public import Idealize.ShloMosaic.Lib.Tactic
public import Idealize.ShloMosaic.Lib.Pointwise
public import Idealize.ShloMosaic.Lib.Claim

@[expose] public section

set_option maxRecDepth 16384

noncomputable section

namespace Cert.MainIdeal.Host

open Cert.MainIdeal Cert.MainIdeal.Gen
open Idealize.ShloMosaic Idealize.ShloMosaic.TcCoe Idealize.ShloMosaic.Pointwise Idealize.SL.Sem

variable (m : (ℓ : Loc nD τ sig) → Buf (Elt Ideal) ℓ)

/-- A down weight's scale, repeated along its row block's columns. -/
theorem V_v27 (c : Dev nD) : V m c main_v27 = shapeCast (α := EReal) S28x18944
    (broadcastInDim S28x148x128 ![0, 1] bcast_S28x148_S28x148x128_0_1 (m ((c : Thread nD τ).loc main_arg7))) shapeCasts_S28x148x128_S28x18944 := by
  unfold V hostOps0 hostOps0_1 hostOps0_2
  simp only [List.flatten_cons, List.flatten_nil, List.append_nil, List.cons_append, List.nil_append]
  after_results
  rfl

theorem V_v30 (c : Dev nD) : V m c main_v30 = shapeCast (α := EReal) S37x4x3584 (shapeCast (α := EReal) S148x3584
    (broadcastInDim S148x28x128 ![0, 1] bcast_S148x28_S148x28x128_0_1 (m ((c : Thread nD τ).loc main_arg3))) shapeCasts_S148x28x128_S148x3584)
    shapeCasts_S148x3584_S37x4x3584 := by
  unfold V hostOps0 hostOps0_1 hostOps0_2
  simp only [List.flatten_cons, List.flatten_nil, List.append_nil, List.cons_append, List.nil_append]
  after_results
  rfl

theorem V_v33 (c : Dev nD) : V m c main_v33 = shapeCast (α := EReal) S37x4x3584 (shapeCast (α := EReal) S148x3584
    (broadcastInDim S148x28x128 ![0, 1] bcast_S148x28_S148x28x128_0_1 (m ((c : Thread nD τ).loc main_arg5))) shapeCasts_S148x28x128_S148x3584)
    shapeCasts_S148x3584_S37x4x3584 := by
  unfold V hostOps0 hostOps0_1 hostOps0_2
  simp only [List.flatten_cons, List.flatten_nil, List.append_nil, List.cons_append, List.nil_append]
  after_results
  rfl

theorem V_v34 (c : Dev nD) : V m c main_v34 = shapeCast (α := EReal) S320x18944 (m ((c : Thread nD τ).loc main_arg10)) shapeCasts_S5x64x18944_S320x18944 := by
  unfold V hostOps0 hostOps0_1 hostOps0_2
  simp only [List.flatten_cons, List.flatten_nil, List.append_nil, List.cons_append, List.nil_append]
  after_results
  rfl

theorem down_scale (x : S28x148.Idx → EReal) (g : Fin 28) (f : Fin 18944) :
    shapeCast (α := EReal) S28x18944 (broadcastInDim S28x148x128 ![0, 1] bcast_S28x148_S28x148x128_0_1 x) shapeCasts_S28x148x128_S28x18944 (ix2 g f)
      = x (ix2 g ⟨f.val / 128, by omega⟩) := by
  pointwise []

theorem weight_scale (x : S148x28.Idx → EReal) (i : Fin 37) (j : Fin 4) (e : Fin 3584) :
    shapeCast (α := EReal) S37x4x3584 (shapeCast (α := EReal) S148x3584
    (broadcastInDim S148x28x128 ![0, 1] bcast_S148x28_S148x28x128_0_1 x) shapeCasts_S148x28x128_S148x3584)
    shapeCasts_S148x3584_S37x4x3584 (ix3 i j e)
      = x (ix2 ⟨4 * i.val + j.val, by omega⟩ ⟨e.val / 128, by omega⟩) := by
  pointwise []
  refine congrArg x (congrArg₂ ix2 (Fin.ext ?_) rfl)
  show i.val * 4 + j.val = 4 * i.val + j.val
  omega

theorem lt_N (t : Fin cfg0.N) : t.val < 592 := lt_of_lt_of_eq t.isLt N_0
theorem coords1 : ∀ t : Fin grid0.N, (grid0.coords t 1).val = t.val % 37 := by decide +kernel
theorem index2 : ∀ t : Fin grid0.N, win0_2.index t 0 = t.val / 37 ∧ win0_2.index t 1 = 0 := by decide +kernel
theorem index3 : ∀ t : Fin grid0.N, win0_3.index t 0 = t.val / 37 ∧ win0_3.index t 1 = 0 := by decide +kernel
theorem index4 : ∀ t : Fin grid0.N, win0_4.index t 0 = 0 ∧ win0_4.index t 1 = t.val % 37 := by decide +kernel
theorem index5 : ∀ t : Fin grid0.N, win0_5.index t 0 = 0 ∧ win0_5.index t 1 = t.val % 37 := by decide +kernel
theorem index6 : ∀ t : Fin grid0.N, win0_6.index t 0 = t.val % 37 ∧ win0_6.index t 1 = 0 := by decide +kernel
theorem index7 : ∀ t : Fin grid0.N, win0_7.index t 0 = t.val % 37 ∧ win0_7.index t 1 = 0 ∧ win0_7.index t 2 = 0 := by decide +kernel
theorem index8 : ∀ t : Fin grid0.N, win0_8.index t 0 = t.val % 37 ∧ win0_8.index t 1 = 0 := by decide +kernel
theorem index9 : ∀ t : Fin grid0.N, win0_9.index t 0 = t.val % 37 ∧ win0_9.index t 1 = 0 ∧ win0_9.index t 2 = 0 := by decide +kernel
theorem index10 : ∀ t : Fin grid0.N, win0_10.index t 0 = t.val / 37 ∧ win0_10.index t 1 = t.val % 37 := by decide +kernel
theorem index11 : ∀ t : Fin grid0.N, win0_11.index t 0 = t.val / 37 ∧ win0_11.index t 1 = t.val % 37 := by decide +kernel
theorem index12 : ∀ t : Fin grid0.N, win0_12.index t 0 = 0 ∧ win0_12.index t 1 = t.val % 37 := by decide +kernel
theorem index17 : ∀ t : Fin grid0.N, win0_17.index t 0 = t.val / 37 ∧ win0_17.index t 1 = 0 := by decide +kernel
theorem index18 : ∀ t : Fin grid0.N, win0_18.index t 0 = t.val / 37 ∧ win0_18.index t 1 = t.val % 37 := by decide +kernel
theorem index19 : ∀ t : Fin grid0.N, win0_19.index t 0 = t.val / 37 ∧ win0_19.index t 1 = 0 := by decide +kernel
theorem index20 : ∀ t : Fin grid0.N, win0_20.index t 0 = t.val / 37 ∧ win0_20.index t 1 = t.val % 37 := by decide +kernel
theorem index21 : ∀ t : Fin grid0.N, win0_21.index t 0 = t.val / 37 ∧ win0_21.index t 1 = 0 := by decide +kernel

/-- The array's row of row `r` of a block at a grid point. -/
abbrev row (t : Fin cfg0.N) (r : Fin 512) : Fin 8192 := ⟨512 * (t.val / 37) + r.val, by have := lt_N t; omega⟩

/-- The array's column of column `f` of a block at a grid point. -/
abbrev col (t : Fin cfg0.N) (f : Fin 512) : Fin 18944 := ⟨512 * (t.val % 37) + f.val, by omega⟩

theorem iblk2 (c : Dev nD) (t : Fin cfg0.N) (r : Fin 512) (k : Fin 3584) :
    iblk m c 2 t (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_2.index t 0 * 512 + 1 * r.val = 512 * (t.val / 37) + r.val; rw [(index2 t).1]; omega
  | ⟨1, _⟩ => show win0_2.index t 1 * 3584 + 1 * k.val = k.val; rw [(index2 t).2]; omega

theorem iblk3 (c : Dev nD) (t : Fin cfg0.N) (r : Fin 512) (k : Fin 320) :
    iblk m c 3 t (ix2 r k) = m ((c : Thread nD τ).loc main_arg1) (ix2 (row t r) k) := by
  unfold iblk
  rw [View.read_apply]
  show V m c main_arg1 _ = _
  rw [V_main_arg1]
  congr 1
  funext a
  apply Fin.ext
  match a with
  | ⟨0, _⟩ => show win0_3.index t 0 * 512 + 1 * r.val = 512 * (t.val / 37) + r.val; rw [(index3 t).1]; omega
  | ⟨1, _⟩ => show win0_3.index t 1 * 320 + 1 * k.val = k.val; rw [(index3 t).2]; omega

theorem iblk4 (c : Dev nD) (t : Fin cfg0.N) (k : Fin 3584) (f : Fin 512) :
    iblk m c 4 t (ix2 k f) = m ((c : Thread nD τ).loc main_arg6) (ix2 k (col t f)) := by
  unfold iblk
  rw [View.read_apply]
  show V m c main_arg6 _ = _
  rw [V_main_arg6]
  congr 1
  funext a
  apply Fin.ext
  match a with
  | ⟨0, _⟩ => show win0_4.index t 0 * 3584 + 1 * k.val = k.val; rw [(index4 t).1]; omega
  | ⟨1, _⟩ => show win0_4.index t 1 * 512 + 1 * f.val = 512 * (t.val % 37) + f.val; rw [(index4 t).2]; omega

theorem iblk5 (c : Dev nD) (t : Fin cfg0.N) (g : Fin 28) (f : Fin 512) :
    iblk m c 5 t (ix2 g f) = m ((c : Thread nD τ).loc main_arg7) (ix2 g ⟨(col t f).val / 128, by have := (col t f).isLt; omega⟩) := by
  unfold iblk
  rw [View.read_apply]
  show V m c main_v27 _ = _
  rw [V_v27]
  refine Eq.trans (congrArg _ ?_) (down_scale _ g (col t f))
  funext a
  apply Fin.ext
  match a with
  | ⟨0, _⟩ => show win0_5.index t 0 * 28 + 1 * g.val = g.val; rw [(index5 t).1]; omega
  | ⟨1, _⟩ => show win0_5.index t 1 * 512 + 1 * f.val = 512 * (t.val % 37) + f.val; rw [(index5 t).2]; omega

theorem iblk6 (c : Dev nD) (t : Fin cfg0.N) (f : Fin 512) (e : Fin 3584) :
    iblk m c 6 t (ix2 f e) = m ((c : Thread nD τ).loc main_arg2) (ix2 (col t f) e) := by
  unfold iblk
  rw [View.read_apply]
  show V m c main_arg2 _ = _
  rw [V_main_arg2]
  congr 1
  funext a
  apply Fin.ext
  match a with
  | ⟨0, _⟩ => show win0_6.index t 0 * 512 + 1 * f.val = 512 * (t.val % 37) + f.val; rw [(index6 t).1]; omega
  | ⟨1, _⟩ => show win0_6.index t 1 * 3584 + 1 * e.val = e.val; rw [(index6 t).2]; omega

theorem iblk8 (c : Dev nD) (t : Fin cfg0.N) (f : Fin 512) (e : Fin 3584) :
    iblk m c 8 t (ix2 f e) = m ((c : Thread nD τ).loc main_arg4) (ix2 (col t f) e) := by
  unfold iblk
  rw [View.read_apply]
  show V m c main_arg4 _ = _
  rw [V_main_arg4]
  congr 1
  funext a
  apply Fin.ext
  match a with
  | ⟨0, _⟩ => show win0_8.index t 0 * 512 + 1 * f.val = 512 * (t.val % 37) + f.val; rw [(index8 t).1]; omega
  | ⟨1, _⟩ => show win0_8.index t 1 * 3584 + 1 * e.val = e.val; rw [(index8 t).2]; omega

theorem iblk7 (c : Dev nD) (t : Fin cfg0.N) (j : Fin 4) (e : Fin 3584) :
    iblk m c 7 t (ix3 0 j e) = m ((c : Thread nD τ).loc main_arg3) (ix2 ⟨4 * (t.val % 37) + j.val, by omega⟩ ⟨e.val / 128, by omega⟩) := by
  unfold iblk
  rw [View.read_apply]
  show V m c main_v30 _ = _
  rw [V_v30]
  refine Eq.trans (congrArg _ ?_) (weight_scale _ ⟨t.val % 37, by omega⟩ j e)
  funext a
  apply Fin.ext
  match a with
  | ⟨0, _⟩ => show win0_7.index t 0 * 1 + 1 * 0 = t.val % 37; rw [(index7 t).1]; omega
  | ⟨1, _⟩ => show win0_7.index t 1 * 4 + 1 * j.val = j.val; rw [(index7 t).2.1]; omega
  | ⟨2, _⟩ => show win0_7.index t 2 * 3584 + 1 * e.val = e.val; rw [(index7 t).2.2]; omega

theorem iblk9 (c : Dev nD) (t : Fin cfg0.N) (j : Fin 4) (e : Fin 3584) :
    iblk m c 9 t (ix3 0 j e) = m ((c : Thread nD τ).loc main_arg5) (ix2 ⟨4 * (t.val % 37) + j.val, by omega⟩ ⟨e.val / 128, by omega⟩) := by
  unfold iblk
  rw [View.read_apply]
  show V m c main_v33 _ = _
  rw [V_v33]
  refine Eq.trans (congrArg _ ?_) (weight_scale _ ⟨t.val % 37, by omega⟩ j e)
  funext a
  apply Fin.ext
  match a with
  | ⟨0, _⟩ => show win0_9.index t 0 * 1 + 1 * 0 = t.val % 37; rw [(index9 t).1]; omega
  | ⟨1, _⟩ => show win0_9.index t 1 * 4 + 1 * j.val = j.val; rw [(index9 t).2.1]; omega
  | ⟨2, _⟩ => show win0_9.index t 2 * 3584 + 1 * e.val = e.val; rw [(index9 t).2.2]; omega

theorem iblk10 (c : Dev nD) (t : Fin cfg0.N) (r f : Fin 512) :
    iblk m c 10 t (ix2 r f) = m ((c : Thread nD τ).loc main_arg16) (ix2 (row t r) (col t f)) := by
  unfold iblk
  rw [View.read_apply]
  show V m c main_arg16 _ = _
  rw [V_main_arg16]
  congr 1
  funext a
  apply Fin.ext
  match a with
  | ⟨0, _⟩ => show win0_10.index t 0 * 512 + 1 * r.val = 512 * (t.val / 37) + r.val; rw [(index10 t).1]; omega
  | ⟨1, _⟩ => show win0_10.index t 1 * 512 + 1 * f.val = 512 * (t.val % 37) + f.val; rw [(index10 t).2]; omega

theorem iblk11 (c : Dev nD) (t : Fin cfg0.N) (r f : Fin 512) :
    iblk m c 11 t (ix2 r f) = m ((c : Thread nD τ).loc main_arg17) (ix2 (row t r) (col t f)) := by
  unfold iblk
  rw [View.read_apply]
  show V m c main_arg17 _ = _
  rw [V_main_arg17]
  congr 1
  funext a
  apply Fin.ext
  match a with
  | ⟨0, _⟩ => show win0_11.index t 0 * 512 + 1 * r.val = 512 * (t.val / 37) + r.val; rw [(index11 t).1]; omega
  | ⟨1, _⟩ => show win0_11.index t 1 * 512 + 1 * f.val = 512 * (t.val % 37) + f.val; rw [(index11 t).2]; omega

theorem iblk12 (c : Dev nD) (t : Fin cfg0.N) (q : Fin 320) (f : Fin 512) :
    iblk m c 12 t (ix2 q f) = shapeCast (α := EReal) S320x18944 (m ((c : Thread nD τ).loc main_arg10)) shapeCasts_S5x64x18944_S320x18944 (ix2 q (col t f)) := by
  unfold iblk
  rw [View.read_apply]
  show V m c main_v34 _ = _
  rw [V_v34]
  congr 1
  funext a
  apply Fin.ext
  match a with
  | ⟨0, _⟩ => show win0_12.index t 0 * 320 + 1 * q.val = q.val; rw [(index12 t).1]; omega
  | ⟨1, _⟩ => show win0_12.index t 1 * 512 + 1 * f.val = 512 * (t.val % 37) + f.val; rw [(index12 t).2]; omega

end Cert.MainIdeal.Host

end
-- ==== Proof.Quant.lean ====
module

public import Idealize.ShloMosaic.Lib.Pointwise
public import Idealize.ShloMosaic.PureOps.Ideal.Laws

/-! The power-of-two scale of the group quantiser, at one group: the kernel finds it through the exponent bits of the
    group's scaled absolute maximum, the reference as the least power of two above it. Both are stated here as functions
    of that maximum, at extended reals, and shown equal. -/

@[expose] public section

namespace Cert.Quant

open Idealize.ShloMosaic

/-- The bit pattern the kernel tries at lane `k`: the exponent `min k 252`, no mantissa. -/
def trial (k : Fin 256) : BitVec 32 := IntOp.muli (IntOp.minsi (BitVec.ofNat 32 k) 252#32) 8388608#32

/-- The kernel's exponent bits of `x`: the largest pattern tried whose value does not exceed `x`, or 0. -/
noncomputable def bits (x : EReal) : BitVec 32 :=
  Finset.univ.fold IntOp.maxsi 2147483648#32
    (fun k : Fin 256 => if Ideal.ofBits FTy.f32 (trial k) ≤ x then trial k else 0#32)

/-- The kernel's scale from the exponent bits. -/
noncomputable def kscale (x : EReal) : EReal :=
  Scalar.select (IntOp.cmpi .eq (bits x) 0#32) 1 (Ideal.ofBits FTy.f32 (IntOp.addi (bits x) 8388608#32))

/-- The kernel's reciprocal scale from the exponent bits. -/
noncomputable def kinv (x : EReal) : EReal :=
  Scalar.select (IntOp.cmpi .eq (bits x) 0#32) 1 (Ideal.ofBits FTy.f32 (IntOp.subi 2122317824#32 (bits x)))

/-- The value of a pattern of exponent `k` and no mantissa. -/
noncomputable def pow (k : ℕ) : EReal := (((2 : ℝ) ^ ((k : ℤ) - 127) : ℝ) : EReal)

/-- The pattern of exponent `n` and no mantissa. -/
def pat (n : ℕ) : BitVec 32 := BitVec.ofNat 32 (n * 2 ^ 23)

theorem trial_eq (k : Fin 256) : trial k = pat (min k.1 252) := by
  revert k; decide +kernel

theorem toNat_pat (n : ℕ) (h : n < 256) : (pat n).toNat = n * 2 ^ 23 := by
  unfold pat
  rw [BitVec.toNat_ofNat, Nat.mod_eq_of_lt (by omega)]

/-- A normal pattern without sign and mantissa reads the power of two of its exponent. -/
theorem ieee_pow (e m : ℕ) {w : ℕ} (b : BitVec w) (k : ℕ) (h0 : k ≠ 0) (hk : k ≠ 2 ^ e - 1)
    (hn : (b.extractLsb' (e + m) 1 == 1#1) = false) (hex : (b.extractLsb' m e).toNat = k)
    (hfr : (b.extractLsb' 0 m).toNat = 0) :
    Ideal.ieee e m b = (((2 : ℝ) ^ ((k : ℤ) - (2 ^ (e - 1) - 1)) : ℝ) : EReal) := by
  have e5 : (1 : ℝ) * ((2 ^ m + 0 : ℕ) : ℝ) * (2 : ℝ) ^ ((k : ℤ) - (2 ^ (e - 1) - 1) - (m : ℤ)) = (2 : ℝ) ^ ((k : ℤ) - (2 ^ (e - 1) - 1)) := by
    rw [add_zero, one_mul, Nat.cast_pow, Nat.cast_ofNat, ← zpow_natCast, ← zpow_add₀ (by norm_num)]
    exact congrArg _ (by ring)
  rw [← e5]
  simp only [Ideal.ieee, hn, hex, hfr, if_neg h0, if_neg hk, Bool.false_eq_true, if_false]

/-- A pattern of exponent `k` and no mantissa reads `2 ^ (k − 127)`. -/
theorem ofBits_pow (k : ℕ) (h0 : 0 < k) (h : k < 255) : Ideal.ofBits FTy.f32 (pat k) = pow k := by
  have hp := toNat_pat k (by omega)
  generalize pat k = b at hp
  have e1 : (BitVec.extractLsb' 23 8 b).toNat = k := by
    rw [BitVec.extractLsb'_toNat, hp, Nat.shiftRight_eq_div_pow]; omega
  have e2 : (BitVec.extractLsb' 0 23 b).toNat = 0 := by
    rw [BitVec.extractLsb'_toNat, hp, Nat.shiftRight_eq_div_pow]; omega
  have e3 : (BitVec.extractLsb' (8 + 23) 1 b == 1#1) = false := by
    rw [beq_eq_false_iff_ne]; intro hc
    have := congrArg BitVec.toNat hc
    rw [BitVec.extractLsb'_toNat, hp, Nat.shiftRight_eq_div_pow] at this
    simp only [BitVec.toNat_ofNat] at this; omega
  have h1 : k ≠ 2 ^ 8 - 1 := by omega
  have := ieee_pow 8 23 b k (by omega) h1 e3 e1 e2
  refine Eq.trans this ?_
  unfold pow
  norm_num

theorem ofBits_nil : Ideal.ofBits FTy.f32 (pat 0) = 0 := by
  have : pat 0 = 0#32 := by decide
  rw [this]
  simp [Ideal.ofBits, Ideal.ieee]

theorem pow_lt {a b : ℕ} (h : a < b) : pow a < pow b := by
  unfold pow
  have h' : (a : ℤ) - 127 < (b : ℤ) - 127 := by omega
  exact EReal.coe_lt_coe_iff.mpr (zpow_lt_zpow_right₀ (by norm_num : (1 : ℝ) < 2) h')

theorem pow_le {a b : ℕ} (h : a ≤ b) : pow a ≤ pow b := by
  rcases h.lt_or_eq with h | h
  · exact (pow_lt h).le
  · rw [h]

theorem pow_pos (k : ℕ) : 0 < pow k := by
  unfold pow
  have : (0 : ℝ) < (2 : ℝ) ^ ((k : ℤ) - 127) := by positivity
  exact_mod_cast this

/-- The exponent found: the largest `k ≤ 252` with `2 ^ (k − 127) ≤ x`, 0 if there is none above 0. -/
noncomputable def found (x : EReal) : ℕ := by
  classical exact Nat.findGreatest (fun k => pow k ≤ x) 252

theorem found_le (x : EReal) : found x ≤ 252 := by
  classical exact Nat.findGreatest_le _

theorem found_spec {x : EReal} (h : found x ≠ 0) : pow (found x) ≤ x := by
  classical exact Nat.findGreatest_of_ne_zero (P := fun k => pow k ≤ x) rfl h

theorem le_found {x : EReal} {k : ℕ} (hk : k ≤ 252) (h : pow k ≤ x) : k ≤ found x := by
  classical exact Nat.le_findGreatest hk h

/-- A pattern tried fits below a non-negative `x` exactly when its exponent does not exceed the one found. -/
theorem trial_le {x : EReal} (hx : 0 ≤ x) (k : Fin 256) :
    Ideal.ofBits FTy.f32 (trial k) ≤ x ↔ min k.1 252 ≤ found x := by
  rw [trial_eq]
  rcases Nat.eq_zero_or_pos (min k.1 252) with h | h
  · rw [h, ofBits_nil]; simp [hx]
  · rw [ofBits_pow _ h (by omega)]
    constructor
    · exact le_found (by omega)
    · intro hk
      exact (pow_le hk).trans (found_spec (by omega))

theorem toInt_trial (n : ℕ) (h : n ≤ 252) : (pat n).toInt = n * 2 ^ 23 := by
  have hp := toNat_pat n (by omega)
  rw [BitVec.toInt_eq_toNat_of_lt (by rw [hp]; omega), hp]
  push_cast; ring

theorem toInt_maxsi (a b : BitVec 32) : (IntOp.maxsi a b).toInt = max a.toInt b.toInt := by
  unfold IntOp.maxsi
  rw [BitVec.slt_eq_decide]
  by_cases h : b.toInt < a.toInt
  · simp [h, max_eq_left h.le]
  · simp [h, max_eq_right (not_lt.mp h)]

/-- The kernel's exponent bits are the exponent found. -/
theorem bits_eq {x : EReal} (hx : 0 ≤ x) : bits x = pat (found x) := by
  apply BitVec.eq_of_toInt_eq
  rw [toInt_trial _ (found_le x)]
  unfold bits
  rw [← Finset.fold_hom (op := IntOp.maxsi) (op' := max) (m := BitVec.toInt) toInt_maxsi]
  have hle := found_le x
  apply le_antisymm
  · rw [Finset.fold_max_le]
    refine ⟨le_trans (by decide) (by positivity : (0 : ℤ) ≤ _), fun k _ => ?_⟩
    split
    · next h =>
      rw [trial_le hx] at h
      rw [trial_eq, toInt_trial _ (by omega)]
      have : ((min k.1 252 : ℕ) : ℤ) ≤ (found x : ℤ) := by exact_mod_cast h
      linarith
    · simp
  · rw [Finset.le_fold_max]
    right
    refine ⟨⟨found x, by omega⟩, Finset.mem_univ _, ?_⟩
    rw [if_pos ((trial_le hx _).mpr (by simp)), trial_eq, toInt_trial _ (by simp)]
    simp [hle]

theorem select_one (a b : EReal) : Scalar.select 1#1 a b = a := rfl

theorem select_zero (a b : EReal) : Scalar.select 0#1 a b = b := rfl

theorem cmpi_zero : IntOp.cmpi .eq (pat 0) 0#32 = 1#1 := by decide

theorem cmpi_pos (n : ℕ) (h0 : n ≠ 0) (h : n ≤ 252) : IntOp.cmpi .eq (pat n) 0#32 = 0#1 := by
  have hp := toNat_pat n (by omega)
  have : (pat n == 0#32) = false := by
    rw [beq_eq_false_iff_ne]
    intro hc
    rw [hc] at hp
    simp only [BitVec.toNat_ofNat] at hp; omega
  show BitVec.ofBool (pat n == 0#32) = _
  rw [this]; rfl

theorem addi_pat (n : ℕ) (h : n ≤ 252) : IntOp.addi (pat n) 8388608#32 = pat (n + 1) := by
  apply BitVec.eq_of_toNat_eq
  have h1 := toNat_pat n (by omega)
  have h2 := toNat_pat (n + 1) (by omega)
  rw [h2]
  unfold IntOp.addi
  rw [BitVec.toNat_add, h1, BitVec.toNat_ofNat]; omega

theorem subi_pat (n : ℕ) (h : n ≤ 252) : IntOp.subi 2122317824#32 (pat n) = pat (253 - n) := by
  apply BitVec.eq_of_toNat_eq
  have h1 := toNat_pat n (by omega)
  have h2 := toNat_pat (253 - n) (by omega)
  rw [h2]
  unfold IntOp.subi
  rw [BitVec.toNat_sub, h1, BitVec.toNat_ofNat]; omega

theorem kscale_eq {x : EReal} (hx : 0 ≤ x) : kscale x = if found x = 0 then 1 else pow (found x + 1) := by
  have hle := found_le x
  unfold kscale
  rw [bits_eq hx]
  by_cases h : found x = 0
  · rw [h, cmpi_zero, select_one, if_pos rfl]
  · rw [if_neg h, cmpi_pos _ h hle, select_zero, addi_pat _ hle, ofBits_pow (found x + 1) (by omega) (by omega)]

theorem kinv_eq {x : EReal} (hx : 0 ≤ x) : kinv x = if found x = 0 then 1 else pow (253 - found x) := by
  have hle := found_le x
  unfold kinv
  rw [bits_eq hx]
  by_cases h : found x = 0
  · rw [h, cmpi_zero, select_one, if_pos rfl]
  · rw [if_neg h, cmpi_pos _ h hle, select_zero, subi_pat _ hle, ofBits_pow (253 - found x) (by omega) (by omega)]

/-- The power of two the reference tries at lane `k`. -/
noncomputable def rpow (k : Fin 252) : EReal :=
  Ideal.exp2 ((((IntOp.subi (BitVec.ofNat 32 k) 125#32).toInt : ℝ)) : EReal)

/-- The reference's scale: the least power of two above `x`, 1 below the least normal number. -/
noncomputable def rscale (x : EReal) : EReal :=
  if x < Ideal.ofBits FTy.f32 8388608#32 then 1
  else Finset.univ.fold min (Ideal.ofBits FTy.f32 2139095040#32)
    (fun k : Fin 252 => if x < rpow k then rpow k else Ideal.ofBits FTy.f32 2122317824#32)

theorem rpow_eq (k : Fin 252) : rpow k = pow (k + 2) := by
  have h : (IntOp.subi (BitVec.ofNat 32 k.1) 125#32).toInt = (k.1 : ℤ) - 125 := by
    revert k; decide +kernel
  unfold rpow pow
  rw [h]
  show (((2 : ℝ).rpow ((((k.1 : ℤ) - 125 : ℤ) : ℝ)) : ℝ) : EReal) = _
  congr 1
  show (2 : ℝ) ^ ((((k.1 : ℤ) - 125 : ℤ) : ℝ)) = _
  rw [Real.rpow_intCast]
  congr 1
  push_cast
  ring

/-- The two scales agree. -/
theorem kscale_eq_rscale {x : EReal} (hx : 0 ≤ x) : kscale x = rscale x := by
  have hle := found_le x
  have e1 : Ideal.ofBits FTy.f32 8388608#32 = pow 1 := by
    rw [← ofBits_pow 1 (by omega) (by omega), show pat 1 = 8388608#32 by decide]
  have e2 : Ideal.ofBits FTy.f32 2122317824#32 = pow 253 := by
    rw [← ofBits_pow 253 (by omega) (by omega), show pat 253 = 2122317824#32 by decide]
  have e3 : Ideal.ofBits FTy.f32 2139095040#32 = ⊤ := by simp [Ideal.ofBits, Ideal.ieee]
  rw [kscale_eq hx]
  unfold rscale
  rw [e1, e2, e3]
  by_cases h : found x = 0
  · rw [if_pos h, if_pos]
    by_contra hc
    have := le_found (x := x) (k := 1) (by omega) (not_lt.mp hc)
    omega
  · rw [if_neg h, if_neg (not_lt.mpr ((pow_le (by omega)).trans (found_spec h)))]
    symm
    have key : ∀ k : Fin 252, pow (found x + 1) ≤ (if x < rpow k then rpow k else pow 253) := by
      intro k
      split
      · next hk =>
        rw [rpow_eq] at hk ⊢
        apply pow_le
        by_contra hc
        exact absurd hk (not_lt.mpr ((pow_le (by omega)).trans (found_spec h)))
      · exact pow_le (by omega)
    apply le_antisymm
    · rw [Finset.fold_min_le]
      right
      refine ⟨⟨found x - 1, by omega⟩, Finset.mem_univ _, ?_⟩
      have e : rpow ⟨found x - 1, by omega⟩ = pow (found x + 1) := by
        rw [rpow_eq]; congr 1; show found x - 1 + 2 = _; omega
      rw [e]
      split
      · exact le_rfl
      · next hc =>
        by_cases h252 : found x = 252
        · rw [h252]
        · have := le_found (x := x) (k := found x + 1) (by omega) (not_lt.mp hc)
          omega
    · rw [Finset.le_fold_min]
      exact ⟨le_top, fun k _ => key k⟩

/-- The kernel's reciprocal scale is one over the reference's scale. -/
theorem kinv_eq_div {x : EReal} (hx : 0 ≤ x) : kinv x = Ideal.div 1 (rscale x) := by
  have hle := found_le x
  rw [← kscale_eq_rscale hx, kscale_eq hx, kinv_eq hx]
  by_cases h : found x = 0
  · rw [if_pos h, if_pos h]; simp [Ideal.div]
  · rw [if_neg h, if_neg h]
    unfold Ideal.div
    rw [if_neg (pow_pos _).ne', one_mul]
    unfold pow
    rw [← EReal.coe_inv, ← zpow_neg]
    congr 2
    omega

end Cert.Quant
-- ==== Proof.MainStep.lean ====
/-
What the main body's stored values are at one entry, at extended reals: the dequantised weights, the product with them,
the gate and up gradients, the group quantiser, the scales' columns and the result's column blocks.
-/
module

public import proofs.«01_k».proof.Proof.Gen.MainIdeal.Skeleton
public import proofs.«01_k».proof.Proof.Quant
public import Idealize.ShloMosaic.Lib.Pointwise

@[expose] public section

set_option maxRecDepth 16384

noncomputable section

namespace Cert.MainIdeal.Step

open Cert.MainIdeal Cert.MainIdeal.Gen Idealize.ShloMosaic Idealize.ShloMosaic.TcCoe Idealize.ShloMosaic.Pointwise

/-- A gate gradient at one entry, from the product `d` and the activations `g` and `u`. -/
def gateOf (d g u : EReal) : EReal := d * u * Ideal.logistic g * (1 + g * (1 - Ideal.logistic g))

/-- An up gradient at one entry. -/
def upOf (d g : EReal) : EReal := d * g * Ideal.logistic g

/-- The scaled absolute maximum of a group of 128 values. -/
def peak (w : Fin 128 → EReal) : EReal :=
  Finset.fold max (Ideal.ofBits FTy.f32 4286578688#32) (fun x => FloatOps.absf (F := Ideal) (φ := .f32) (w x)) Finset.univ
    * Ideal.ofBits FTy.f32 991054117#32

/-- The scale of a group: the least power of two above its scaled maximum. -/
def scale (w : Fin 128 → EReal) : EReal := Quant.rscale (peak w)

/-- A group's code at one entry: the value over the scale, clipped. -/
def code (w : Fin 128 → EReal) (e : Fin 128) : EReal :=
  min (Ideal.ofBits FTy.f32 1138753536#32) (max (Ideal.ofBits FTy.f32 3286237184#32) (w e * Ideal.div 1 (scale w)))

theorem const_nonneg : 0 ≤ Ideal.ofBits FTy.f32 991054117#32 := by
  simp [Ideal.ofBits, Ideal.ieee]
  first
    | exact mul_nonneg (EReal.coe_nonneg.mpr (by norm_num)) (EReal.coe_nonneg.mpr (by positivity))
    | exact mul_nonneg (EReal.coe_nonneg.mpr (by norm_num)) (EReal.inv_nonneg_of_nonneg (EReal.coe_nonneg.mpr (by positivity)))

/-- The scaled maximum is never negative. -/
theorem peak_nonneg (w : Fin 128 → EReal) : 0 ≤ peak w := by
  refine mul_nonneg ?_ const_nonneg
  refine le_trans ?_ ((Finset.le_fold_max _).mpr (Or.inr ⟨(0 : Fin 128), Finset.mem_univ _, le_refl _⟩))
  show (0 : EReal) ≤ max (w 0) (-(w 0))
  rcases le_total 0 (w 0) with h | h
  · exact le_max_of_le_left h
  · exact le_max_of_le_right (EReal.neg_nonneg.mpr h)

theorem weights_apply (w : Vec Ideal S128x256 .fp8e4m3) (s : Vec Ideal S1x256 .f32) (k : Fin 128) (f : Fin 256) :
    k0_pay81 w s (ix2 k f) = (w (ix2 k f) * s (ix2 0 f) : EReal) := by
  pointwise [k0_pay81]

theorem product_apply (a : Vec Ideal S512x3584 .bf16) (b : Vec Ideal S3584x256 .bf16) (c : Vec Ideal S512x320 .bf16)
    (d : Vec Ideal S320x256 .bf16) (r : Fin 512) (f : Fin 256) :
    k0_pay82 a b c d (ix3 0 r f)
      = ((∑ k : Fin 3584, a (ix2 r k) * b (ix2 k f)) + ∑ q : Fin 320, c (ix2 r q) * d (ix2 q f) : EReal) := by
  pointwise [k0_pay82]

theorem rows_apply (v : Vec Ideal S1x512x128 .f32) (r : Fin 512) (e : Fin 128) : k0_pay83 v (ix2 r e) = v (ix3 0 r e) := by
  pointwise [k0_pay83]

theorem gate_apply (d : FVec Ideal S512x128 .f32) (g u : Vec Ideal S512x128 .bf16) (r : Fin 512) (e : Fin 128) :
    k0_pay86 d (k0_pay84 g) u (ix2 r e) = gateOf (d (ix2 r e)) (g (ix2 r e)) (u (ix2 r e)) := by
  pointwise [k0_pay86, k0_pay84, k0_pay85]
  rfl

theorem up_apply (d : FVec Ideal S512x128 .f32) (g : Vec Ideal S512x128 .bf16) (r : Fin 512) (e : Fin 128) :
    k0_pay87 d (k0_pay84 g) (ix2 r e) = upOf (d (ix2 r e)) (g (ix2 r e)) := by
  pointwise [k0_pay87, k0_pay84, k0_pay85]
  rfl

theorem max_apply (v : FVec Ideal S512x128 .f32) (r : Fin 512) :
    k0_pay96 v (ix2 r 0) = peak fun x => v (ix2 r x) := by
  pointwise [k0_pay96]
  rfl

theorem fold_max (M : IVec S512x256 32) (i0 : BitVec 32) (h : S512x256.Reduces [1] S512) (h0) (j : S512.Idx) :
    multiReductionI .maxsi [1] S512 M i0 h h0 j = Finset.univ.fold IntOp.maxsi i0 (fun k : Fin 256 => M (ix2 (j 0) k)) := by
  rw [multiReductionI_eq_reduceFold]
  pointwise []

/-- The masked patterns the body takes the largest of. -/
theorem masked_apply (v : FVec Ideal S512x1 .f32) (a : Fin 512) (x : Fin 256) (c1 c2 c0 : BitVec 32) :
    select (cmpf .oge (broadcastTo S512x256 v broadcasts_S512x1_S512x256)
        (bitcastToFloat (F := Ideal) .f32 (muli (minsi (iota .tc S512x256 32 [1] iota_S512x256_d1_w32) (broadcast S512x256 c1)) (broadcast S512x256 c2))))
      (muli (minsi (iota .tc S512x256 32 [1] iota_S512x256_d1_w32) (broadcast S512x256 c1)) (broadcast S512x256 c2))
      (broadcast S512x256 c0) (ix2 a x)
    = if Ideal.ofBits FTy.f32 (IntOp.muli (IntOp.minsi (BitVec.ofNat 32 ↑x) c1) c2) ≤ v (ix2 a 0) then
        IntOp.muli (IntOp.minsi (BitVec.ofNat 32 ↑x) c1) c2 else c0 := by
  pointwise []

theorem column_apply (v : IVec S512 32) (r : Fin 512) : shapeCast S512x1 v shapeCasts_S512_S512x1 (ix2 r 0) = v (ix1 r) := by
  pointwise []

/-- The exponent bits the body finds for a row's scaled maximum. -/
theorem bits_apply (v : FVec Ideal S512x1 .f32) (r : Fin 512) : k0_pay97 v (ix2 r 0) = Quant.bits (v (ix2 r 0)) := by
  unfold k0_pay97
  refine (column_apply _ r).trans ((fold_max _ _ _ _ _).trans ?_)
  unfold Quant.bits
  refine Finset.fold_congr fun x _ => ?_
  exact masked_apply v r x _ _ _

theorem codes_apply (v : FVec Ideal S512x128 .f32) (b : IVec S512x1 32) (r : Fin 512) (e : Fin 128)
    (h : b (ix2 r 0) = Quant.bits (peak fun x => v (ix2 r x))) :
    k0_pay93 v b (ix2 r e) = code (fun x => v (ix2 r x)) e := by
  pointwise [k0_pay93, k0_pay91]
  rw [h]
  unfold code scale
  rw [← Quant.kinv_eq_div (peak_nonneg _)]
  rfl

theorem scale_apply (v : FVec Ideal S512x128 .f32) (b : IVec S512x1 32) (r : Fin 512)
    (h : b (ix2 r 0) = Quant.bits (peak fun x => v (ix2 r x))) :
    k0_pay92 (F := Ideal) b (ix2 r 0) = scale fun x => v (ix2 r x) := by
  pointwise [k0_pay92, k0_pay91]
  rw [h]
  unfold scale
  rw [← Quant.kscale_eq_rscale (peak_nonneg _)]
  rfl

theorem deq_apply (v : FVec Ideal S512x128 .f32) (b : IVec S512x1 32) (r : Fin 512) (e : Fin 128) :
    k0_pay94 v b (ix2 r e) = (k0_pay93 v b (ix2 r e) * k0_pay92 (F := Ideal) b (ix2 r 0) : EReal) := by
  pointwise [k0_pay94]

theorem put_apply (p : BitVec 32) (b : IVec S512x1 32) (prev : Vec Ideal S512x148 .f32) (r : Fin 512) (g : Fin 148) :
    k0_pay95 (iota .tc S512x148 32 [1] iota_S512x148_d1_w32) p b prev (ix2 r g)
      = Scalar.select (IntOp.cmpi .eq (BitVec.ofNat 32 g.val) p) (k0_pay92 (F := Ideal) b (ix2 r 0)) (prev (ix2 r g)) := by
  pointwise [k0_pay95]

theorem half_apply (w0 w1 : Vec Ideal S128x512 .fp8e4m3) (s0 s1 : Vec Ideal S1x1x512 .f32) (k : Fin 256) (e : Fin 512) :
    k0_pay138 w0 s0 w1 s1 (ix2 k e) = if h : k.val < 128 then (w0 (ix2 ⟨k.val, h⟩ e) * s0 (ix3 0 0 e) : EReal)
      else w1 (ix2 ⟨k.val - 128, by omega⟩ e) * s1 (ix3 0 0 e) := by
  pointwise [k0_pay138]

theorem dn_apply (a b : FVec Ideal S256x512 .bf16) (prev : Vec Ideal S512x512 .f32) (c d : Vec Ideal S512x256 .bf16) (r : Fin 512) (e : Fin 512) :
    k0_pay140 a b prev c d (ix2 r e)
      = (prev (ix2 r e) + ((∑ k : Fin 256, c (ix2 r k) * a (ix2 k e)) + ∑ k : Fin 256, d (ix2 r k) * b (ix2 k e)) : EReal) := by
  pointwise [k0_pay140]

end Cert.MainIdeal.Step

end
-- ==== Proof.MainMath.lean ====
/-
What the main call computes, as formulas over the whole arrays: the gradient of the gated activation, its gate and up
branches, their group-wise eight-bit quantisation, and the product of the dequantised branches with the dequantised
weights. Also how the last sum is cut into the column tiles the kernel adds one after another.
-/
module

public import proofs.«01_k».proof.Proof.MainStep
public import proofs.«01_k».proof.Proof.DownMath

@[expose] public section

noncomputable section

namespace Cert.MainSpec

open Idealize.ShloMosaic Idealize.ShloMosaic.Pointwise Cert.MainIdeal.Step

/-- The arrays the results depend on. -/
structure Arrays where
  /-- The gradient of the block's output. -/
  dy : (⟨2, ![8192, 3584]⟩ : Shape).Idx → EReal
  /-- The gradient of the down projection's low-rank intermediate. -/
  dz : (⟨2, ![8192, 320]⟩ : Shape).Idx → EReal
  /-- The gate weights' codes and scales. -/
  wg : (⟨2, ![18944, 3584]⟩ : Shape).Idx → EReal
  sg : (⟨2, ![148, 28]⟩ : Shape).Idx → EReal
  /-- The up weights' codes and scales. -/
  wu : (⟨2, ![18944, 3584]⟩ : Shape).Idx → EReal
  su : (⟨2, ![148, 28]⟩ : Shape).Idx → EReal
  /-- The down weights' codes and scales. -/
  wd : (⟨2, ![3584, 18944]⟩ : Shape).Idx → EReal
  sd : (⟨2, ![28, 148]⟩ : Shape).Idx → EReal
  /-- The down projection's A matrices. -/
  ad : (⟨2, ![320, 18944]⟩ : Shape).Idx → EReal
  /-- The gate and up activations. -/
  gb : (⟨2, ![8192, 18944]⟩ : Shape).Idx → EReal
  ub : (⟨2, ![8192, 18944]⟩ : Shape).Idx → EReal

variable (A : Arrays)

/-- The gradient of the gated activation: through the dequantised down weights and through the A matrices. -/
def act (t : Fin 8192) (f : Fin 18944) : EReal :=
  (∑ k : Fin 3584, A.dy (ix2 t k) * (A.wd (ix2 k f) * A.sd (ix2 ⟨k.val / 128, by omega⟩ ⟨f.val / 128, by omega⟩)))
    + ∑ q : Fin 320, A.dz (ix2 t q) * A.ad (ix2 q f)

/-- The gate branch's gradient. -/
def gate (t : Fin 8192) (f : Fin 18944) : EReal := gateOf (act A t f) (A.gb (ix2 t f)) (A.ub (ix2 t f))

/-- The up branch's gradient. -/
def up (t : Fin 8192) (f : Fin 18944) : EReal := upOf (act A t f) (A.gb (ix2 t f))

/-- A row's values in group `g` of 128 columns. -/
def group (v : Fin 8192 → Fin 18944 → EReal) (t : Fin 8192) (g : Fin 148) (x : Fin 128) : EReal :=
  v t ⟨128 * g.val + x.val, by omega⟩

/-- The scale of a group. -/
def scales (v : Fin 8192 → Fin 18944 → EReal) (t : Fin 8192) (g : Fin 148) : EReal := scale (group v t g)

/-- The code of an entry. -/
def codes (v : Fin 8192 → Fin 18944 → EReal) (t : Fin 8192) (f : Fin 18944) : EReal :=
  code (group v t ⟨f.val / 128, by omega⟩) ⟨f.val % 128, by omega⟩

/-- A term of the result: a dequantised gradient times a dequantised weight. -/
def term (v : Fin 8192 → Fin 18944 → EReal) (w : (⟨2, ![18944, 3584]⟩ : Shape).Idx → EReal) (s : (⟨2, ![148, 28]⟩ : Shape).Idx → EReal)
    (t : Fin 8192) (e : Fin 3584) (f : Fin 18944) : EReal :=
  (codes v t f * scales v t ⟨f.val / 128, by omega⟩) * (w (ix2 f e) * s (ix2 ⟨f.val / 128, by omega⟩ ⟨e.val / 128, by omega⟩))

/-- The result: both branches' products with their weights. -/
def dn (t : Fin 8192) (e : Fin 3584) : EReal :=
  (∑ f : Fin 18944, term (gate A) A.wg A.sg t e f) + ∑ f : Fin 18944, term (up A) A.wu A.su t e f

/-- The five results as arrays. -/
def dnArray : (⟨2, ![8192, 3584]⟩ : Shape).Idx → EReal := fun j => dn A (j 0) (j 1)
def codeArray (v : Fin 8192 → Fin 18944 → EReal) : (⟨2, ![8192, 18944]⟩ : Shape).Idx → EReal := fun j => codes v (j 0) (j 1)
def scaleArray (v : Fin 8192 → Fin 18944 → EReal) : (⟨2, ![8192, 148]⟩ : Shape).Idx → EReal := fun j => scales v (j 0) (j 1)

/-- What one half of a column tile adds to an entry of the result: 256 columns of both branches. -/
def half (t : Fin 8192) (e : Fin 3584) (q : ℕ) : EReal :=
  (∑ k : Fin 256, Down.ext (term (gate A) A.wg A.sg t e) (256 * q + k.val))
    + ∑ k : Fin 256, Down.ext (term (up A) A.wu A.su t e) (256 * q + k.val)

/-- The 74 half tiles added one after another are the result. -/
theorem halves (t : Fin 8192) (e : Fin 3584) : ∑ q ∈ Finset.range 74, half A t e q = dn A t e := by
  unfold half
  rw [Finset.sum_add_distrib, Down.sum_all _ 256 74 rfl, Down.sum_all _ 256 74 rfl]
  rfl

end Cert.MainSpec

end
-- ==== Proof.MainBody.lean ====
/-
What the main body stores at one grid point, written down once for its three cases: the lists of pieces it leaves in the
result's block, in the codes' and in the scales', as functions of the blocks it reads; and what those lists hold at one
entry, at extended reals.
-/
module

public import proofs.«01_k».proof.Proof.MainStep
public import Idealize.ShloMosaic.Lib.Pipeline.Value
public import Idealize.ShloMosaic.Lib.Pipeline.ReadBack
public import Idealize.ShloMosaic.Lib.Pipeline.CanonAppend
public import Idealize.ShloMosaic.Lib.Pipeline.ValueKit.Tiles

@[expose] public section

set_option maxRecDepth 16384

noncomputable section

namespace Cert.MainIdeal.Body

open Cert.MainIdeal Cert.MainIdeal.Gen Cert.MainIdeal.Step
open Idealize.ShloMosaic Idealize.ShloMosaic.TcCoe Idealize.ShloMosaic.Pointwise

variable {F : FTy → Type} [FloatOps F]

/-- The dequantised down weights of one half of the columns, as the body stores them: 28 blocks of 128 rows, the last row
    block first, each row block times its row of scales. -/
def wdPieces (x4 : Vec F S3584x512 .fp8e4m3) (x5 : Vec F S28x512 .f32) (h : Fin 2) : List (View.Piece (Elt F) S3584x256 .bf16) :=
  List.ofFn fun k : Fin 28 =>
    (⟨Rect.unit ![128 * (27 - k.val), 0] S128x256.size (by intro a; fin_cases k <;> fin_cases a <;> decide),
      k0_pay81 (View.ld x4 (Rect.unit (s := S3584x512) ![128 * (27 - k.val), 256 * h.val] S128x256.size (by intro a; fin_cases k <;> fin_cases h <;> fin_cases a <;> decide)))
        (View.ld x5 (Rect.unit (s := S28x512) ![27 - k.val, 256 * h.val] S1x256.size (by intro a; fin_cases k <;> fin_cases h <;> fin_cases a <;> decide)))⟩ :
      View.Piece (Elt F) S3584x256 .bf16)

/-- The product of the gradient's rows with one half of the down weights' columns, as the body stores it. -/
def actHalf (x2 : Vec F S512x3584 .bf16) (x3 : Vec F S512x320 .bf16) (w : List (View.Piece (Elt F) S3584x256 .bf16))
    (a : Vec F S320x256 .bf16) : Vec F S1x512x256 .f32 :=
  k0_pay82 (View.ld x2 (Rect.unit ![0, 0] S512x3584.size inb_S512x3584_S512x3584_0_0))
    (fun j => View.canon w ((Rect.unit ![0, 0] S3584x256.size inb_S3584x256_S3584x256_0_0).toLoadRect.idx j))
    (View.ld x3 (Rect.unit ![0, 0] S512x320.size inb_S512x320_S512x320_0_0)) a

/-- The product's halves the body has stored when it reads half `h`. -/
def actPieces (x2 : Vec F S512x3584 .bf16) (x3 : Vec F S512x320 .bf16) (x4 : Vec F S3584x512 .fp8e4m3) (x5 : Vec F S28x512 .f32)
    (x12 : Vec F S320x512 .bf16) (h : Fin 2) : List (View.Piece (Elt F) S2x512x256 .f32) :=
  match h with
  | 0 => [⟨Rect.unit ![0, 0, 0] S1x512x256.size inb_S2x512x256_S1x512x256_0_0_0,
      actHalf x2 x3 (wdPieces x4 x5 0) (View.ld x12 (Rect.unit ![0, 0] S320x256.size inb_S320x512_S320x256_0_0))⟩]
  | 1 => [⟨Rect.unit ![1, 0, 0] S1x512x256.size inb_S2x512x256_S1x512x256_1_0_0,
      actHalf x2 x3 (wdPieces x4 x5 1 ++ wdPieces x4 x5 0)
        (View.ld x12 (Rect.unit ![0, 256] S320x256.size inb_S320x512_S320x256_0_256))⟩,
    ⟨Rect.unit ![0, 0, 0] S1x512x256.size inb_S2x512x256_S1x512x256_0_0_0,
      actHalf x2 x3 (wdPieces x4 x5 0) (View.ld x12 (Rect.unit ![0, 0] S320x256.size inb_S320x512_S320x256_0_0))⟩]

/-- The columns of one group of 128 of what the pieces hold. -/
def groupOf (L : List (View.Piece (Elt F) S2x512x256 .f32)) (j : Fin 4) : FVec F S512x128 .f32 :=
  k0_pay83 fun q => View.canon L
    ((Rect.unit (s := S2x512x256) ![j.val / 2, 0, 128 * (j.val % 2)] S1x512x128.size
      (by intro a; fin_cases j <;> fin_cases a <;> decide)).toLoadRect.idx q)

/-- The product's columns of one group of 128. -/
def actGroup (x2 : Vec F S512x3584 .bf16) (x3 : Vec F S512x320 .bf16) (x4 : Vec F S3584x512 .fp8e4m3) (x5 : Vec F S28x512 .f32)
    (x12 : Vec F S320x512 .bf16) (j : Fin 4) : FVec F S512x128 .f32 :=
  match j with
  | 0 => groupOf (actPieces x2 x3 x4 x5 x12 0) 0
  | 1 => groupOf (actPieces x2 x3 x4 x5 x12 0) 1
  | 2 => groupOf (actPieces x2 x3 x4 x5 x12 1) 2
  | 3 => groupOf (actPieces x2 x3 x4 x5 x12 1) 3

/-- The columns of one group of 128 of a block of activations. -/
def colsOf (x : Vec F S512x512 .bf16) (j : Fin 4) : Vec F S512x128 .bf16 :=
  View.ld x (Rect.unit (s := S512x512) ![0, 128 * j.val] S512x128.size (by intro a; fin_cases j <;> fin_cases a <;> decide))

/-- The gate gradient of a group. -/
def gateGrad (d : FVec F S512x128 .f32) (g u : Vec F S512x128 .bf16) : FVec F S512x128 .f32 := k0_pay86 d (k0_pay84 g) u

/-- The up gradient of a group. -/
def upGrad (d : FVec F S512x128 .f32) (g : Vec F S512x128 .bf16) : FVec F S512x128 .f32 := k0_pay87 d (k0_pay84 g)

/-- The exponent bits of a group's rows. -/
def rowBits (v : FVec F S512x128 .f32) : IVec S512x1 32 := k0_pay97 (k0_pay96 v)

/-- The codes of a group. -/
def codesOf (v : FVec F S512x128 .f32) : FVec F S512x128 .fp8e4m3 := k0_pay93 v (rowBits v)

/-- The codes of a group times their scales. -/
def dequant (v : FVec F S512x128 .f32) : FVec F S512x128 .bf16 := k0_pay94 v (rowBits v)

/-- A block's codes as the body stores them, the last group first. -/
def codePieces (v : Fin 4 → FVec F S512x128 .f32) : List (View.Piece (Elt F) S512x512 .fp8e4m3) :=
  [⟨Rect.unit ![0, 384] S512x128.size inb_S512x512_S512x128_0_384, codesOf (v 3)⟩,
    ⟨Rect.unit ![0, 256] S512x128.size inb_S512x512_S512x128_0_256, codesOf (v 2)⟩,
    ⟨Rect.unit ![0, 128] S512x128.size inb_S512x512_S512x128_0_128, codesOf (v 1)⟩,
    ⟨Rect.unit ![0, 0] S512x128.size inb_S512x512_S512x128_0_0, codesOf (v 0)⟩]

/-- A block's dequantised codes as the body stores them when it reads half `h`, the last group first. -/
def deqPieces (v : Fin 4 → FVec F S512x128 .f32) (h : Fin 2) : List (View.Piece (Elt F) S512x512 .bf16) :=
  match h with
  | 0 => [⟨Rect.unit ![0, 128] S512x128.size inb_S512x512_S512x128_0_128, dequant (v 1)⟩,
    ⟨Rect.unit ![0, 0] S512x128.size inb_S512x512_S512x128_0_0, dequant (v 0)⟩]
  | 1 => [⟨Rect.unit ![0, 384] S512x128.size inb_S512x512_S512x128_0_384, dequant (v 3)⟩,
    ⟨Rect.unit ![0, 256] S512x128.size inb_S512x512_S512x128_0_256, dequant (v 2)⟩,
    ⟨Rect.unit ![0, 128] S512x128.size inb_S512x512_S512x128_0_128, dequant (v 1)⟩,
    ⟨Rect.unit ![0, 0] S512x128.size inb_S512x512_S512x128_0_0, dequant (v 0)⟩]

/-- A row block of scales after the body has put one group's scales in its column. -/
def putScale (p : ℕ) (h g : BitVec 32) (v : FVec F S512x128 .f32) (prev : Vec F S512x148 .f32) : Vec F S512x148 .f32 :=
  k0_pay95 (iota .tc S512x148 32 [1] iota_S512x148_d1_w32)
    (Scalar.addi (Scalar.addi (Scalar.muli (BitVec.ofNat 32 p) 4#32) h) g) (rowBits v) prev

/-- A row block of scales after the body has put its four groups' scales in. -/
def scalesAfter (p : ℕ) (v : Fin 4 → FVec F S512x128 .f32) (prev : Vec F S512x148 .f32) : Vec F S512x148 .f32 :=
  putScale p 2#32 1#32 (v 3) (putScale p 2#32 0#32 (v 2) (putScale p 0#32 1#32 (v 1) (putScale p 0#32 0#32 (v 0) prev)))

/-- The dequantised codes of one half of a block's columns. -/
def deqHalf (v : Fin 4 → FVec F S512x128 .f32) (h : Fin 2) : Vec F S512x256 .bf16 :=
  fun j => View.canon (deqPieces v h)
    ((Rect.unit (s := S512x512) ![0, 256 * h.val] S512x256.size (by intro a; fin_cases h <;> fin_cases a <;> decide)).toLoadRect.idx j)

/-- Two row blocks of weights, each times its row of scales, one above the other. -/
def weightHalf (w : Vec F S512x3584 .fp8e4m3) (s : Vec F S1x4x3584 .f32) (h : Fin 2) (n : Fin 7) : FVec F S256x512 .bf16 :=
  k0_pay138
    (View.ld w (Rect.unit (s := S512x3584) ![256 * h.val, 512 * n.val] S128x512.size (by intro a; fin_cases h <;> fin_cases n <;> fin_cases a <;> decide)))
    (View.ld s (Rect.unit (s := S1x4x3584) ![0, 2 * h.val, 512 * n.val] S1x1x512.size (by intro a; fin_cases h <;> fin_cases n <;> fin_cases a <;> decide)))
    (View.ld w (Rect.unit (s := S512x3584) ![256 * h.val + 128, 512 * n.val] S128x512.size (by intro a; fin_cases h <;> fin_cases n <;> fin_cases a <;> decide)))
    (View.ld s (Rect.unit (s := S1x4x3584) ![0, 2 * h.val + 1, 512 * n.val] S1x1x512.size (by intro a; fin_cases h <;> fin_cases n <;> fin_cases a <;> decide)))

/-- What the body adds a half of the block's columns to in one column block of the result. -/
def dnAdd (x6 : Vec F S512x3584 .fp8e4m3) (x7 : Vec F S1x4x3584 .f32) (x8 : Vec F S512x3584 .fp8e4m3) (x9 : Vec F S1x4x3584 .f32)
    (a b : Fin 4 → FVec F S512x128 .f32) (h : Fin 2) (n : Fin 7) (prev : Vec F S512x512 .f32) : FVec F S512x512 .f32 :=
  k0_pay140 (weightHalf x6 x7 h n) (weightHalf x8 x9 h n) prev (deqHalf a h) (deqHalf b h)

/-- A column block of what the result held before. -/
def colBlock (x : Vec F S512x3584 .f32) (n : Fin 7) : Vec F S512x512 .f32 :=
  View.ld x (Rect.unit (s := S512x3584) ![0, 512 * n.val] S512x512.size (by intro a; fin_cases n <;> fin_cases a <;> decide))

/-- The result's column blocks as the body stores them after the first half of the block's columns, and then after the second,
    the last first. -/
def dnPieces (x6 : Vec F S512x3584 .fp8e4m3) (x7 : Vec F S1x4x3584 .f32) (x8 : Vec F S512x3584 .fp8e4m3) (x9 : Vec F S1x4x3584 .f32)
    (a b : Fin 4 → FVec F S512x128 .f32) (prev : Vec F S512x3584 .f32) : List (View.Piece (Elt F) S512x3584 .f32) :=
  (List.ofFn fun k : Fin 7 =>
    (⟨Rect.unit (s := S512x3584) ![0, 512 * k.rev.val] S512x512.size (by intro a; fin_cases k <;> fin_cases a <;> decide),
      dnAdd x6 x7 x8 x9 a b 1 k.rev (dnAdd x6 x7 x8 x9 a b 0 k.rev (colBlock prev k.rev))⟩ : View.Piece (Elt F) S512x3584 .f32)) ++
  (List.ofFn fun k : Fin 7 =>
    (⟨Rect.unit (s := S512x3584) ![0, 512 * k.rev.val] S512x512.size (by intro a; fin_cases k <;> fin_cases a <;> decide),
      dnAdd x6 x7 x8 x9 a b 0 k.rev (colBlock prev k.rev)⟩ : View.Piece (Elt F) S512x3584 .f32))

/-! ## What the lists hold at one entry -/

/-- Pieces that are blocks of `G` leave `G` wherever one of them lies, whatever was stored before. -/
theorem canon_blocks {S : Shape} {e : EltTy} {N : ℕ} (off : Fin N → Fin S.rank → ℕ) (size : Fin S.rank → ℕ)
    (inb : ∀ k a, off k a + size a ≤ S.size a) (P : (k : Fin N) → (Rect.unit (off k) size (inb k)).shape.Idx → Elt Ideal e)
    (L : List (View.Piece (Elt Ideal) S e)) (G : S.Idx → Elt Ideal e)
    (h : ∀ k x, P k x = G ((Rect.unit (off k) size (inb k)).emb x)) (y : S.Idx)
    (hc : ∃ k, ∀ a, off k a ≤ y a ∧ (y a : ℕ) < off k a + size a) :
    View.canon ((List.ofFn fun k => (⟨Rect.unit (off k) size (inb k), P k⟩ : View.Piece (Elt Ideal) S e)) ++ L) y = G y := by
  refine View.canon_append_of_pieces G L _ ?_ y ?_
  · intro p hp
    obtain ⟨k, rfl⟩ := (List.mem_ofFn' _ _).mp hp
    exact h k
  · obtain ⟨k, hk⟩ := hc
    refine ⟨⟨Rect.unit (off k) size (inb k), P k⟩, (List.mem_ofFn' _ _).mpr ⟨k, rfl⟩, ?_⟩
    exact (Rect.mem_set_unit (inb := inb k)).mpr hk

/-- A dequantised down weight of the block. -/
def wdEntry (x4 : Vec Ideal S3584x512 .fp8e4m3) (x5 : Vec Ideal S28x512 .f32) (k : Fin 3584) (f : Fin 512) : EReal :=
  x4 (ix2 k f) * x5 (ix2 ⟨k.val / 128, by omega⟩ f)

theorem wd_canon (x4 : Vec Ideal S3584x512 .fp8e4m3) (x5 : Vec Ideal S28x512 .f32) (h : Fin 2)
    (L : List (View.Piece (Elt Ideal) S3584x256 .bf16)) (k : Fin 3584) (f : Fin 256) :
    View.canon (wdPieces x4 x5 h ++ L) (ix2 k f) = wdEntry x4 x5 k ⟨256 * h.val + f.val, by omega⟩ := by
  unfold wdPieces
  refine canon_blocks (S := S3584x256) (e := .bf16) (fun q : Fin 28 => ![128 * (27 - q.val), 0]) S128x256.size _ _ L
    (fun y => wdEntry x4 x5 (y 0) ⟨256 * h.val + (y 1).val, by have : (y 1).val < 256 := (y 1).isLt; omega⟩) ?_ _ ?_
  · intro q x
    obtain ⟨a, b, rfl⟩ : ∃ (a : Fin 128) (b : Fin 256), x = ix2 a b := ⟨x 0, x 1, eq_ix2 x⟩
    refine (weights_apply _ _ a b).trans ?_
    have ha := a.isLt
    have hq := q.isLt
    refine Ideal.mul_congr (View.ld_unit_apply_of x4 _ _ _ _ _ fun c => ?_) (View.ld_unit_apply_of x5 _ _ _ _ _ fun c => ?_)
    · match c with
      | ⟨0, _⟩ => show 128 * (27 - q.val) + 1 * a.val = 128 * (27 - q.val) + a.val; omega
      | ⟨1, _⟩ => show 256 * h.val + (0 + 1 * b.val) = 256 * h.val + b.val; omega
    · match c with
      | ⟨0, _⟩ => show (128 * (27 - q.val) + 1 * a.val) / 128 = 27 - q.val + 0; omega
      | ⟨1, _⟩ => show 256 * h.val + (0 + 1 * b.val) = 256 * h.val + b.val; omega
  · have hk := k.isLt
    refine ⟨⟨27 - k.val / 128, by omega⟩, fun c => ?_⟩
    match c with
    | ⟨0, _⟩ => exact ⟨by show 128 * (27 - (27 - k.val / 128)) ≤ k.val; omega, by show k.val < 128 * (27 - (27 - k.val / 128)) + 128; omega⟩
    | ⟨1, _⟩ => exact ⟨by show 0 ≤ f.val; omega, by show f.val < 0 + 256; omega⟩

/-- The product at one entry of the block. -/
def act (x2 : Vec Ideal S512x3584 .bf16) (x3 : Vec Ideal S512x320 .bf16) (x4 : Vec Ideal S3584x512 .fp8e4m3)
    (x5 : Vec Ideal S28x512 .f32) (x12 : Vec Ideal S320x512 .bf16) (r f : Fin 512) : EReal :=
  (∑ k : Fin 3584, x2 (ix2 r k) * wdEntry x4 x5 k f) + ∑ q : Fin 320, x3 (ix2 r q) * x12 (ix2 q f)

/-- One half of the product, as stored. -/
theorem actHalf_apply (x2 : Vec Ideal S512x3584 .bf16) (x3 : Vec Ideal S512x320 .bf16) (x4 : Vec Ideal S3584x512 .fp8e4m3)
    (x5 : Vec Ideal S28x512 .f32) (x12 : Vec Ideal S320x512 .bf16) (h : Fin 2) (L : List (View.Piece (Elt Ideal) S3584x256 .bf16))
    (inb) (r : Fin 512) (f : Fin 256) :
    actHalf x2 x3 (wdPieces x4 x5 h ++ L) (View.ld x12 (Rect.unit (s := S320x512) ![0, 256 * h.val] S320x256.size inb)) (ix3 0 r f)
      = act x2 x3 x4 x5 x12 r ⟨256 * h.val + f.val, by omega⟩ := by
  unfold actHalf
  rw [product_apply, View.ld_unit_lit _ x2 (by decide), View.ld_unit_lit _ x3 (by decide)]
  unfold act
  refine congrArg₂ (fun p q : EReal => p + q) (Finset.sum_congr rfl fun k _ => Ideal.mul_congr rfl ?_)
    (Finset.sum_congr rfl fun q _ => Ideal.mul_congr rfl ?_)
  · refine Eq.trans (congrArg _ (funext fun c => Fin.ext ?_)) (wd_canon x4 x5 h L k f)
    match c with
    | ⟨0, _⟩ => show 0 + 1 * k.val = k.val; omega
    | ⟨1, _⟩ => show 0 + 1 * f.val = f.val; omega
  · refine View.ld_unit_apply_of x12 _ _ _ _ _ fun c => ?_
    match c with
    | ⟨0, _⟩ => show q.val = 0 + q.val; omega
    | ⟨1, _⟩ => show 256 * h.val + f.val = 256 * h.val + f.val; rfl

/-- The product in both halves, at an index of the pieces' shape. -/
def actAt (x2 : Vec Ideal S512x3584 .bf16) (x3 : Vec Ideal S512x320 .bf16) (x4 : Vec Ideal S3584x512 .fp8e4m3)
    (x5 : Vec Ideal S28x512 .f32) (x12 : Vec Ideal S320x512 .bf16) (y : S2x512x256.Idx) : EReal :=
  act x2 x3 x4 x5 x12 (y 1) ⟨256 * (y 0).val + (y 2).val, by
    have h0 : (y 0).val < 2 := (y 0).isLt
    have h2 : (y 2).val < 256 := (y 2).isLt
    omega⟩

theorem firstHalf (x2 : Vec Ideal S512x3584 .bf16) (x3 : Vec Ideal S512x320 .bf16) (x4 : Vec Ideal S3584x512 .fp8e4m3)
    (x5 : Vec Ideal S28x512 .f32) (x12 : Vec Ideal S320x512 .bf16) (x : S1x512x256.Idx) :
    actHalf x2 x3 (wdPieces x4 x5 0) (View.ld x12 (Rect.unit ![0, 0] S320x256.size inb_S320x512_S320x256_0_0)) x
      = actAt x2 x3 x4 x5 x12 ((Rect.unit (s := S2x512x256) ![0, 0, 0] S1x512x256.size inb_S2x512x256_S1x512x256_0_0_0).emb x) := by
  obtain ⟨z, r, f, rfl⟩ : ∃ (z : Fin 1) (r : Fin 512) (f : Fin 256), x = ix3 z r f := ⟨x 0, x 1, x 2, eq_ix3 x⟩
  obtain rfl : z = 0 := Subsingleton.elim _ _
  have h := actHalf_apply x2 x3 x4 x5 x12 0 [] inb_S320x512_S320x256_0_0 r f
  rw [List.append_nil] at h
  refine h.trans (congrArg₂ (act x2 x3 x4 x5 x12) (Fin.ext ?_) (Fin.ext ?_))
  · show r.val = 0 + 1 * r.val; omega
  · show 256 * 0 + f.val = 256 * (0 + 1 * 0) + (0 + 1 * f.val); omega

theorem secondHalf (x2 : Vec Ideal S512x3584 .bf16) (x3 : Vec Ideal S512x320 .bf16) (x4 : Vec Ideal S3584x512 .fp8e4m3)
    (x5 : Vec Ideal S28x512 .f32) (x12 : Vec Ideal S320x512 .bf16) (x : S1x512x256.Idx) :
    actHalf x2 x3 (wdPieces x4 x5 1 ++ wdPieces x4 x5 0) (View.ld x12 (Rect.unit ![0, 256] S320x256.size inb_S320x512_S320x256_0_256)) x
      = actAt x2 x3 x4 x5 x12 ((Rect.unit (s := S2x512x256) ![1, 0, 0] S1x512x256.size inb_S2x512x256_S1x512x256_1_0_0).emb x) := by
  obtain ⟨z, r, f, rfl⟩ : ∃ (z : Fin 1) (r : Fin 512) (f : Fin 256), x = ix3 z r f := ⟨x 0, x 1, x 2, eq_ix3 x⟩
  obtain rfl : z = 0 := Subsingleton.elim _ _
  refine (actHalf_apply x2 x3 x4 x5 x12 1 (wdPieces x4 x5 0) inb_S320x512_S320x256_0_256 r f).trans
    (congrArg₂ (act x2 x3 x4 x5 x12) (Fin.ext ?_) (Fin.ext ?_))
  · show r.val = 0 + 1 * r.val; omega
  · show 256 * 1 + f.val = 256 * (1 + 1 * 0) + (0 + 1 * f.val); omega

/-- What the stored halves hold in half `h`, when the body reads that half. -/
theorem actPieces_apply (x2 : Vec Ideal S512x3584 .bf16) (x3 : Vec Ideal S512x320 .bf16) (x4 : Vec Ideal S3584x512 .fp8e4m3)
    (x5 : Vec Ideal S28x512 .f32) (x12 : Vec Ideal S320x512 .bf16) (h : Fin 2) (y : S2x512x256.Idx) (hy : (y 0).val = h.val) :
    View.canon (actPieces x2 x3 x4 x5 x12 h) y = actAt x2 x3 x4 x5 x12 y := by
  have h1 : (y 1).val < 512 := (y 1).isLt
  have h2 : (y 2).val < 256 := (y 2).isLt
  match h with
  | 0 =>
    refine View.canon_apply_of_pieces (e := .f32) (Val := Elt Ideal) (actAt x2 x3 x4 x5 x12) _ ?_ y ?_
    · intro p hp
      obtain rfl := List.mem_singleton.mp hp
      exact firstHalf x2 x3 x4 x5 x12
    · refine ⟨_, List.mem_singleton.mpr rfl, ?_⟩
      refine (Rect.mem_set_unit (inb := inb_S2x512x256_S1x512x256_0_0_0)).mpr fun c => ?_
      match c with
      | ⟨0, _⟩ => exact ⟨by show 0 ≤ (y 0).val; omega, by show (y 0).val < 0 + 1; have : (y 0).val = 0 := hy; omega⟩
      | ⟨1, _⟩ => exact ⟨by show 0 ≤ (y 1).val; omega, by show (y 1).val < 0 + 512; omega⟩
      | ⟨2, _⟩ => exact ⟨by show 0 ≤ (y 2).val; omega, by show (y 2).val < 0 + 256; omega⟩
  | 1 =>
    refine View.canon_apply_of_pieces (e := .f32) (Val := Elt Ideal) (actAt x2 x3 x4 x5 x12) _ ?_ y ?_
    · intro p hp
      rcases List.mem_cons.mp hp with rfl | hp
      · exact secondHalf x2 x3 x4 x5 x12
      · obtain rfl := List.mem_singleton.mp hp
        exact firstHalf x2 x3 x4 x5 x12
    · refine ⟨_, List.mem_cons.mpr (Or.inl rfl), ?_⟩
      refine (Rect.mem_set_unit (inb := inb_S2x512x256_S1x512x256_1_0_0)).mpr fun c => ?_
      match c with
      | ⟨0, _⟩ => have : (y 0).val = 1 := hy; exact ⟨by show 1 ≤ (y 0).val; omega, by show (y 0).val < 1 + 1; omega⟩
      | ⟨1, _⟩ => exact ⟨by show 0 ≤ (y 1).val; omega, by show (y 1).val < 0 + 512; omega⟩
      | ⟨2, _⟩ => exact ⟨by show 0 ≤ (y 2).val; omega, by show (y 2).val < 0 + 256; omega⟩

theorem groupOf_apply (x2 : Vec Ideal S512x3584 .bf16) (x3 : Vec Ideal S512x320 .bf16) (x4 : Vec Ideal S3584x512 .fp8e4m3)
    (x5 : Vec Ideal S28x512 .f32) (x12 : Vec Ideal S320x512 .bf16) (h : Fin 2) (j : Fin 4) (hj : j.val / 2 = h.val)
    (r : Fin 512) (e : Fin 128) :
    groupOf (actPieces x2 x3 x4 x5 x12 h) j (ix2 r e) = act x2 x3 x4 x5 x12 r ⟨128 * j.val + e.val, by omega⟩ := by
  unfold groupOf
  refine (rows_apply _ r e).trans ((actPieces_apply x2 x3 x4 x5 x12 h _ ?_).trans ?_)
  · show j.val / 2 + 1 * 0 = h.val; omega
  · refine congrArg₂ (act x2 x3 x4 x5 x12) (Fin.ext ?_) (Fin.ext ?_)
    · show 0 + 1 * r.val = r.val; omega
    · show 256 * (j.val / 2 + 1 * 0) + (128 * (j.val % 2) + 1 * e.val) = 128 * j.val + e.val; omega

/-- The product's columns of group `j`. -/
theorem actGroup_apply (x2 : Vec Ideal S512x3584 .bf16) (x3 : Vec Ideal S512x320 .bf16) (x4 : Vec Ideal S3584x512 .fp8e4m3)
    (x5 : Vec Ideal S28x512 .f32) (x12 : Vec Ideal S320x512 .bf16) (j : Fin 4) (r : Fin 512) (e : Fin 128) :
    actGroup x2 x3 x4 x5 x12 j (ix2 r e) = act x2 x3 x4 x5 x12 r ⟨128 * j.val + e.val, by omega⟩ :=
  match j with
  | 0 => groupOf_apply x2 x3 x4 x5 x12 0 0 rfl r e
  | 1 => groupOf_apply x2 x3 x4 x5 x12 0 1 rfl r e
  | 2 => groupOf_apply x2 x3 x4 x5 x12 1 2 rfl r e
  | 3 => groupOf_apply x2 x3 x4 x5 x12 1 3 rfl r e

theorem colsOf_apply (x : Vec Ideal S512x512 .bf16) (j : Fin 4) (r : Fin 512) (e : Fin 128) :
    colsOf x j (ix2 r e) = x (ix2 r ⟨128 * j.val + e.val, by omega⟩) := by
  unfold colsOf
  refine View.ld_unit_apply_of x _ _ _ _ _ fun c => ?_
  match c with
  | ⟨0, _⟩ => show r.val = 0 + r.val; omega
  | ⟨1, _⟩ => show 128 * j.val + e.val = 128 * j.val + e.val; rfl

theorem rowBits_apply (v : FVec Ideal S512x128 .f32) (r : Fin 512) :
    rowBits v (ix2 r 0) = Quant.bits (peak fun x => v (ix2 r x)) :=
  (bits_apply _ r).trans (congrArg Quant.bits (max_apply v r))

/-- A code of the block. -/
def codeAt (v : Fin 4 → FVec Ideal S512x128 .f32) (r f : Fin 512) : EReal :=
  code (fun x => v ⟨f.val / 128, by omega⟩ (ix2 r x)) ⟨f.val % 128, by omega⟩

/-- The scale of a code of the block. -/
def scaleAt (v : Fin 4 → FVec Ideal S512x128 .f32) (r f : Fin 512) : EReal :=
  scale fun x => v ⟨f.val / 128, by omega⟩ (ix2 r x)

theorem codeAt_of (v : Fin 4 → FVec Ideal S512x128 .f32) (r : Fin 512) (f : Fin 512) (j : Fin 4) (e : Fin 128)
    (h : f.val = 128 * j.val + e.val) : code (fun x => v j (ix2 r x)) e = codeAt v r f := by
  have hf : f = ⟨128 * j.val + e.val, by omega⟩ := Fin.ext h
  rw [hf]
  unfold codeAt
  have h1 : (⟨(128 * j.val + e.val) / 128, by omega⟩ : Fin 4) = j := Fin.ext (by show (128 * j.val + e.val) / 128 = j.val; omega)
  have h2 : (⟨(128 * j.val + e.val) % 128, by omega⟩ : Fin 128) = e := Fin.ext (by show (128 * j.val + e.val) % 128 = e.val; omega)
  show _ = code (fun x => v ⟨(128 * j.val + e.val) / 128, _⟩ (ix2 r x)) ⟨(128 * j.val + e.val) % 128, _⟩
  rw [h1, h2]

theorem scaleAt_of (v : Fin 4 → FVec Ideal S512x128 .f32) (r : Fin 512) (f : Fin 512) (j : Fin 4) (e : Fin 128)
    (h : f.val = 128 * j.val + e.val) : scale (fun x => v j (ix2 r x)) = scaleAt v r f := by
  have hf : f = ⟨128 * j.val + e.val, by omega⟩ := Fin.ext h
  rw [hf]
  unfold scaleAt
  have h1 : (⟨(128 * j.val + e.val) / 128, by omega⟩ : Fin 4) = j := Fin.ext (by show (128 * j.val + e.val) / 128 = j.val; omega)
  show _ = scale (fun x => v ⟨(128 * j.val + e.val) / 128, _⟩ (ix2 r x))
  rw [h1]

/-- The stored codes. -/
theorem codePieces_apply (v : Fin 4 → FVec Ideal S512x128 .f32) (r f : Fin 512) :
    View.canon (codePieces v) (ix2 r f) = codeAt v r f := by
  have hf := f.isLt
  have hl : codePieces v = (List.ofFn fun k : Fin 4 => (⟨Rect.unit (s := S512x512) ![0, 128 * (3 - k.val)] S512x128.size
      (by intro a; fin_cases k <;> fin_cases a <;> decide), codesOf (v k.rev)⟩ : View.Piece (Elt Ideal) S512x512 .fp8e4m3)) ++ [] := rfl
  rw [hl]
  refine canon_blocks (S := S512x512) (e := .fp8e4m3) (fun k : Fin 4 => ![0, 128 * (3 - k.val)]) S512x128.size _ _ []
    (fun y => codeAt v (y 0) (y 1)) ?_ _ ?_
  · intro k x
    obtain ⟨a, b, rfl⟩ : ∃ (a : Fin 512) (b : Fin 128), x = ix2 a b := ⟨x 0, x 1, eq_ix2 x⟩
    have hk := k.isLt
    have hr : (k.rev).val = 3 - k.val := by rw [Fin.val_rev]; omega
    refine (codes_apply _ _ a b (rowBits_apply _ a)).trans ((codeAt_of v a ⟨128 * (3 - k.val) + b.val, by omega⟩ k.rev b (by rw [hr])).trans ?_)
    refine congrArg₂ (codeAt v) (Fin.ext ?_) (Fin.ext ?_)
    · show a.val = 0 + 1 * a.val; omega
    · show 128 * (3 - k.val) + b.val = 128 * (3 - k.val) + 1 * b.val; omega
  · refine ⟨⟨3 - f.val / 128, by omega⟩, fun c => ?_⟩
    match c with
    | ⟨0, _⟩ => exact ⟨by show 0 ≤ r.val; omega, by show r.val < 0 + 512; omega⟩
    | ⟨1, _⟩ => exact ⟨by show 128 * (3 - (3 - f.val / 128)) ≤ f.val; omega, by show f.val < 128 * (3 - (3 - f.val / 128)) + 128; omega⟩

theorem deq_inb : ∀ (h q : Fin 2) (a : Fin S512x512.rank),
    (![0, 256 * h.val + 128 * (1 - q.val)] : Fin 2 → ℕ) a + S512x128.size a ≤ S512x512.size a := by
  decide

theorem deqPieces_eq (v : Fin 4 → FVec Ideal S512x128 .f32) (h : Fin 2) : ∃ L, deqPieces v h = (List.ofFn fun q : Fin 2 =>
    (⟨Rect.unit (s := S512x512) ![0, 256 * h.val + 128 * (1 - q.val)] S512x128.size (deq_inb h q), dequant (v ⟨2 * h.val + (1 - q.val), by omega⟩)⟩ :
      View.Piece (Elt Ideal) S512x512 .bf16)) ++ L := by
  match h with
  | 0 => exact ⟨[], rfl⟩
  | 1 => exact ⟨_, rfl⟩

/-- The stored products of code and scale, in the half the body reads. -/
theorem deqHalf_apply (v : Fin 4 → FVec Ideal S512x128 .f32) (h : Fin 2) (r : Fin 512) (k : Fin 256) :
    deqHalf v h (ix2 r k) = codeAt v r ⟨256 * h.val + k.val, by omega⟩ * scaleAt v r ⟨256 * h.val + k.val, by omega⟩ := by
  have hh := h.isLt
  obtain ⟨L, hl⟩ := deqPieces_eq v h
  unfold deqHalf
  rw [hl]
  have hk := k.isLt
  refine (canon_blocks (S := S512x512) (e := .bf16) (fun q : Fin 2 => ![0, 256 * h.val + 128 * (1 - q.val)]) S512x128.size _ _ L
    (fun y => codeAt v (y 0) (y 1) * scaleAt v (y 0) (y 1)) ?_ _ ?_).trans ?_
  · intro q x
    obtain ⟨a, b, rfl⟩ : ∃ (a : Fin 512) (b : Fin 128), x = ix2 a b := ⟨x 0, x 1, eq_ix2 x⟩
    have hq := q.isLt
    have hb := b.isLt
    refine (deq_apply _ _ a b).trans ?_
    rw [codes_apply _ _ a b (rowBits_apply _ a), scale_apply _ _ a (rowBits_apply _ a)]
    have e0 : (⟨a.val, a.isLt⟩ : Fin 512) = (Rect.unit (s := S512x512) ![0, 256 * h.val + 128 * (1 - q.val)] S512x128.size
      (deq_inb h q)).emb (ix2 a b) 0 := Fin.ext (by show a.val = 0 + 1 * a.val; omega)
    have e1 : (⟨256 * h.val + 128 * (1 - q.val) + b.val, by omega⟩ : Fin 512) = (Rect.unit (s := S512x512) ![0, 256 * h.val + 128 * (1 - q.val)] S512x128.size
      (deq_inb h q)).emb (ix2 a b) 1 := Fin.ext (by show _ = 256 * h.val + 128 * (1 - q.val) + 1 * b.val; show 256 * h.val + 128 * (1 - q.val) + b.val = _; omega)
    have hv : (⟨256 * h.val + 128 * (1 - q.val) + b.val, by omega⟩ : Fin 512).val = 128 * (⟨2 * h.val + (1 - q.val), by omega⟩ : Fin 4).val + b.val := by
      show 256 * h.val + 128 * (1 - q.val) + b.val = 128 * (2 * h.val + (1 - q.val)) + b.val; omega
    refine Ideal.mul_congr ((codeAt_of v a _ _ b hv).trans (congrArg₂ (codeAt v) e0 e1)) ((scaleAt_of v a _ _ b hv).trans (congrArg₂ (scaleAt v) e0 e1))
  · refine ⟨⟨1 - k.val / 128, by omega⟩, fun c => ?_⟩
    match c with
    | ⟨0, _⟩ => exact ⟨by show 0 ≤ 0 + 1 * r.val; omega, by show 0 + 1 * r.val < 0 + 512; omega⟩
    | ⟨1, _⟩ => exact ⟨by show 256 * h.val + 128 * (1 - (1 - k.val / 128)) ≤ 256 * h.val + 1 * k.val; omega,
        by show 256 * h.val + 1 * k.val < 256 * h.val + 128 * (1 - (1 - k.val / 128)) + 128; omega⟩
  · exact Ideal.mul_congr (congrArg₂ (codeAt v) (Fin.ext (by show 0 + 1 * r.val = r.val; omega)) (Fin.ext (by show 256 * h.val + 1 * k.val = 256 * h.val + k.val; omega)))
      (congrArg₂ (scaleAt v) (Fin.ext (by show 0 + 1 * r.val = r.val; omega)) (Fin.ext (by show 256 * h.val + 1 * k.val = 256 * h.val + k.val; omega)))

/-- Two row blocks of dequantised weights. -/
theorem weightHalf_apply (w : Vec Ideal S512x3584 .fp8e4m3) (s : Vec Ideal S1x4x3584 .f32) (h : Fin 2) (n : Fin 7) (k : Fin 256) (e : Fin 512) :
    weightHalf w s h n (ix2 k e) = (w (ix2 ⟨256 * h.val + k.val, by omega⟩ ⟨512 * n.val + e.val, by omega⟩)
      * s (ix3 0 ⟨2 * h.val + k.val / 128, by omega⟩ ⟨512 * n.val + e.val, by omega⟩) : EReal) := by
  have hk := k.isLt
  unfold weightHalf
  rw [half_apply]
  split
  · refine Ideal.mul_congr (View.ld_unit_apply_of w _ _ _ _ _ fun c => ?_) (View.ld_unit_apply_of s _ _ _ _ _ fun c => ?_)
    · match c with
      | ⟨0, _⟩ => show 256 * h.val + k.val = 256 * h.val + k.val; rfl
      | ⟨1, _⟩ => show 512 * n.val + e.val = 512 * n.val + e.val; rfl
    · match c with
      | ⟨0, _⟩ => show 0 = 0 + 0; rfl
      | ⟨1, _⟩ => show 2 * h.val + k.val / 128 = 2 * h.val + 0; omega
      | ⟨2, _⟩ => show 512 * n.val + e.val = 512 * n.val + e.val; rfl
  · refine Ideal.mul_congr (View.ld_unit_apply_of w _ _ _ _ _ fun c => ?_) (View.ld_unit_apply_of s _ _ _ _ _ fun c => ?_)
    · match c with
      | ⟨0, _⟩ => show 256 * h.val + k.val = 256 * h.val + 128 + (k.val - 128); omega
      | ⟨1, _⟩ => show 512 * n.val + e.val = 512 * n.val + e.val; rfl
    · match c with
      | ⟨0, _⟩ => show 0 = 0 + 0; rfl
      | ⟨1, _⟩ => show 2 * h.val + k.val / 128 = 2 * h.val + 1 + 0; omega
      | ⟨2, _⟩ => show 512 * n.val + e.val = 512 * n.val + e.val; rfl

/-- A term of the result: a dequantised gradient times a dequantised weight. -/
def term (w : Vec Ideal S512x3584 .fp8e4m3) (s : Vec Ideal S1x4x3584 .f32) (v : Fin 4 → FVec Ideal S512x128 .f32) (r : Fin 512)
    (e : Fin 3584) (f : Fin 512) : EReal :=
  (codeAt v r f * scaleAt v r f) * (w (ix2 f e) * s (ix3 0 ⟨f.val / 128, by omega⟩ e))

/-- What half `h` of the block's columns adds to the result at one entry. -/
def halfSum (x6 : Vec Ideal S512x3584 .fp8e4m3) (x7 : Vec Ideal S1x4x3584 .f32) (x8 : Vec Ideal S512x3584 .fp8e4m3) (x9 : Vec Ideal S1x4x3584 .f32)
    (a b : Fin 4 → FVec Ideal S512x128 .f32) (h : Fin 2) (r : Fin 512) (e : Fin 3584) : EReal :=
  (∑ k : Fin 256, term x6 x7 a r e ⟨256 * h.val + k.val, by omega⟩) + ∑ k : Fin 256, term x8 x9 b r e ⟨256 * h.val + k.val, by omega⟩

theorem dnAdd_apply (x6 : Vec Ideal S512x3584 .fp8e4m3) (x7 : Vec Ideal S1x4x3584 .f32) (x8 : Vec Ideal S512x3584 .fp8e4m3) (x9 : Vec Ideal S1x4x3584 .f32)
    (a b : Fin 4 → FVec Ideal S512x128 .f32) (h : Fin 2) (n : Fin 7) (prev : Vec Ideal S512x512 .f32) (r e : Fin 512) :
    dnAdd x6 x7 x8 x9 a b h n prev (ix2 r e) = (prev (ix2 r e) + halfSum x6 x7 x8 x9 a b h r ⟨512 * n.val + e.val, by omega⟩ : EReal) := by
  have hh := h.isLt
  unfold dnAdd
  rw [dn_apply]
  unfold halfSum term
  refine congrArg (fun q : EReal => prev (ix2 r e) + q) (congrArg₂ (fun p q : EReal => p + q)
    (Finset.sum_congr rfl fun k _ => Ideal.mul_congr (deqHalf_apply a h r k) ((weightHalf_apply x6 x7 h n k e).trans (Ideal.mul_congr rfl (congrArg x7 ?_))))
    (Finset.sum_congr rfl fun k _ => Ideal.mul_congr (deqHalf_apply b h r k) ((weightHalf_apply x8 x9 h n k e).trans (Ideal.mul_congr rfl (congrArg x9 ?_)))))
  all_goals
    have hk := k.isLt
    exact congrArg (fun q : Fin 4 => (ix3 0 q _ : S1x4x3584.Idx)) (Fin.ext (by show 2 * h.val + k.val / 128 = (256 * h.val + k.val) / 128; omega))

/-- The result's block after the body. -/
theorem dnPieces_apply (x6 : Vec Ideal S512x3584 .fp8e4m3) (x7 : Vec Ideal S1x4x3584 .f32) (x8 : Vec Ideal S512x3584 .fp8e4m3) (x9 : Vec Ideal S1x4x3584 .f32)
    (a b : Fin 4 → FVec Ideal S512x128 .f32) (prev : Vec Ideal S512x3584 .f32) (L : List (View.Piece (Elt Ideal) S512x3584 .f32)) (r : Fin 512) (e : Fin 3584) :
    View.canon (dnPieces x6 x7 x8 x9 a b prev ++ L) (ix2 r e)
      = ((prev (ix2 r e) + halfSum x6 x7 x8 x9 a b 0 r e) + halfSum x6 x7 x8 x9 a b 1 r e : EReal) := by
  have he := e.isLt
  unfold dnPieces
  rw [List.append_assoc]
  refine canon_blocks (S := S512x3584) (e := .f32) (fun k : Fin 7 => ![0, 512 * k.rev.val]) S512x512.size _ _ _
    (fun y => (prev y + halfSum x6 x7 x8 x9 a b 0 (y 0) (y 1)) + halfSum x6 x7 x8 x9 a b 1 (y 0) (y 1)) ?_ _ ?_
  · intro k x
    obtain ⟨p, q, rfl⟩ : ∃ (p : Fin 512) (q : Fin 512), x = ix2 p q := ⟨x 0, x 1, eq_ix2 x⟩
    have hk := k.rev.isLt
    have e0 : p = (Rect.unit (s := S512x3584) ![0, 512 * k.rev.val] S512x512.size (by intro a; fin_cases k <;> fin_cases a <;> decide)).emb (ix2 p q) 0 :=
      Fin.ext (by show p.val = 0 + 1 * p.val; omega)
    have e1 : (⟨512 * k.rev.val + q.val, by omega⟩ : Fin 3584)
        = (Rect.unit (s := S512x3584) ![0, 512 * k.rev.val] S512x512.size (by intro a; fin_cases k <;> fin_cases a <;> decide)).emb (ix2 p q) 1 :=
      Fin.ext (by show 512 * k.rev.val + q.val = 512 * k.rev.val + 1 * q.val; omega)
    refine (dnAdd_apply x6 x7 x8 x9 a b 1 k.rev _ p q).trans ?_
    rw [dnAdd_apply]
    refine congrArg₂ (fun u v : EReal => u + v) (congrArg₂ (fun u v : EReal => u + v) ?_ (congrArg₂ (halfSum x6 x7 x8 x9 a b 0) e0 e1))
      (congrArg₂ (halfSum x6 x7 x8 x9 a b 1) e0 e1)
    rfl
  · refine ⟨⟨6 - e.val / 512, by omega⟩, fun c => ?_⟩
    have hr : (⟨6 - e.val / 512, by omega⟩ : Fin 7).rev.val = e.val / 512 := by
      rw [Fin.val_rev]; show 7 - (6 - e.val / 512 + 1) = e.val / 512; omega
    match c with
    | ⟨0, _⟩ => exact ⟨by show 0 ≤ r.val; omega, by show r.val < 0 + 512; omega⟩
    | ⟨1, _⟩ => exact ⟨by show 512 * (⟨6 - e.val / 512, _⟩ : Fin 7).rev.val ≤ e.val; rw [hr]; omega,
        by show e.val < 512 * (⟨6 - e.val / 512, _⟩ : Fin 7).rev.val + 512; rw [hr]; omega⟩

/-- The column a scale goes to, as the body computes it. -/
theorem column_word : ∀ p : Fin 37, ∀ j : Fin 4, Scalar.addi (Scalar.addi (Scalar.muli (BitVec.ofNat 32 p.val) 4#32) (BitVec.ofNat 32 (2 * (j.val / 2))))
    (BitVec.ofNat 32 (j.val % 2)) = BitVec.ofNat 32 (4 * p.val + j.val) := by
  decide +kernel

theorem cmpi_ofNat (a b : ℕ) (ha : a < 148) (hb : b < 148) (x y : EReal) :
    Scalar.select (IntOp.cmpi .eq (BitVec.ofNat 32 a) (BitVec.ofNat 32 b)) x y = if a = b then x else y := by
  by_cases h : a = b
  · subst h
    rw [if_pos rfl]
    have : IntOp.cmpi .eq (BitVec.ofNat 32 a) (BitVec.ofNat 32 a) = 1#1 := by simp [IntOp.cmpi]
    rw [this]; rfl
  · rw [if_neg h]
    have : IntOp.cmpi .eq (BitVec.ofNat 32 a) (BitVec.ofNat 32 b) = 0#1 := by
      have hne : BitVec.ofNat 32 a ≠ BitVec.ofNat 32 b := fun hc => h (by
        have := congrArg BitVec.toNat hc
        rw [BitVec.toNat_ofNat, BitVec.toNat_ofNat] at this
        omega)
      rw [show IntOp.cmpi .eq (BitVec.ofNat 32 a) (BitVec.ofNat 32 b) = BitVec.ofBool (BitVec.ofNat 32 a == BitVec.ofNat 32 b) from rfl,
        beq_eq_false_iff_ne.mpr hne]
      rfl
    rw [this]; rfl

theorem putScale_apply (p : Fin 37) (j : Fin 4) (v : FVec Ideal S512x128 .f32) (prev : Vec Ideal S512x148 .f32) (r : Fin 512) (g : Fin 148) :
    putScale p.val (BitVec.ofNat 32 (2 * (j.val / 2))) (BitVec.ofNat 32 (j.val % 2)) v prev (ix2 r g)
      = if g.val = 4 * p.val + j.val then scale (fun x => v (ix2 r x)) else prev (ix2 r g) := by
  unfold putScale
  rw [put_apply, column_word, scale_apply _ _ r (rowBits_apply v r)]
  exact cmpi_ofNat _ _ g.isLt (by omega) _ _

/-- The row block of scales after the body. -/
theorem scalesAfter_apply (p : Fin 37) (v : Fin 4 → FVec Ideal S512x128 .f32) (prev : Vec Ideal S512x148 .f32) (r : Fin 512) (g : Fin 148) :
    scalesAfter p.val v prev (ix2 r g)
      = if g.val / 4 = p.val then scale (fun x => v ⟨g.val % 4, by omega⟩ (ix2 r x)) else prev (ix2 r g) := by
  unfold scalesAfter
  refine (putScale_apply p 3 (v 3) _ r g).trans ?_
  rw [show putScale p.val 2#32 0#32 (v 2) (putScale p.val 0#32 1#32 (v 1) (putScale p.val 0#32 0#32 (v 0) prev)) (ix2 r g) = _ from
      putScale_apply p 2 (v 2) _ r g,
    show putScale p.val 0#32 1#32 (v 1) (putScale p.val 0#32 0#32 (v 0) prev) (ix2 r g) = _ from putScale_apply p 1 (v 1) _ r g,
    show putScale p.val 0#32 0#32 (v 0) prev (ix2 r g) = _ from putScale_apply p 0 (v 0) _ r g]
  have key : ∀ j : Fin 4, g.val = 4 * p.val + j.val → (g.val / 4 = p.val ∧ (⟨g.val % 4, by omega⟩ : Fin 4) = j) := fun j hj =>
    ⟨by omega, Fin.ext (by show g.val % 4 = j.val; omega)⟩
  by_cases h3 : g.val = 4 * p.val + (3 : Fin 4).val
  · rw [if_pos h3, if_pos (key 3 h3).1, (key 3 h3).2]
  by_cases h2 : g.val = 4 * p.val + (2 : Fin 4).val
  · rw [if_neg h3, if_pos h2, if_pos (key 2 h2).1, (key 2 h2).2]
  by_cases h1 : g.val = 4 * p.val + (1 : Fin 4).val
  · rw [if_neg h3, if_neg h2, if_pos h1, if_pos (key 1 h1).1, (key 1 h1).2]
  by_cases h0 : g.val = 4 * p.val + (0 : Fin 4).val
  · rw [if_neg h3, if_neg h2, if_neg h1, if_pos h0, if_pos (key 0 h0).1, (key 0 h0).2]
  rw [if_neg h3, if_neg h2, if_neg h1, if_neg h0, if_neg]
  intro hc
  have a3 : g.val ≠ 4 * p.val + 3 := h3
  have a2 : g.val ≠ 4 * p.val + 2 := h2
  have a1 : g.val ≠ 4 * p.val + 1 := h1
  have a0 : g.val ≠ 4 * p.val + 0 := h0
  omega

end Cert.MainIdeal.Body

end
-- ==== Proof.MainPiecesA.lean ====
/-
The pieces the body of the main call stores at the first column tile of a row tile, read off its generated run, in terms of the blocks of
gradients.
-/
module

public import proofs.«01_k».proof.Proof.MainBody
public import proofs.«01_k».proof.Proof.Gen.MainIdeal.Frame.RunC
public import Idealize.ShloMosaic.Lib.Claim

@[expose] public section

set_option maxRecDepth 16384

noncomputable section

namespace Cert.MainIdeal.Body

open Idealize.ShloMosaic Idealize.ShloMosaic.TcCoe Idealize.ShloMosaic.Tactic
open Cert.MainIdeal.Gen
open Idealize.SL Idealize.SL.RA Idealize.SL.Sem

variable {F : FTy → Type} [FloatOps F]

set_option maxHeartbeats 8000000 in
/-- The result's pieces, the codes' pieces and the last piece of each block of scales. -/
theorem piecesA (c : Dev nD) (i : grid0.Coords) (arg2 : Memref sig .tc .vmem S8x320 .f32) (harg2 : arg2.IsWhole) (arg3 : Memref sig .tc .vmem S320x1 .f32) (harg3 : arg3.IsWhole) (arg4 : Memref sig .tc .vmem S512x3584 .bf16) (harg4 : arg4.IsWhole) (arg5 : Memref sig .tc .vmem S512x320 .bf16) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S512x3584 .fp8e4m3) (harg8 : arg8.IsWhole) (arg9 : Memref sig .tc .vmem S1x4x3584 .f32) (harg9 : arg9.IsWhole) (arg10 : Memref sig .tc .vmem S512x3584 .fp8e4m3) (harg10 : arg10.IsWhole) (arg11 : Memref sig .tc .vmem S1x4x3584 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S320x512 .bf16) (harg14 : arg14.IsWhole) (arg15 : Memref sig .tc .vmem S320x512 .bf16) (harg15 : arg15.IsWhole) (arg16 : Memref sig .tc .vmem S320x512 .bf16) (harg16 : arg16.IsWhole) (arg17 : Memref sig .tc .vmem S320x512 .bf16) (harg17 : arg17.IsWhole) (arg18 : Memref sig .tc .vmem S320x512 .bf16) (harg18 : arg18.IsWhole) (arg19 : Memref sig .tc .vmem S512x3584 .f32) (harg19 : arg19.IsWhole) (arg20 : Memref sig .tc .vmem S512x512 .fp8e4m3) (harg20 : arg20.IsWhole) (arg21 : Memref sig .tc .vmem S512x148 .f32) (harg21 : arg21.IsWhole) (arg22 : Memref sig .tc .vmem S512x512 .fp8e4m3) (harg22 : arg22.IsWhole) (arg23 : Memref sig .tc .vmem S512x148 .f32) (harg23 : arg23.IsWhole) (arg24 : Memref sig .tc .vmem S512x320 .bf16) (harg24 : arg24.IsWhole) (arg25 : Memref sig .tc .vmem S512x320 .bf16) (harg25 : arg25.IsWhole) (arg26 : Memref sig .tc .vmem S320x512 .f32) (harg26 : arg26.IsWhole) (arg27 : Memref sig .tc .vmem S320x512 .f32) (harg27 : arg27.IsWhole) (arg28 : Memref sig .tc .vmem S3584x256 .bf16) (harg28 : arg28.IsWhole) (arg29 : Memref sig .tc .vmem S2x512x256 .f32) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x512 .bf16) (harg32 : arg32.IsWhole) (arg33 : Memref sig .tc .vmem S512x512 .bf16) (harg33 : arg33.IsWhole) (arg34 : Memref sig .tc .vmem S512x320 .f32) (harg34 : arg34.IsWhole) (arg35 : Memref sig .tc .vmem S512x320 .f32) (harg35 : arg35.IsWhole) (hc0 : cond0_0 i) (hc1 : ¬cond0_1 i)
    (x0 : Vec F S8x320 .f32) (x1 : Vec F S320x1 .f32) (x2 : Vec F S512x3584 .bf16) (x3 : Vec F S512x320 .bf16) (x4 : Vec F S3584x512 .fp8e4m3) (x5 : Vec F S28x512 .f32) (x6 : Vec F S512x3584 .fp8e4m3) (x7 : Vec F S1x4x3584 .f32) (x8 : Vec F S512x3584 .fp8e4m3) (x9 : Vec F S1x4x3584 .f32) (x10 : Vec F S512x512 .bf16) (x11 : Vec F S512x512 .bf16) (x12 : Vec F S320x512 .bf16) (x13 : Vec F S320x512 .bf16) (x14 : Vec F S320x512 .bf16) (x15 : Vec F S320x512 .bf16) (x16 : Vec F S320x512 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16).1
        = dnPieces x6 x7 x8 x9 (fun j => gateGrad (actGroup x2 x3 x4 x5 x12 j) (colsOf x10 j) (colsOf x11 j))
          (fun j => upGrad (actGroup x2 x3 x4 x5 x12 j) (colsOf x10 j)) k0_pay6 ++ [⟨Rect.unit ![0, 0] S512x3584.size inb_S512x3584_S512x3584_0_0, k0_pay6⟩]
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16).2.1
        = codePieces (fun j => gateGrad (actGroup x2 x3 x4 x5 x12 j) (colsOf x10 j) (colsOf x11 j))
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16).2.2.2.1
        = codePieces (fun j => upGrad (actGroup x2 x3 x4 x5 x12 j) (colsOf x10 j))
    ∧ (∃ L, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16).2.2.1
        = (⟨Rect.unit ![0, 0] S512x148.size inb_S512x148_S512x148_0_0, scalesAfter (i 1).val (fun j => gateGrad (actGroup x2 x3 x4 x5 x12 j) (colsOf x10 j) (colsOf x11 j)) k0_pay9⟩ : View.Piece (Elt F) S512x148 .f32) :: L)
    ∧ (∃ L, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16).2.2.2.2.1
        = (⟨Rect.unit ![0, 0] S512x148.size inb_S512x148_S512x148_0_0, scalesAfter (i 1).val (fun j => upGrad (actGroup x2 x3 x4 x5 x12 j) (colsOf x10 j)) k0_pay10⟩ : View.Piece (Elt F) S512x148 .f32) :: L) := by
  refine ⟨?_, ?_, ?_, ?_, ?_⟩
  all_goals
    unfold kernelRun0_A
    dsimp only
    sl_unfold_words
    simp (disch := decide) only [↓ View.readCov_skip, ↓ View.readCov_cons_toLoadRect, ↓ View.readCov_fill]
    simp only [View.readAt_eq_ld, Memref.IsWhole.read_unread, View.readCov_eq_canon']
  · rfl
  · rfl
  · rfl
  · exact ⟨_, rfl⟩
  · exact ⟨_, rfl⟩

end Cert.MainIdeal.Body

end
-- ==== Proof.MainPiecesB.lean ====
/-
The pieces the body of the main call stores at a column tile between the first and the last, read off its generated run, in terms of the blocks of
gradients.
-/
module

public import proofs.«01_k».proof.Proof.MainBody
public import proofs.«01_k».proof.Proof.Gen.MainIdeal.Frame.RunC
public import Idealize.ShloMosaic.Lib.Claim

@[expose] public section

set_option maxRecDepth 16384

noncomputable section

namespace Cert.MainIdeal.Body

open Idealize.ShloMosaic Idealize.ShloMosaic.TcCoe Idealize.ShloMosaic.Tactic
open Cert.MainIdeal.Gen
open Idealize.SL Idealize.SL.RA Idealize.SL.Sem

variable {F : FTy → Type} [FloatOps F]

set_option maxHeartbeats 8000000 in
/-- The result's pieces, the codes' pieces and the last piece of each block of scales. -/
theorem piecesB (c : Dev nD) (i : grid0.Coords) (arg2 : Memref sig .tc .vmem S8x320 .f32) (harg2 : arg2.IsWhole) (arg3 : Memref sig .tc .vmem S320x1 .f32) (harg3 : arg3.IsWhole) (arg4 : Memref sig .tc .vmem S512x3584 .bf16) (harg4 : arg4.IsWhole) (arg5 : Memref sig .tc .vmem S512x320 .bf16) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S512x3584 .fp8e4m3) (harg8 : arg8.IsWhole) (arg9 : Memref sig .tc .vmem S1x4x3584 .f32) (harg9 : arg9.IsWhole) (arg10 : Memref sig .tc .vmem S512x3584 .fp8e4m3) (harg10 : arg10.IsWhole) (arg11 : Memref sig .tc .vmem S1x4x3584 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S320x512 .bf16) (harg14 : arg14.IsWhole) (arg15 : Memref sig .tc .vmem S320x512 .bf16) (harg15 : arg15.IsWhole) (arg16 : Memref sig .tc .vmem S320x512 .bf16) (harg16 : arg16.IsWhole) (arg17 : Memref sig .tc .vmem S320x512 .bf16) (harg17 : arg17.IsWhole) (arg18 : Memref sig .tc .vmem S320x512 .bf16) (harg18 : arg18.IsWhole) (arg19 : Memref sig .tc .vmem S512x3584 .f32) (harg19 : arg19.IsWhole) (arg20 : Memref sig .tc .vmem S512x512 .fp8e4m3) (harg20 : arg20.IsWhole) (arg21 : Memref sig .tc .vmem S512x148 .f32) (harg21 : arg21.IsWhole) (arg22 : Memref sig .tc .vmem S512x512 .fp8e4m3) (harg22 : arg22.IsWhole) (arg23 : Memref sig .tc .vmem S512x148 .f32) (harg23 : arg23.IsWhole) (arg24 : Memref sig .tc .vmem S512x320 .bf16) (harg24 : arg24.IsWhole) (arg25 : Memref sig .tc .vmem S512x320 .bf16) (harg25 : arg25.IsWhole) (arg26 : Memref sig .tc .vmem S320x512 .f32) (harg26 : arg26.IsWhole) (arg27 : Memref sig .tc .vmem S320x512 .f32) (harg27 : arg27.IsWhole) (arg28 : Memref sig .tc .vmem S3584x256 .bf16) (harg28 : arg28.IsWhole) (arg29 : Memref sig .tc .vmem S2x512x256 .f32) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x512 .bf16) (harg32 : arg32.IsWhole) (arg33 : Memref sig .tc .vmem S512x512 .bf16) (harg33 : arg33.IsWhole) (arg34 : Memref sig .tc .vmem S512x320 .f32) (harg34 : arg34.IsWhole) (arg35 : Memref sig .tc .vmem S512x320 .f32) (harg35 : arg35.IsWhole) (hc0 : ¬cond0_0 i) (hc1 : ¬cond0_1 i)
    (x0 : Vec F S8x320 .f32) (x1 : Vec F S320x1 .f32) (x2 : Vec F S512x3584 .bf16) (x3 : Vec F S512x320 .bf16) (x4 : Vec F S3584x512 .fp8e4m3) (x5 : Vec F S28x512 .f32) (x6 : Vec F S512x3584 .fp8e4m3) (x7 : Vec F S1x4x3584 .f32) (x8 : Vec F S512x3584 .fp8e4m3) (x9 : Vec F S1x4x3584 .f32) (x10 : Vec F S512x512 .bf16) (x11 : Vec F S512x512 .bf16) (x12 : Vec F S320x512 .bf16) (x13 : Vec F S320x512 .bf16) (x14 : Vec F S320x512 .bf16) (x15 : Vec F S320x512 .bf16) (x16 : Vec F S320x512 .bf16) (xo17 : Vec F S512x3584 .f32) (xo19 : Vec F S512x148 .f32) (xo21 : Vec F S512x148 .f32) (xs6 : Vec F S512x320 .f32) (xs7 : Vec F S512x320 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).1
        = dnPieces x6 x7 x8 x9 (fun j => gateGrad (actGroup x2 x3 x4 x5 x12 j) (colsOf x10 j) (colsOf x11 j))
          (fun j => upGrad (actGroup x2 x3 x4 x5 x12 j) (colsOf x10 j)) xo17
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.1
        = codePieces (fun j => gateGrad (actGroup x2 x3 x4 x5 x12 j) (colsOf x10 j) (colsOf x11 j))
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.2.1
        = codePieces (fun j => upGrad (actGroup x2 x3 x4 x5 x12 j) (colsOf x10 j))
    ∧ (∃ L, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.1
        = (⟨Rect.unit ![0, 0] S512x148.size inb_S512x148_S512x148_0_0, scalesAfter (i 1).val (fun j => gateGrad (actGroup x2 x3 x4 x5 x12 j) (colsOf x10 j) (colsOf x11 j)) (View.ld xo19 (Rect.unit ![0, 0] S512x148.size inb_S512x148_S512x148_0_0))⟩ : View.Piece (Elt F) S512x148 .f32) :: L)
    ∧ (∃ L, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.2.2.1
        = (⟨Rect.unit ![0, 0] S512x148.size inb_S512x148_S512x148_0_0, scalesAfter (i 1).val (fun j => upGrad (actGroup x2 x3 x4 x5 x12 j) (colsOf x10 j)) (View.ld xo21 (Rect.unit ![0, 0] S512x148.size inb_S512x148_S512x148_0_0))⟩ : View.Piece (Elt F) S512x148 .f32) :: L) := by
  refine ⟨?_, ?_, ?_, ?_, ?_⟩
  all_goals
    unfold kernelRun0_B
    dsimp only
    sl_unfold_words
    simp (disch := decide) only [↓ View.readCov_skip, ↓ View.readCov_cons_toLoadRect, ↓ View.readCov_fill]
    simp only [View.readAt_eq_ld, Memref.IsWhole.read_unread, View.readCov_eq_canon']
  · rfl
  · rfl
  · rfl
  · exact ⟨_, rfl⟩
  · exact ⟨_, rfl⟩

end Cert.MainIdeal.Body

end
-- ==== Proof.MainPiecesC.lean ====
/-
The pieces the body of the main call stores at the last column tile of a row tile, read off its generated run, in terms of the blocks of
gradients.
-/
module

public import proofs.«01_k».proof.Proof.MainBody
public import proofs.«01_k».proof.Proof.Gen.MainIdeal.Frame.RunC
public import Idealize.ShloMosaic.Lib.Claim

@[expose] public section

set_option maxRecDepth 16384

noncomputable section

namespace Cert.MainIdeal.Body

open Idealize.ShloMosaic Idealize.ShloMosaic.TcCoe Idealize.ShloMosaic.Tactic
open Cert.MainIdeal.Gen
open Idealize.SL Idealize.SL.RA Idealize.SL.Sem

variable {F : FTy → Type} [FloatOps F]

set_option maxHeartbeats 8000000 in
/-- The result's pieces, the codes' pieces and the last piece of each block of scales. -/
theorem piecesC (c : Dev nD) (i : grid0.Coords) (arg2 : Memref sig .tc .vmem S8x320 .f32) (harg2 : arg2.IsWhole) (arg3 : Memref sig .tc .vmem S320x1 .f32) (harg3 : arg3.IsWhole) (arg4 : Memref sig .tc .vmem S512x3584 .bf16) (harg4 : arg4.IsWhole) (arg5 : Memref sig .tc .vmem S512x320 .bf16) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S512x3584 .fp8e4m3) (harg8 : arg8.IsWhole) (arg9 : Memref sig .tc .vmem S1x4x3584 .f32) (harg9 : arg9.IsWhole) (arg10 : Memref sig .tc .vmem S512x3584 .fp8e4m3) (harg10 : arg10.IsWhole) (arg11 : Memref sig .tc .vmem S1x4x3584 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S320x512 .bf16) (harg14 : arg14.IsWhole) (arg15 : Memref sig .tc .vmem S320x512 .bf16) (harg15 : arg15.IsWhole) (arg16 : Memref sig .tc .vmem S320x512 .bf16) (harg16 : arg16.IsWhole) (arg17 : Memref sig .tc .vmem S320x512 .bf16) (harg17 : arg17.IsWhole) (arg18 : Memref sig .tc .vmem S320x512 .bf16) (harg18 : arg18.IsWhole) (arg19 : Memref sig .tc .vmem S512x3584 .f32) (harg19 : arg19.IsWhole) (arg20 : Memref sig .tc .vmem S512x512 .fp8e4m3) (harg20 : arg20.IsWhole) (arg21 : Memref sig .tc .vmem S512x148 .f32) (harg21 : arg21.IsWhole) (arg22 : Memref sig .tc .vmem S512x512 .fp8e4m3) (harg22 : arg22.IsWhole) (arg23 : Memref sig .tc .vmem S512x148 .f32) (harg23 : arg23.IsWhole) (arg24 : Memref sig .tc .vmem S512x320 .bf16) (harg24 : arg24.IsWhole) (arg25 : Memref sig .tc .vmem S512x320 .bf16) (harg25 : arg25.IsWhole) (arg26 : Memref sig .tc .vmem S320x512 .f32) (harg26 : arg26.IsWhole) (arg27 : Memref sig .tc .vmem S320x512 .f32) (harg27 : arg27.IsWhole) (arg28 : Memref sig .tc .vmem S3584x256 .bf16) (harg28 : arg28.IsWhole) (arg29 : Memref sig .tc .vmem S2x512x256 .f32) (harg29 : arg29.IsWhole) (arg30 : Memref sig .tc .vmem S512x512 .bf16) (harg30 : arg30.IsWhole) (arg31 : Memref sig .tc .vmem S512x512 .bf16) (harg31 : arg31.IsWhole) (arg32 : Memref sig .tc .vmem S512x512 .bf16) (harg32 : arg32.IsWhole) (arg33 : Memref sig .tc .vmem S512x512 .bf16) (harg33 : arg33.IsWhole) (arg34 : Memref sig .tc .vmem S512x320 .f32) (harg34 : arg34.IsWhole) (arg35 : Memref sig .tc .vmem S512x320 .f32) (harg35 : arg35.IsWhole) (hc0 : ¬cond0_0 i) (hc1 : cond0_1 i)
    (x0 : Vec F S8x320 .f32) (x1 : Vec F S320x1 .f32) (x2 : Vec F S512x3584 .bf16) (x3 : Vec F S512x320 .bf16) (x4 : Vec F S3584x512 .fp8e4m3) (x5 : Vec F S28x512 .f32) (x6 : Vec F S512x3584 .fp8e4m3) (x7 : Vec F S1x4x3584 .f32) (x8 : Vec F S512x3584 .fp8e4m3) (x9 : Vec F S1x4x3584 .f32) (x10 : Vec F S512x512 .bf16) (x11 : Vec F S512x512 .bf16) (x12 : Vec F S320x512 .bf16) (x13 : Vec F S320x512 .bf16) (x14 : Vec F S320x512 .bf16) (x15 : Vec F S320x512 .bf16) (x16 : Vec F S320x512 .bf16) (xo17 : Vec F S512x3584 .f32) (xo19 : Vec F S512x148 .f32) (xo21 : Vec F S512x148 .f32) (xs6 : Vec F S512x320 .f32) (xs7 : Vec F S512x320 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).1
        = dnPieces x6 x7 x8 x9 (fun j => gateGrad (actGroup x2 x3 x4 x5 x12 j) (colsOf x10 j) (colsOf x11 j))
          (fun j => upGrad (actGroup x2 x3 x4 x5 x12 j) (colsOf x10 j)) xo17
    ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.1
        = codePieces (fun j => gateGrad (actGroup x2 x3 x4 x5 x12 j) (colsOf x10 j) (colsOf x11 j))
    ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.2.1
        = codePieces (fun j => upGrad (actGroup x2 x3 x4 x5 x12 j) (colsOf x10 j))
    ∧ (∃ L, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.1
        = (⟨Rect.unit ![0, 0] S512x148.size inb_S512x148_S512x148_0_0, scalesAfter (i 1).val (fun j => gateGrad (actGroup x2 x3 x4 x5 x12 j) (colsOf x10 j) (colsOf x11 j)) (View.ld xo19 (Rect.unit ![0, 0] S512x148.size inb_S512x148_S512x148_0_0))⟩ : View.Piece (Elt F) S512x148 .f32) :: L)
    ∧ (∃ L, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc0 hc1 x0 x1 x2 x3 x4 x5 x6 x7 x8 x9 x10 x11 x12 x13 x14 x15 x16 xo17 xo19 xo21 xs6 xs7).2.2.2.2.1
        = (⟨Rect.unit ![0, 0] S512x148.size inb_S512x148_S512x148_0_0, scalesAfter (i 1).val (fun j => upGrad (actGroup x2 x3 x4 x5 x12 j) (colsOf x10 j)) (View.ld xo21 (Rect.unit ![0, 0] S512x148.size inb_S512x148_S512x148_0_0))⟩ : View.Piece (Elt F) S512x148 .f32) :: L) := by
  refine ⟨?_, ?_, ?_, ?_, ?_⟩
  all_goals
    unfold kernelRun0_C
    dsimp only
    sl_unfold_words
    simp (disch := decide) only [↓ View.readCov_skip, ↓ View.readCov_cons_toLoadRect, ↓ View.readCov_fill]
    simp only [View.readAt_eq_ld, Memref.IsWhole.read_unread, View.readCov_eq_canon']
  · rfl
  · rfl
  · rfl
  · exact ⟨_, rfl⟩
  · exact ⟨_, rfl⟩

end Cert.MainIdeal.Body

end
-- ==== Proof.MainTile.lean ====
/-
The value of the main call: what its grid points leave in the blocks of its first five results, and so what its first
five result arrays end with.
-/
module

public import proofs.«01_k».proof.Proof.MainFrame
public import proofs.«01_k».proof.Proof.MainHost
public import proofs.«01_k».proof.Proof.MainMath
public import proofs.«01_k».proof.Proof.MainPiecesA
public import proofs.«01_k».proof.Proof.MainPiecesB
public import proofs.«01_k».proof.Proof.MainPiecesC

@[expose] public section

set_option maxRecDepth 16384

noncomputable section

namespace Cert.MainIdeal.Result

open Cert.MainIdeal Cert.MainIdeal.Gen Cert.MainIdeal.Step Cert.MainIdeal.Host
open Cert.MainIdeal.Body (actGroup colsOf gateGrad upGrad scalesAfter codeAt scaleAt halfSum dnPieces codePieces)
open Idealize.ShloMosaic Idealize.ShloMosaic.TcCoe Idealize.ShloMosaic.Pointwise Idealize.SL.Sem

variable (m : (ℓ : Loc nD τ sig) → Buf (Elt Ideal) ℓ)

/-- The arrays the results depend on, in the call's memory. -/
def arrays (c : Dev nD) : MainSpec.Arrays where
  dy := m ((c : Thread nD τ).loc main_arg0)
  dz := m ((c : Thread nD τ).loc main_arg1)
  wg := m ((c : Thread nD τ).loc main_arg2)
  sg := m ((c : Thread nD τ).loc main_arg3)
  wu := m ((c : Thread nD τ).loc main_arg4)
  su := m ((c : Thread nD τ).loc main_arg5)
  wd := m ((c : Thread nD τ).loc main_arg6)
  sd := m ((c : Thread nD τ).loc main_arg7)
  ad := shapeCast (α := EReal) S320x18944 (m ((c : Thread nD τ).loc main_arg10)) shapeCasts_S5x64x18944_S320x18944
  gb := m ((c : Thread nD τ).loc main_arg16)
  ub := m ((c : Thread nD τ).loc main_arg17)

/-- A grid point's block of the gate branch's gradient, by groups of columns. -/
def gateBlock (c : Dev nD) (t : Fin cfg0.N) : Fin 4 → FVec Ideal S512x128 .f32 := fun j =>
  gateGrad (actGroup (iblk m c 2 t) (iblk m c 3 t) (iblk m c 4 t) (iblk m c 5 t) (iblk m c 12 t) j) (colsOf (iblk m c 10 t) j) (colsOf (iblk m c 11 t) j)

/-- A grid point's block of the up branch's gradient, by groups of columns. -/
def upBlock (c : Dev nD) (t : Fin cfg0.N) : Fin 4 → FVec Ideal S512x128 .f32 := fun j =>
  upGrad (actGroup (iblk m c 2 t) (iblk m c 3 t) (iblk m c 4 t) (iblk m c 5 t) (iblk m c 12 t) j) (colsOf (iblk m c 10 t) j)

/-- The product the body forms is the gradient of the gated activation. -/
theorem act_eq (c : Dev nD) (t : Fin cfg0.N) (r f : Fin 512) :
    Body.act (iblk m c 2 t) (iblk m c 3 t) (iblk m c 4 t) (iblk m c 5 t) (iblk m c 12 t) r f = MainSpec.act (arrays m c) (row t r) (col t f) := by
  unfold Body.act MainSpec.act Body.wdEntry
  refine congrArg₂ (fun p q : EReal => p + q) (Finset.sum_congr rfl fun k _ => Ideal.mul_congr (iblk2 m c t r k) (Ideal.mul_congr (iblk4 m c t k f) (iblk5 m c t _ f)))
    (Finset.sum_congr rfl fun q _ => Ideal.mul_congr (iblk3 m c t r q) (iblk12 m c t q f))

theorem gateBlock_apply (c : Dev nD) (t : Fin cfg0.N) (j : Fin 4) (r : Fin 512) (e : Fin 128) :
    gateBlock m c t j (ix2 r e) = MainSpec.gate (arrays m c) (row t r) (col t ⟨128 * j.val + e.val, by omega⟩) := by
  unfold gateBlock
  refine (gate_apply _ _ _ r e).trans ?_
  rw [Body.actGroup_apply, Body.colsOf_apply, Body.colsOf_apply, act_eq, iblk10, iblk11]
  rfl

theorem upBlock_apply (c : Dev nD) (t : Fin cfg0.N) (j : Fin 4) (r : Fin 512) (e : Fin 128) :
    upBlock m c t j (ix2 r e) = MainSpec.up (arrays m c) (row t r) (col t ⟨128 * j.val + e.val, by omega⟩) := by
  unfold upBlock
  refine (up_apply _ _ r e).trans ?_
  rw [Body.actGroup_apply, Body.colsOf_apply, act_eq, iblk10]
  rfl

/-- A block of gradients holds the array `v`'s entries at the point's rows and columns. -/
def Holds (t : Fin cfg0.N) (b : Fin 4 → FVec Ideal S512x128 .f32) (v : Fin 8192 → Fin 18944 → EReal) : Prop :=
  ∀ (j : Fin 4) (r : Fin 512) (e : Fin 128), b j (ix2 r e) = v (row t r) (col t ⟨128 * j.val + e.val, by omega⟩)

theorem Holds.group {t : Fin cfg0.N} {b : Fin 4 → FVec Ideal S512x128 .f32} {v : Fin 8192 → Fin 18944 → EReal} (h : Holds t b v)
    (j : Fin 4) (r : Fin 512) (g : Fin 148) (hg : g.val = 4 * (t.val % 37) + j.val) : (fun x => b j (ix2 r x)) = MainSpec.group v (row t r) g := by
  funext x
  rw [h j r x]
  unfold MainSpec.group
  refine congrArg (v (row t r)) (Fin.ext ?_)
  show 512 * (t.val % 37) + (128 * j.val + x.val) = 128 * g.val + x.val
  omega

theorem Holds.code {t : Fin cfg0.N} {b : Fin 4 → FVec Ideal S512x128 .f32} {v : Fin 8192 → Fin 18944 → EReal} (h : Holds t b v) (r f : Fin 512) :
    codeAt b r f = MainSpec.codes v (row t r) (col t f) := by
  unfold codeAt MainSpec.codes
  have hf := f.isLt
  refine congrArg₂ Step.code (h.group _ r _ ?_) (Fin.ext ?_)
  · show (512 * (t.val % 37) + f.val) / 128 = 4 * (t.val % 37) + f.val / 128; omega
  · show f.val % 128 = (512 * (t.val % 37) + f.val) % 128; omega

theorem Holds.scale {t : Fin cfg0.N} {b : Fin 4 → FVec Ideal S512x128 .f32} {v : Fin 8192 → Fin 18944 → EReal} (h : Holds t b v) (r f : Fin 512) :
    scaleAt b r f = MainSpec.scales v (row t r) ⟨(col t f).val / 128, by have := (col t f).isLt; omega⟩ := by
  unfold scaleAt MainSpec.scales
  have hf := f.isLt
  refine congrArg Step.scale (h.group _ r _ ?_)
  show (512 * (t.val % 37) + f.val) / 128 = 4 * (t.val % 37) + f.val / 128; omega

theorem Holds.term {t : Fin cfg0.N} {b : Fin 4 → FVec Ideal S512x128 .f32} {v : Fin 8192 → Fin 18944 → EReal} (h : Holds t b v)
    (w : (⟨2, ![18944, 3584]⟩ : Shape).Idx → EReal) (s : (⟨2, ![148, 28]⟩ : Shape).Idx → EReal) (x : Vec Ideal S512x3584 .fp8e4m3) (y : Vec Ideal S1x4x3584 .f32)
    (hx : ∀ f e, x (ix2 f e) = w (ix2 (col t f) e))
    (hy : ∀ (j : Fin 4) (e : Fin 3584), y (ix3 0 j e) = s (ix2 ⟨4 * (t.val % 37) + j.val, by omega⟩ ⟨e.val / 128, by omega⟩))
    (r : Fin 512) (e : Fin 3584) (p : Fin 2) (k : Fin 256) :
    Body.term x y b r e ⟨256 * p.val + k.val, by omega⟩ = Down.ext (MainSpec.term v w s (row t r) e) (256 * (2 * (t.val % 37) + p.val) + k.val) := by
  have hp := p.isLt
  have hk := k.isLt
  have ht : t.val % 37 < 37 := Nat.mod_lt _ (by omega)
  rw [Down.ext_of_lt _ _ (by omega)]
  have hc : (⟨256 * (2 * (t.val % 37) + p.val) + k.val, by omega⟩ : Fin 18944) = col t ⟨256 * p.val + k.val, by omega⟩ :=
    Fin.ext (by show 256 * (2 * (t.val % 37) + p.val) + k.val = 512 * (t.val % 37) + (256 * p.val + k.val); omega)
  rw [hc]
  unfold Body.term MainSpec.term
  refine Ideal.mul_congr (Ideal.mul_congr (h.code r _) (h.scale r _)) (Ideal.mul_congr (hx _ e) ((hy _ e).trans ?_))
  refine congrArg s (congrArg₂ ix2 (Fin.ext ?_) rfl)
  show 4 * (t.val % 37) + (256 * p.val + k.val) / 128 = (512 * (t.val % 37) + (256 * p.val + k.val)) / 128
  omega

/-- What half `p` of the point's column tile adds. -/
theorem half_eq (c : Dev nD) (t : Fin cfg0.N) (p : Fin 2) (r : Fin 512) (e : Fin 3584) :
    halfSum (iblk m c 6 t) (iblk m c 7 t) (iblk m c 8 t) (iblk m c 9 t) (gateBlock m c t) (upBlock m c t) p r e
      = MainSpec.half (arrays m c) (row t r) e (2 * (t.val % 37) + p.val) := by
  unfold halfSum MainSpec.half
  exact congrArg₂ (fun u v : EReal => u + v)
    (Finset.sum_congr rfl fun k _ => Holds.term (fun j r e => gateBlock_apply m c t j r e) _ _ _ _ (iblk6 m c t) (iblk7 m c t) r e p k)
    (Finset.sum_congr rfl fun k _ => Holds.term (fun j r e => upBlock_apply m c t j r e) _ _ _ _ (iblk8 m c t) (iblk9 m c t) r e p k)

/-- The row block of the result after a point: what it held, plus the point's column tile. -/
def nextDn (c : Dev nD) (t : Fin cfg0.N) (prev : Vec Ideal S512x3584 .f32) (r : Fin 512) (e : Fin 3584) : EReal :=
  (prev (ix2 r e) + MainSpec.half (arrays m c) (row t r) e (2 * (t.val % 37))) + MainSpec.half (arrays m c) (row t r) e (2 * (t.val % 37) + 1)

/-- The row block of scales after a point: the point's four columns, the others as they were. -/
def nextScales (t : Fin cfg0.N) (v : Fin 8192 → Fin 18944 → EReal) (prev : Vec Ideal S512x148 .f32) (r : Fin 512) (g : Fin 148) : EReal :=
  if g.val / 4 = t.val % 37 then MainSpec.scales v (row t r) g else prev (ix2 r g)

/-- What the five results' blocks hold after a point, from what they held before. -/
structure Step5 (c : Dev nD) (t : Fin cfg0.N) (o : Outs Ideal) (p17 : Vec Ideal S512x3584 .f32) (p19 p21 : Vec Ideal S512x148 .f32) : Prop where
  dn : ∀ r e, o.o17 (ix2 r e) = nextDn m c t p17 r e
  gc : ∀ r f, o.o18 (ix2 r f) = MainSpec.codes (MainSpec.gate (arrays m c)) (row t r) (col t f)
  gs : ∀ r g, o.o19 (ix2 r g) = nextScales t (MainSpec.gate (arrays m c)) p19 r g
  uc : ∀ r f, o.o20 (ix2 r f) = MainSpec.codes (MainSpec.up (arrays m c)) (row t r) (col t f)
  us : ∀ r g, o.o21 (ix2 r g) = nextScales t (MainSpec.up (arrays m c)) p21 r g

theorem dn_of (c : Dev nD) (t : Fin cfg0.N) (prev : Vec Ideal S512x3584 .f32) (L M : List (View.Piece (Elt Ideal) S512x3584 .f32))
    (h : L = dnPieces (iblk m c 6 t) (iblk m c 7 t) (iblk m c 8 t) (iblk m c 9 t) (gateBlock m c t) (upBlock m c t) prev ++ M) (r : Fin 512) (e : Fin 3584) :
    VO0_17.read (Elt Ideal) (VO0_17.writes (Elt Ideal) VO0_17.junk L) (ix2 r e) = nextDn m c t prev r e := by
  rw [View.read_writes_junk_eq_canon, h]
  refine (Body.dnPieces_apply _ _ _ _ _ _ _ _ r e).trans ?_
  rw [half_eq, half_eq]
  rfl

theorem codes_of (t : Fin cfg0.N) (b : Fin 4 → FVec Ideal S512x128 .f32) (v : Fin 8192 → Fin 18944 → EReal) (hb : Holds t b v)
    (L : List (View.Piece (Elt Ideal) S512x512 .fp8e4m3)) (h : L = codePieces b) (r f : Fin 512) :
    View.canon L (ix2 r f) = MainSpec.codes v (row t r) (col t f) := by
  rw [h, Body.codePieces_apply]
  exact hb.code r f

theorem scales_of (t : Fin cfg0.N) (b : Fin 4 → FVec Ideal S512x128 .f32) (v : Fin 8192 → Fin 18944 → EReal) (hb : Holds t b v)
    (base prev : Vec Ideal S512x148 .f32) (hp : base = prev) (L : List (View.Piece (Elt Ideal) S512x148 .f32))
    (h : ∃ M, L = (⟨Rect.unit ![0, 0] S512x148.size inb_S512x148_S512x148_0_0, scalesAfter (grid0.coords t 1).val b base⟩ : View.Piece (Elt Ideal) S512x148 .f32) :: M)
    (r : Fin 512) (g : Fin 148) :
    View.canon L (ix2 r g) = nextScales t v prev r g := by
  subst hp
  obtain ⟨M, rfl⟩ := h
  rw [View.canon_cons_unit_lit inb_S512x148_S512x148_0_0 _ _ (by decide), coords1 t]
  refine (Body.scalesAfter_apply ⟨t.val % 37, by omega⟩ b base r g).trans ?_
  unfold nextScales MainSpec.scales
  show (if g.val / 4 = t.val % 37 then _ else _) = if g.val / 4 = t.val % 37 then _ else _
  split
  · rename_i h
    exact congrArg Step.scale (hb.group _ r g (by show g.val = 4 * (t.val % 37) + g.val % 4; omega))
  · rfl

/-- The five results' blocks from the pieces a point stores. -/
theorem step_of (c : Dev nD) (t : Fin cfg0.N) (o : Outs Ideal) (p17 : Vec Ideal S512x3584 .f32) (b19 b21 p19 p21 : Vec Ideal S512x148 .f32)
    (L17 M : List (View.Piece (Elt Ideal) S512x3584 .f32)) (L18 L20 : List (View.Piece (Elt Ideal) S512x512 .fp8e4m3))
    (L19 L21 : List (View.Piece (Elt Ideal) S512x148 .f32))
    (e17 : o.o17 = VO0_17.read (Elt Ideal) (VO0_17.writes (Elt Ideal) VO0_17.junk L17))
    (e18 : o.o18 = VO0_18.read (Elt Ideal) (VO0_18.writes (Elt Ideal) VO0_18.junk L18))
    (e19 : o.o19 = VO0_19.read (Elt Ideal) (VO0_19.writes (Elt Ideal) VO0_19.junk L19))
    (e20 : o.o20 = VO0_20.read (Elt Ideal) (VO0_20.writes (Elt Ideal) VO0_20.junk L20))
    (e21 : o.o21 = VO0_21.read (Elt Ideal) (VO0_21.writes (Elt Ideal) VO0_21.junk L21))
    (h19 : b19 = p19) (h21 : b21 = p21)
    (h : (L17 = dnPieces (iblk m c 6 t) (iblk m c 7 t) (iblk m c 8 t) (iblk m c 9 t) (gateBlock m c t) (upBlock m c t) p17 ++ M)
      ∧ L18 = codePieces (gateBlock m c t) ∧ L20 = codePieces (upBlock m c t)
      ∧ (∃ M, L19 = (⟨Rect.unit ![0, 0] S512x148.size inb_S512x148_S512x148_0_0, scalesAfter (grid0.coords t 1).val (gateBlock m c t) b19⟩ : View.Piece (Elt Ideal) S512x148 .f32) :: M)
      ∧ (∃ M, L21 = (⟨Rect.unit ![0, 0] S512x148.size inb_S512x148_S512x148_0_0, scalesAfter (grid0.coords t 1).val (upBlock m c t) b21⟩ : View.Piece (Elt Ideal) S512x148 .f32) :: M)) :
    Step5 m c t o p17 p19 p21 := by
  obtain ⟨q17, q18, q20, q19, q21⟩ := h
  refine ⟨fun r e => ?_, fun r f => ?_, fun r g => ?_, fun r f => ?_, fun r g => ?_⟩
  · rw [e17]
    exact dn_of m c t _ L17 M q17 r e
  · rw [e18, View.read_writes_junk_eq_canon]
    exact codes_of t _ _ (fun j r e => gateBlock_apply m c t j r e) L18 q18 r f
  · rw [e19, View.read_writes_junk_eq_canon]
    exact scales_of t _ _ (fun j r e => gateBlock_apply m c t j r e) _ _ h19 L19 q19 r g
  · rw [e20, View.read_writes_junk_eq_canon]
    exact codes_of t _ _ (fun j r e => upBlock_apply m c t j r e) L20 q20 r f
  · rw [e21, View.read_writes_junk_eq_canon]
    exact scales_of t _ _ (fun j r e => upBlock_apply m c t j r e) _ _ h21 L21 q21 r g

set_option maxHeartbeats 4000000 in
/-- What the first column tile of a row tile leaves in the five results' blocks. -/
theorem stepA (c : Dev nD) (t : Fin cfg0.N) (h0 : t.val % 37 = 0) (h1 : ¬t.val % 37 = 36) :
    Step5 m c t (outsA m c t h0 h1) (k0_pay6 (F := Ideal)) (k0_pay9 (F := Ideal)) (k0_pay10 (F := Ideal)) := by
  have h := Body.piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
  have e : ∀ L17 L18 L19 L20 L21, (runA m c t h0 h1).1 = L17 → (runA m c t h0 h1).2.1 = L18 → (runA m c t h0 h1).2.2.1 = L19 → (runA m c t h0 h1).2.2.2.1 = L20 → (runA m c t h0 h1).2.2.2.2.1 = L21 →
      (L17 = dnPieces (iblk m c 6 t) (iblk m c 7 t) (iblk m c 8 t) (iblk m c 9 t) (gateBlock m c t) (upBlock m c t) (k0_pay6 (F := Ideal)) ++ [⟨Rect.unit ![0, 0] S512x3584.size inb_S512x3584_S512x3584_0_0, k0_pay6 (F := Ideal)⟩]
      ∧ L18 = codePieces (gateBlock m c t) ∧ L20 = codePieces (upBlock m c t)
      ∧ (∃ M, L19 = (⟨Rect.unit ![0, 0] S512x148.size inb_S512x148_S512x148_0_0, scalesAfter (grid0.coords t 1).val (gateBlock m c t) (k0_pay9 (F := Ideal))⟩ : View.Piece (Elt Ideal) S512x148 .f32) :: M)
      ∧ (∃ M, L21 = (⟨Rect.unit ![0, 0] S512x148.size inb_S512x148_S512x148_0_0, scalesAfter (grid0.coords t 1).val (upBlock m c t) (k0_pay10 (F := Ideal))⟩ : View.Piece (Elt Ideal) S512x148 .f32) :: M)) →
      Step5 m c t (outsA m c t h0 h1) (k0_pay6 (F := Ideal)) (k0_pay9 (F := Ideal)) (k0_pay10 (F := Ideal)) := by
    intro L17 L18 L19 L20 L21 e1 e2 e3 e4 e5 hh
    refine step_of m c t _ (k0_pay6 (F := Ideal)) (k0_pay9 (F := Ideal)) (k0_pay10 (F := Ideal)) (k0_pay9 (F := Ideal)) (k0_pay10 (F := Ideal)) L17 [⟨Rect.unit ![0, 0] S512x3584.size inb_S512x3584_S512x3584_0_0, k0_pay6 (F := Ideal)⟩] L18 L20 L19 L21 ?_ ?_ ?_ ?_ ?_ rfl rfl hh <;> unfold outsA <;> dsimp only
    · exact congrArg (fun L => VO0_17.read (Elt Ideal) (VO0_17.writes (Elt Ideal) VO0_17.junk L)) e1
    · exact congrArg (fun L => VO0_18.read (Elt Ideal) (VO0_18.writes (Elt Ideal) VO0_18.junk L)) e2
    · exact congrArg (fun L => VO0_19.read (Elt Ideal) (VO0_19.writes (Elt Ideal) VO0_19.junk L)) e3
    · exact congrArg (fun L => VO0_20.read (Elt Ideal) (VO0_20.writes (Elt Ideal) VO0_20.junk L)) e4
    · exact congrArg (fun L => VO0_21.read (Elt Ideal) (VO0_21.writes (Elt Ideal) VO0_21.junk L)) e5
  refine e _ _ _ _ _ rfl rfl rfl rfl rfl ?_
  unfold runA gateBlock upBlock
  exact h

set_option maxHeartbeats 4000000 in
/-- What a column tile between the first and the last leaves in the five results' blocks. -/
theorem stepB (c : Dev nD) (t : Fin cfg0.N) (h0 : ¬t.val % 37 = 0) (h1 : ¬t.val % 37 = 36)
    (x17 : Vec Ideal S512x3584 .f32) (x19 x21 : Vec Ideal S512x148 .f32) (x6 x7 : Vec Ideal S512x320 .f32) :
    Step5 m c t (outsB m c t h0 h1 x17 x19 x21 x6 x7) x17 x19 x21 := by
  have h := Body.piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x17 x19 x21 x6 x7
  have e : ∀ L17 L18 L19 L20 L21, (runB m c t h0 h1 x17 x19 x21 x6 x7).1 = L17 → (runB m c t h0 h1 x17 x19 x21 x6 x7).2.1 = L18 → (runB m c t h0 h1 x17 x19 x21 x6 x7).2.2.1 = L19 → (runB m c t h0 h1 x17 x19 x21 x6 x7).2.2.2.1 = L20 → (runB m c t h0 h1 x17 x19 x21 x6 x7).2.2.2.2.1 = L21 →
      (L17 = dnPieces (iblk m c 6 t) (iblk m c 7 t) (iblk m c 8 t) (iblk m c 9 t) (gateBlock m c t) (upBlock m c t) x17 ++ []
      ∧ L18 = codePieces (gateBlock m c t) ∧ L20 = codePieces (upBlock m c t)
      ∧ (∃ M, L19 = (⟨Rect.unit ![0, 0] S512x148.size inb_S512x148_S512x148_0_0, scalesAfter (grid0.coords t 1).val (gateBlock m c t) (View.ld x19 (Rect.unit ![0, 0] S512x148.size inb_S512x148_S512x148_0_0))⟩ : View.Piece (Elt Ideal) S512x148 .f32) :: M)
      ∧ (∃ M, L21 = (⟨Rect.unit ![0, 0] S512x148.size inb_S512x148_S512x148_0_0, scalesAfter (grid0.coords t 1).val (upBlock m c t) (View.ld x21 (Rect.unit ![0, 0] S512x148.size inb_S512x148_S512x148_0_0))⟩ : View.Piece (Elt Ideal) S512x148 .f32) :: M)) →
      Step5 m c t (outsB m c t h0 h1 x17 x19 x21 x6 x7) x17 x19 x21 := by
    intro L17 L18 L19 L20 L21 e1 e2 e3 e4 e5 hh
    refine step_of m c t _ x17 (View.ld x19 (Rect.unit ![0, 0] S512x148.size inb_S512x148_S512x148_0_0)) (View.ld x21 (Rect.unit ![0, 0] S512x148.size inb_S512x148_S512x148_0_0)) x19 x21 L17 [] L18 L20 L19 L21 ?_ ?_ ?_ ?_ ?_ (View.ld_unit_lit inb_S512x148_S512x148_0_0 _ (by decide)) (View.ld_unit_lit inb_S512x148_S512x148_0_0 _ (by decide)) hh <;> unfold outsB <;> dsimp only
    · exact congrArg (fun L => VO0_17.read (Elt Ideal) (VO0_17.writes (Elt Ideal) VO0_17.junk L)) e1
    · exact congrArg (fun L => VO0_18.read (Elt Ideal) (VO0_18.writes (Elt Ideal) VO0_18.junk L)) e2
    · exact congrArg (fun L => VO0_19.read (Elt Ideal) (VO0_19.writes (Elt Ideal) VO0_19.junk L)) e3
    · exact congrArg (fun L => VO0_20.read (Elt Ideal) (VO0_20.writes (Elt Ideal) VO0_20.junk L)) e4
    · exact congrArg (fun L => VO0_21.read (Elt Ideal) (VO0_21.writes (Elt Ideal) VO0_21.junk L)) e5
  refine e _ _ _ _ _ rfl rfl rfl rfl rfl ?_
  unfold runB gateBlock upBlock
  rw [List.append_nil]
  exact h

set_option maxHeartbeats 4000000 in
/-- What the last column tile of a row tile leaves in the five results' blocks. -/
theorem stepC (c : Dev nD) (t : Fin cfg0.N) (h0 : ¬t.val % 37 = 0) (h1 : t.val % 37 = 36)
    (x17 : Vec Ideal S512x3584 .f32) (x19 x21 : Vec Ideal S512x148 .f32) (x6 x7 : Vec Ideal S512x320 .f32) :
    Step5 m c t (outsC m c t h0 h1 x17 x19 x21 x6 x7) x17 x19 x21 := by
  have h := Body.piecesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x17 x19 x21 x6 x7
  have e : ∀ L17 L18 L19 L20 L21, (runC m c t h0 h1 x17 x19 x21 x6 x7).1 = L17 → (runC m c t h0 h1 x17 x19 x21 x6 x7).2.1 = L18 → (runC m c t h0 h1 x17 x19 x21 x6 x7).2.2.1 = L19 → (runC m c t h0 h1 x17 x19 x21 x6 x7).2.2.2.1 = L20 → (runC m c t h0 h1 x17 x19 x21 x6 x7).2.2.2.2.1 = L21 →
      (L17 = dnPieces (iblk m c 6 t) (iblk m c 7 t) (iblk m c 8 t) (iblk m c 9 t) (gateBlock m c t) (upBlock m c t) x17 ++ []
      ∧ L18 = codePieces (gateBlock m c t) ∧ L20 = codePieces (upBlock m c t)
      ∧ (∃ M, L19 = (⟨Rect.unit ![0, 0] S512x148.size inb_S512x148_S512x148_0_0, scalesAfter (grid0.coords t 1).val (gateBlock m c t) (View.ld x19 (Rect.unit ![0, 0] S512x148.size inb_S512x148_S512x148_0_0))⟩ : View.Piece (Elt Ideal) S512x148 .f32) :: M)
      ∧ (∃ M, L21 = (⟨Rect.unit ![0, 0] S512x148.size inb_S512x148_S512x148_0_0, scalesAfter (grid0.coords t 1).val (upBlock m c t) (View.ld x21 (Rect.unit ![0, 0] S512x148.size inb_S512x148_S512x148_0_0))⟩ : View.Piece (Elt Ideal) S512x148 .f32) :: M)) →
      Step5 m c t (outsC m c t h0 h1 x17 x19 x21 x6 x7) x17 x19 x21 := by
    intro L17 L18 L19 L20 L21 e1 e2 e3 e4 e5 hh
    refine step_of m c t _ x17 (View.ld x19 (Rect.unit ![0, 0] S512x148.size inb_S512x148_S512x148_0_0)) (View.ld x21 (Rect.unit ![0, 0] S512x148.size inb_S512x148_S512x148_0_0)) x19 x21 L17 [] L18 L20 L19 L21 ?_ ?_ ?_ ?_ ?_ (View.ld_unit_lit inb_S512x148_S512x148_0_0 _ (by decide)) (View.ld_unit_lit inb_S512x148_S512x148_0_0 _ (by decide)) hh <;> unfold outsC <;> dsimp only
    · exact congrArg (fun L => VO0_17.read (Elt Ideal) (VO0_17.writes (Elt Ideal) VO0_17.junk L)) e1
    · exact congrArg (fun L => VO0_18.read (Elt Ideal) (VO0_18.writes (Elt Ideal) VO0_18.junk L)) e2
    · exact congrArg (fun L => VO0_19.read (Elt Ideal) (VO0_19.writes (Elt Ideal) VO0_19.junk L)) e3
    · exact congrArg (fun L => VO0_20.read (Elt Ideal) (VO0_20.writes (Elt Ideal) VO0_20.junk L)) e4
    · exact congrArg (fun L => VO0_21.read (Elt Ideal) (VO0_21.writes (Elt Ideal) VO0_21.junk L)) e5
  refine e _ _ _ _ _ rfl rfl rfl rfl rfl ?_
  unfold runC gateBlock upBlock
  rw [List.append_nil]
  exact h

end Cert.MainIdeal.Result

end
-- ==== Proof.MainValue.lean ====
/-
What the main call's first five result arrays end with: the blocks after every grid point, by induction over the points,
and so the arrays the points write back.
-/
module

public import proofs.«01_k».proof.Proof.MainTile
public import Idealize.ShloMosaic.Lib.Pipeline.Value

@[expose] public section

set_option maxRecDepth 16384

noncomputable section

namespace Cert.MainIdeal.Result

open Cert.MainIdeal Cert.MainIdeal.Gen Cert.MainIdeal.Step Cert.MainIdeal.Host
open Idealize.ShloMosaic Idealize.ShloMosaic.TcCoe Idealize.ShloMosaic.Pointwise Idealize.SL.Sem

variable (m : (ℓ : Loc nD τ sig) → Buf (Elt Ideal) ℓ)

/-- The first column tile starts from zeros. -/
theorem pay6_apply (r : Fin 512) (e : Fin 3584) : k0_pay6 (F := Ideal) (ix2 r e) = (0 : EReal) := by
  pointwise [k0_pay6]

theorem pay9_apply (r : Fin 512) (g : Fin 148) : k0_pay9 (F := Ideal) (ix2 r g) = (0 : EReal) := by
  pointwise [k0_pay9]

theorem pay10_apply (r : Fin 512) (g : Fin 148) : k0_pay10 (F := Ideal) (ix2 r g) = (0 : EReal) := by
  pointwise [k0_pay10]

/-- The first column tile of a row tile goes on from zeros. -/
theorem step_first (c : Dev nD) (t : Fin cfg0.N) (h0 : t.val % 37 = 0) :
    Step5 m c t (outsAt0 m c t.val t.isLt) (k0_pay6 (F := Ideal)) (k0_pay9 (F := Ideal)) (k0_pay10 (F := Ideal)) := by
  have h1 : ¬t.val % 37 = 36 := by omega
  rw [outsAt0_A m c t h0 h1]
  exact stepA m c t h0 h1

/-- Every other column tile goes on from what the point before left. -/
theorem step_later (c : Dev nD) (n : ℕ) (h : n + 1 < cfg0.N) (h0 : ¬(n + 1) % 37 = 0) :
    Step5 m c ⟨n + 1, h⟩ (outsAt0 m c (n + 1) h) (outsAt0 m c n (Nat.lt_of_succ_lt h)).o17
      (outsAt0 m c n (Nat.lt_of_succ_lt h)).o19 (outsAt0 m c n (Nat.lt_of_succ_lt h)).o21 := by
  by_cases h1 : (n + 1) % 37 = 36
  · refine Eq.subst (motive := fun o => Step5 m c ⟨n + 1, h⟩ o _ _ _) (outsAt0_C m c ⟨n + 1, h⟩ h0 h1).symm ?_
    exact stepC m c ⟨n + 1, h⟩ h0 h1 _ _ _ _ _
  · refine Eq.subst (motive := fun o => Step5 m c ⟨n + 1, h⟩ o _ _ _) (outsAt0_B m c ⟨n + 1, h⟩ h0 h1).symm ?_
    exact stepB m c ⟨n + 1, h⟩ h0 h1 _ _ _ _ _

/-- What a row block of scales holds after a column tile: the columns up to it, zeros beyond. -/
def scalesSoFar (v : Fin 8192 → Fin 18944 → EReal) (t : Fin cfg0.N) (r : Fin 512) (g : Fin 148) : EReal :=
  if g.val / 4 ≤ t.val % 37 then MainSpec.scales v (row t r) g else 0

theorem scales_first (v : Fin 8192 → Fin 18944 → EReal) (t : Fin cfg0.N) (h0 : t.val % 37 = 0) (p : Vec Ideal S512x148 .f32)
    (r : Fin 512) (g : Fin 148) (hp : p (ix2 r g) = (0 : EReal)) : nextScales t v p r g = scalesSoFar v t r g := by
  unfold nextScales scalesSoFar
  rw [hp, h0]
  simp only [Nat.le_zero]

theorem scales_later (v : Fin 8192 → Fin 18944 → EReal) (n : ℕ) (h : n + 1 < cfg0.N) (h0 : ¬(n + 1) % 37 = 0) (p : Vec Ideal S512x148 .f32)
    (r : Fin 512) (g : Fin 148) (hp : p (ix2 r g) = scalesSoFar v ⟨n, Nat.lt_of_succ_lt h⟩ r g) :
    nextScales ⟨n + 1, h⟩ v p r g = scalesSoFar v ⟨n + 1, h⟩ r g := by
  unfold nextScales
  rw [hp]
  unfold scalesSoFar
  have e : row ⟨n, Nat.lt_of_succ_lt h⟩ r = row ⟨n + 1, h⟩ r := Fin.ext (by
    show 512 * (n / 37) + r.val = 512 * ((n + 1) / 37) + r.val
    omega)
  rw [e]
  show (if g.val / 4 = (n + 1) % 37 then _ else if g.val / 4 ≤ n % 37 then _ else _) = if g.val / 4 ≤ (n + 1) % 37 then _ else _
  by_cases h1 : g.val / 4 = (n + 1) % 37
  · rw [if_pos h1, if_pos (by omega)]
  · rw [if_neg h1]
    by_cases h2 : g.val / 4 ≤ n % 37
    · rw [if_pos h2, if_pos (by omega)]
    · rw [if_neg h2, if_neg (by omega)]

/-- After every grid point: the result's row block holds the column tiles so far, the scales' blocks their columns so far. -/
theorem after_points (c : Dev nD) : ∀ (n : ℕ) (h : n < cfg0.N),
    (∀ r e, (outsAt0 m c n h).o17 (ix2 r e) = ∑ q ∈ Finset.range (2 * (n % 37) + 2), MainSpec.half (arrays m c) (row ⟨n, h⟩ r) e q)
    ∧ (∀ r g, (outsAt0 m c n h).o19 (ix2 r g) = scalesSoFar (MainSpec.gate (arrays m c)) ⟨n, h⟩ r g)
    ∧ (∀ r g, (outsAt0 m c n h).o21 (ix2 r g) = scalesSoFar (MainSpec.up (arrays m c)) ⟨n, h⟩ r g) := by
  have first : ∀ (n : ℕ) (h : n < cfg0.N), n % 37 = 0 →
      (∀ r e, (outsAt0 m c n h).o17 (ix2 r e) = ∑ q ∈ Finset.range (2 * (n % 37) + 2), MainSpec.half (arrays m c) (row ⟨n, h⟩ r) e q)
      ∧ (∀ r g, (outsAt0 m c n h).o19 (ix2 r g) = scalesSoFar (MainSpec.gate (arrays m c)) ⟨n, h⟩ r g)
      ∧ (∀ r g, (outsAt0 m c n h).o21 (ix2 r g) = scalesSoFar (MainSpec.up (arrays m c)) ⟨n, h⟩ r g) := by
    intro n h h0
    have hs := step_first m c ⟨n, h⟩ h0
    refine ⟨fun r e => (hs.dn r e).trans ?_, fun r g => (hs.gs r g).trans (scales_first _ ⟨n, h⟩ h0 _ r g (pay9_apply r g)),
      fun r g => (hs.us r g).trans (scales_first _ ⟨n, h⟩ h0 _ r g (pay10_apply r g))⟩
    unfold nextDn
    rw [pay6_apply]
    show (0 + MainSpec.half (arrays m c) (row ⟨n, h⟩ r) e (2 * (n % 37))) + MainSpec.half (arrays m c) (row ⟨n, h⟩ r) e (2 * (n % 37) + 1) = _
    rw [h0, zero_add, Finset.sum_range_succ, Finset.sum_range_one]
  intro n
  induction n with
  | zero => exact fun h => first 0 h rfl
  | succ n ih =>
    intro h
    by_cases h0 : (n + 1) % 37 = 0
    · exact first (n + 1) h h0
    · have hs := step_later m c n h h0
      obtain ⟨i1, i2, i3⟩ := ih (Nat.lt_of_succ_lt h)
      refine ⟨fun r e => (hs.dn r e).trans ?_, fun r g => (hs.gs r g).trans (scales_later _ n h h0 _ r g (i2 r g)),
        fun r g => (hs.us r g).trans (scales_later _ n h h0 _ r g (i3 r g))⟩
      unfold nextDn
      rw [i1]
      have e1 : row ⟨n, Nat.lt_of_succ_lt h⟩ r = row ⟨n + 1, h⟩ r := Fin.ext (by
        show 512 * (n / 37) + r.val = 512 * ((n + 1) / 37) + r.val
        omega)
      have e2 : (n + 1) % 37 = n % 37 + 1 := by omega
      rw [e1]
      show (∑ q ∈ Finset.range (2 * (n % 37) + 2), MainSpec.half (arrays m c) (row ⟨n + 1, h⟩ r) e q
          + MainSpec.half (arrays m c) (row ⟨n + 1, h⟩ r) e (2 * ((n + 1) % 37))) + MainSpec.half (arrays m c) (row ⟨n + 1, h⟩ r) e (2 * ((n + 1) % 37) + 1) = _
      rw [e2, show 2 * (n % 37 + 1) = 2 * (n % 37) + 2 from by omega, Finset.sum_range_succ _ (2 * (n % 37) + 2 + 1),
        Finset.sum_range_succ _ (2 * (n % 37) + 2)]

/-- The codes a point leaves. -/
theorem codes_point (c : Dev nD) (t : Fin cfg0.N) :
    (∀ r f, (outsAt0 m c t.val t.isLt).o18 (ix2 r f) = MainSpec.codes (MainSpec.gate (arrays m c)) (row t r) (col t f))
    ∧ ∀ r f, (outsAt0 m c t.val t.isLt).o20 (ix2 r f) = MainSpec.codes (MainSpec.up (arrays m c)) (row t r) (col t f) := by
  obtain ⟨n, h⟩ := t
  cases n with
  | zero => exact ⟨(step_first m c ⟨0, h⟩ rfl).gc, (step_first m c ⟨0, h⟩ rfl).uc⟩
  | succ n =>
    by_cases h0 : (n + 1) % 37 = 0
    · exact ⟨(step_first m c ⟨n + 1, h⟩ h0).gc, (step_first m c ⟨n + 1, h⟩ h0).uc⟩
    · exact ⟨(step_later m c n h h0).gc, (step_later m c n h h0).uc⟩

/-- The five results. -/
abbrev result0 (c : Dev nD) : Buf (Elt Ideal) ((c : Thread nD τ).loc main_v39_0) := MainSpec.dnArray (arrays m c)
abbrev result1 (c : Dev nD) : Buf (Elt Ideal) ((c : Thread nD τ).loc main_v39_1) := MainSpec.codeArray (MainSpec.gate (arrays m c))
abbrev result2 (c : Dev nD) : Buf (Elt Ideal) ((c : Thread nD τ).loc main_v39_2) := MainSpec.scaleArray (MainSpec.gate (arrays m c))
abbrev result3 (c : Dev nD) : Buf (Elt Ideal) ((c : Thread nD τ).loc main_v39_3) := MainSpec.codeArray (MainSpec.up (arrays m c))
abbrev result4 (c : Dev nD) : Buf (Elt Ideal) ((c : Thread nD τ).loc main_v39_4) := MainSpec.scaleArray (MainSpec.up (arrays m c))

/-- The last column tile of a row tile writes back the result's row block. -/
theorem flushed17 (c : Dev nD) (t : Fin cfg0.N) (hf : (cfg0.win 17).flush t = true) :
    (dats m 0 c).flushed 17 t = ((cfg0.win 17).blk t).view.read (Elt Ideal) (result0 m c) := by
  have h7 : t.val % 37 = 36 := (flush0_17 t).mp hf
  show (cfg0.win 17).cut (grid0.coords t) ((dats m 0 c).after 17 t) = _
  rw [after0_17]
  funext j
  rw [View.read_apply]
  obtain ⟨r, e, rfl⟩ : ∃ (r : Fin 512) (e : Fin 3584), j = ix2 r e := ⟨j 0, j 1, eq_ix2 j⟩
  have he : ((cfg0.win 17).blk t).view.emb (ix2 r e) = ix2 (row t r) e := by
    funext a
    apply Fin.ext
    match a with
    | ⟨0, _⟩ =>
      show win0_17.index t 0 * 512 + 1 * r.val = 512 * (t.val / 37) + r.val
      rw [(index17 t).1]; omega
    | ⟨1, _⟩ =>
      show win0_17.index t 1 * 3584 + 1 * e.val = e.val
      rw [(index17 t).2]; omega
  refine Eq.trans ?_ (congrArg (result0 m c) he).symm
  refine ((after_points m c t.val t.isLt).1 r e).trans ?_
  rw [h7]
  exact MainSpec.halves (arrays m c) (row t r) e

/-- Every point writes back its block of the gate codes. -/
theorem flushed18 (c : Dev nD) (t : Fin cfg0.N) (_ : (cfg0.win 18).flush t = true) :
    (dats m 0 c).flushed 18 t = ((cfg0.win 18).blk t).view.read (Elt Ideal) (result1 m c) := by
  show (cfg0.win 18).cut (grid0.coords t) ((dats m 0 c).after 18 t) = _
  rw [after0_18]
  funext j
  rw [View.read_apply]
  obtain ⟨r, f, rfl⟩ : ∃ (r : Fin 512) (f : Fin 512), j = ix2 r f := ⟨j 0, j 1, eq_ix2 j⟩
  have he : ((cfg0.win 18).blk t).view.emb (ix2 r f) = ix2 (row t r) (col t f) := by
    funext a
    apply Fin.ext
    match a with
    | ⟨0, _⟩ =>
      show win0_18.index t 0 * 512 + 1 * r.val = 512 * (t.val / 37) + r.val
      rw [(index18 t).1]; omega
    | ⟨1, _⟩ =>
      show win0_18.index t 1 * 512 + 1 * f.val = 512 * (t.val % 37) + f.val
      rw [(index18 t).2]; omega
  refine Eq.trans ?_ (congrArg (result1 m c) he).symm
  exact (codes_point m c t).1 r f

/-- The last column tile of a row tile writes back the gate scales' row block. -/
theorem flushed19 (c : Dev nD) (t : Fin cfg0.N) (hf : (cfg0.win 19).flush t = true) :
    (dats m 0 c).flushed 19 t = ((cfg0.win 19).blk t).view.read (Elt Ideal) (result2 m c) := by
  have h7 : t.val % 37 = 36 := (flush0_19 t).mp hf
  show (cfg0.win 19).cut (grid0.coords t) ((dats m 0 c).after 19 t) = _
  rw [after0_19]
  funext j
  rw [View.read_apply]
  obtain ⟨r, g, rfl⟩ : ∃ (r : Fin 512) (g : Fin 148), j = ix2 r g := ⟨j 0, j 1, eq_ix2 j⟩
  have he : ((cfg0.win 19).blk t).view.emb (ix2 r g) = ix2 (row t r) g := by
    funext a
    apply Fin.ext
    match a with
    | ⟨0, _⟩ =>
      show win0_19.index t 0 * 512 + 1 * r.val = 512 * (t.val / 37) + r.val
      rw [(index19 t).1]; omega
    | ⟨1, _⟩ =>
      show win0_19.index t 1 * 148 + 1 * g.val = g.val
      rw [(index19 t).2]; omega
  refine Eq.trans ?_ (congrArg (result2 m c) he).symm
  refine ((after_points m c t.val t.isLt).2.1 r g).trans ?_
  exact if_pos (by show g.val / 4 ≤ t.val % 37; omega)

/-- Every point writes back its block of the up codes. -/
theorem flushed20 (c : Dev nD) (t : Fin cfg0.N) (_ : (cfg0.win 20).flush t = true) :
    (dats m 0 c).flushed 20 t = ((cfg0.win 20).blk t).view.read (Elt Ideal) (result3 m c) := by
  show (cfg0.win 20).cut (grid0.coords t) ((dats m 0 c).after 20 t) = _
  rw [after0_20]
  funext j
  rw [View.read_apply]
  obtain ⟨r, f, rfl⟩ : ∃ (r : Fin 512) (f : Fin 512), j = ix2 r f := ⟨j 0, j 1, eq_ix2 j⟩
  have he : ((cfg0.win 20).blk t).view.emb (ix2 r f) = ix2 (row t r) (col t f) := by
    funext a
    apply Fin.ext
    match a with
    | ⟨0, _⟩ =>
      show win0_20.index t 0 * 512 + 1 * r.val = 512 * (t.val / 37) + r.val
      rw [(index20 t).1]; omega
    | ⟨1, _⟩ =>
      show win0_20.index t 1 * 512 + 1 * f.val = 512 * (t.val % 37) + f.val
      rw [(index20 t).2]; omega
  refine Eq.trans ?_ (congrArg (result3 m c) he).symm
  exact (codes_point m c t).2 r f

/-- The last column tile of a row tile writes back the up scales' row block. -/
theorem flushed21 (c : Dev nD) (t : Fin cfg0.N) (hf : (cfg0.win 21).flush t = true) :
    (dats m 0 c).flushed 21 t = ((cfg0.win 21).blk t).view.read (Elt Ideal) (result4 m c) := by
  have h7 : t.val % 37 = 36 := (flush0_21 t).mp hf
  show (cfg0.win 21).cut (grid0.coords t) ((dats m 0 c).after 21 t) = _
  rw [after0_21]
  funext j
  rw [View.read_apply]
  obtain ⟨r, g, rfl⟩ : ∃ (r : Fin 512) (g : Fin 148), j = ix2 r g := ⟨j 0, j 1, eq_ix2 j⟩
  have he : ((cfg0.win 21).blk t).view.emb (ix2 r g) = ix2 (row t r) g := by
    funext a
    apply Fin.ext
    match a with
    | ⟨0, _⟩ =>
      show win0_21.index t 0 * 512 + 1 * r.val = 512 * (t.val / 37) + r.val
      rw [(index21 t).1]; omega
    | ⟨1, _⟩ =>
      show win0_21.index t 1 * 148 + 1 * g.val = g.val
      rw [(index21 t).2]; omega
  refine Eq.trans ?_ (congrArg (result4 m c) he).symm
  refine ((after_points m c t.val t.isLt).2.2 r g).trans ?_
  exact if_pos (by show g.val / 4 ≤ t.val % 37; omega)

/-- The result array ends holding the formula. -/
theorem final17 (c : Dev nD) : (dats m 0 c).arrAt 17 cfg0.N = result0 m c :=
  (dats m 0 c).arrAt_eq_of_cover 17 (result0 m c) (flushed17 m c) fun i => by
    have h0 : (i 0 : Nat) < 8192 := (i 0).isLt
    have h1 : (i 1 : Nat) < 3584 := (i 1).isLt
    have hN : cfg0.N = 592 := N_0
    let t : Fin cfg0.N := ⟨37 * ((i 0 : Nat) / 512) + 36, by omega⟩
    have ht : t.val / 37 = (i 0 : Nat) / 512 := by show (37 * ((i 0 : Nat) / 512) + 36) / 37 = _; omega
    refine ⟨t, (flush0_17 t).mpr (by show (37 * ((i 0 : Nat) / 512) + 36) % 37 = 36; omega), ?_⟩
    show i ∈ ((View.whole main_v39_0).slice (win0_17.rect t)).set
    rw [View.set_slice_whole, Rect.mem_set_unit]
    intro a
    match a with
    | ⟨0, _⟩ =>
      show win0_17.index t 0 * 512 ≤ (i 0 : Nat) ∧ (i 0 : Nat) < win0_17.index t 0 * 512 + 512
      rw [(index17 t).1, ht]; omega
    | ⟨1, _⟩ =>
      show win0_17.index t 1 * 3584 ≤ (i 1 : Nat) ∧ (i 1 : Nat) < win0_17.index t 1 * 3584 + 3584
      rw [(index17 t).2]; omega

/-- The gate codes' array ends holding the codes. -/
theorem final18 (c : Dev nD) : (dats m 0 c).arrAt 18 cfg0.N = result1 m c :=
  (dats m 0 c).arrAt_eq_of_cover 18 (result1 m c) (flushed18 m c) fun i => by
    have h0 : (i 0 : Nat) < 8192 := (i 0).isLt
    have h1 : (i 1 : Nat) < 18944 := (i 1).isLt
    have hN : cfg0.N = 592 := N_0
    let t : Fin cfg0.N := ⟨37 * ((i 0 : Nat) / 512) + (i 1 : Nat) / 512, by omega⟩
    have ht : t.val / 37 = (i 0 : Nat) / 512 := by show (37 * ((i 0 : Nat) / 512) + (i 1 : Nat) / 512) / 37 = _; omega
    have ht' : t.val % 37 = (i 1 : Nat) / 512 := by show (37 * ((i 0 : Nat) / 512) + (i 1 : Nat) / 512) % 37 = _; omega
    refine ⟨t, flush0_18 t, ?_⟩
    show i ∈ ((View.whole main_v39_1).slice (win0_18.rect t)).set
    rw [View.set_slice_whole, Rect.mem_set_unit]
    intro a
    match a with
    | ⟨0, _⟩ =>
      show win0_18.index t 0 * 512 ≤ (i 0 : Nat) ∧ (i 0 : Nat) < win0_18.index t 0 * 512 + 512
      rw [(index18 t).1, ht]; omega
    | ⟨1, _⟩ =>
      show win0_18.index t 1 * 512 ≤ (i 1 : Nat) ∧ (i 1 : Nat) < win0_18.index t 1 * 512 + 512
      rw [(index18 t).2, ht']; omega

/-- The gate scales' array ends holding the scales. -/
theorem final19 (c : Dev nD) : (dats m 0 c).arrAt 19 cfg0.N = result2 m c :=
  (dats m 0 c).arrAt_eq_of_cover 19 (result2 m c) (flushed19 m c) fun i => by
    have h0 : (i 0 : Nat) < 8192 := (i 0).isLt
    have h1 : (i 1 : Nat) < 148 := (i 1).isLt
    have hN : cfg0.N = 592 := N_0
    let t : Fin cfg0.N := ⟨37 * ((i 0 : Nat) / 512) + 36, by omega⟩
    have ht : t.val / 37 = (i 0 : Nat) / 512 := by show (37 * ((i 0 : Nat) / 512) + 36) / 37 = _; omega
    refine ⟨t, (flush0_19 t).mpr (by show (37 * ((i 0 : Nat) / 512) + 36) % 37 = 36; omega), ?_⟩
    show i ∈ ((View.whole main_v39_2).slice (win0_19.rect t)).set
    rw [View.set_slice_whole, Rect.mem_set_unit]
    intro a
    match a with
    | ⟨0, _⟩ =>
      show win0_19.index t 0 * 512 ≤ (i 0 : Nat) ∧ (i 0 : Nat) < win0_19.index t 0 * 512 + 512
      rw [(index19 t).1, ht]; omega
    | ⟨1, _⟩ =>
      show win0_19.index t 1 * 148 ≤ (i 1 : Nat) ∧ (i 1 : Nat) < win0_19.index t 1 * 148 + 148
      rw [(index19 t).2]; omega

/-- The up codes' array ends holding the codes. -/
theorem final20 (c : Dev nD) : (dats m 0 c).arrAt 20 cfg0.N = result3 m c :=
  (dats m 0 c).arrAt_eq_of_cover 20 (result3 m c) (flushed20 m c) fun i => by
    have h0 : (i 0 : Nat) < 8192 := (i 0).isLt
    have h1 : (i 1 : Nat) < 18944 := (i 1).isLt
    have hN : cfg0.N = 592 := N_0
    let t : Fin cfg0.N := ⟨37 * ((i 0 : Nat) / 512) + (i 1 : Nat) / 512, by omega⟩
    have ht : t.val / 37 = (i 0 : Nat) / 512 := by show (37 * ((i 0 : Nat) / 512) + (i 1 : Nat) / 512) / 37 = _; omega
    have ht' : t.val % 37 = (i 1 : Nat) / 512 := by show (37 * ((i 0 : Nat) / 512) + (i 1 : Nat) / 512) % 37 = _; omega
    refine ⟨t, flush0_20 t, ?_⟩
    show i ∈ ((View.whole main_v39_3).slice (win0_20.rect t)).set
    rw [View.set_slice_whole, Rect.mem_set_unit]
    intro a
    match a with
    | ⟨0, _⟩ =>
      show win0_20.index t 0 * 512 ≤ (i 0 : Nat) ∧ (i 0 : Nat) < win0_20.index t 0 * 512 + 512
      rw [(index20 t).1, ht]; omega
    | ⟨1, _⟩ =>
      show win0_20.index t 1 * 512 ≤ (i 1 : Nat) ∧ (i 1 : Nat) < win0_20.index t 1 * 512 + 512
      rw [(index20 t).2, ht']; omega

/-- The up scales' array ends holding the scales. -/
theorem final21 (c : Dev nD) : (dats m 0 c).arrAt 21 cfg0.N = result4 m c :=
  (dats m 0 c).arrAt_eq_of_cover 21 (result4 m c) (flushed21 m c) fun i => by
    have h0 : (i 0 : Nat) < 8192 := (i 0).isLt
    have h1 : (i 1 : Nat) < 148 := (i 1).isLt
    have hN : cfg0.N = 592 := N_0
    let t : Fin cfg0.N := ⟨37 * ((i 0 : Nat) / 512) + 36, by omega⟩
    have ht : t.val / 37 = (i 0 : Nat) / 512 := by show (37 * ((i 0 : Nat) / 512) + 36) / 37 = _; omega
    refine ⟨t, (flush0_21 t).mpr (by show (37 * ((i 0 : Nat) / 512) + 36) % 37 = 36; omega), ?_⟩
    show i ∈ ((View.whole main_v39_4).slice (win0_21.rect t)).set
    rw [View.set_slice_whole, Rect.mem_set_unit]
    intro a
    match a with
    | ⟨0, _⟩ =>
      show win0_21.index t 0 * 512 ≤ (i 0 : Nat) ∧ (i 0 : Nat) < win0_21.index t 0 * 512 + 512
      rw [(index21 t).1, ht]; omega
    | ⟨1, _⟩ =>
      show win0_21.index t 1 * 148 ≤ (i 1 : Nat) ∧ (i 1 : Nat) < win0_21.index t 1 * 148 + 148
      rw [(index21 t).2]; omega

/-- The run: the five result arrays hold the formulas and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v39_0) = result0 m c
      ∧ r.2.mem ((c : Thread nD τ).loc main_v39_1) = result1 m c
      ∧ r.2.mem ((c : Thread nD τ).loc main_v39_2) = result2 m c
      ∧ r.2.mem ((c : Thread nD τ).loc main_v39_3) = result3 m c
      ∧ r.2.mem ((c : Thread nD τ).loc main_v39_4) = result4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨((h.1 c).1 17).trans (final17 m c), ((h.1 c).1 18).trans (final18 m c),
      ((h.1 c).1 19).trans (final19 m c), ((h.1 c).1 20).trans (final20 m c), ((h.1 c).1 21).trans (final21 m c), h.2 c⟩)
    (θ_run_and (run_main m ρ) (unchanged m ρ))

end Cert.MainIdeal.Result

end
-- ==== Proof.MainReferenceBody.lean ====
/-
  What the reference of the main call computes: the formulas of `MainMath`, read off its one body.
-/
module

public import proofs.«01_k».proof.Proof.Gen.MainReferenceIdeal.Value
public import proofs.«01_k».proof.Proof.MainMath
public import Idealize.ShloMosaic.Lib.StableHlo.Run
public import Idealize.ShloMosaic.Lib.Tactic
public import Idealize.ShloMosaic.Lib.Claim

@[expose] public section

set_option maxRecDepth 16384

noncomputable section

namespace Cert.MainReferenceIdeal.Step

open Cert.MainReferenceIdeal Cert.MainReferenceIdeal.Gen Idealize.ShloMosaic Idealize.ShloMosaic.TcCoe Idealize.ShloMosaic.Pointwise Idealize.SL.Sem
open Cert.MainIdeal.Step (peak scale code gateOf upOf)

variable (m : (ℓ : Loc nD τ sig) → Buf (Elt Ideal) ℓ)

/-- The zero corner. -/
theorem hz : (![0, 0] : Fin 2 → Nat) = fun _ => 0 := funext fun a => by fin_cases a <;> rfl

/-- The dequantised gate weights. -/
theorem pay1_apply (v0 : Vec Ideal S18944x3584 .fp8e4m3) (v2 : Vec Ideal S18944x3584 .bf16) (f : Fin 18944) (e : Fin 3584) :
    k0_pay1 v0 v2 (ix2 f e) = (v0 (ix2 f e) * v2 (ix2 f e) : EReal) := by
  pointwise [k0_pay1]

/-- The dequantised up weights. -/
theorem pay2_apply (v0 : Vec Ideal S18944x3584 .fp8e4m3) (v2 : Vec Ideal S18944x3584 .bf16) (f : Fin 18944) (e : Fin 3584) :
    k0_pay2 v0 v2 (ix2 f e) = (v0 (ix2 f e) * v2 (ix2 f e) : EReal) := by
  pointwise [k0_pay2]

/-- The gradient of the gated activation. -/
theorem pay3_apply (v10 : Vec Ideal S3584x18944 .fp8e4m3) (v12 : Vec Ideal S3584x18944 .bf16) (v15 : Vec Ideal S8192x3584 .bf16)
    (v17 : Vec Ideal S8192x320 .bf16) (v18 : Vec Ideal S320x18944 .bf16) (t : Fin 8192) (f : Fin 18944) :
    k0_pay3 v10 v12 v15 v17 v18 (ix2 t f)
      = ((∑ k : Fin 3584, v15 (ix2 t k) * (v10 (ix2 k f) * v12 (ix2 k f))) + ∑ q : Fin 320, v17 (ix2 t q) * v18 (ix2 q f) : EReal) := by
  pointwise [k0_pay3]

/-- The gate gradient at one entry. -/
theorem gate_apply (v10 : Vec Ideal S3584x18944 .fp8e4m3) (v12 : Vec Ideal S3584x18944 .bf16) (v15 : Vec Ideal S8192x3584 .bf16)
    (v17 : Vec Ideal S8192x320 .bf16) (v18 : Vec Ideal S320x18944 .bf16) (g u : Vec Ideal S8192x18944 .bf16) (t : Fin 8192) (f : Fin 18944) :
    (k0_pay6 v10 v12 v15 v17 v18 g u (ix2 t f) * k0_pay7 g (ix2 t f) : EReal)
      = gateOf (k0_pay3 v10 v12 v15 v17 v18 (ix2 t f)) (g (ix2 t f)) (u (ix2 t f)) := by
  pointwise [k0_pay6, k0_pay7, k0_pay5, k0_pay4]
  rfl

/-- The up gradient at one entry. -/
theorem up_apply (a : EReal) (g : Vec Ideal S8192x18944 .bf16) (t : Fin 8192) (f : Fin 18944) :
    (a * k0_pay4 g (ix2 t f) * k0_pay5 g (ix2 t f) : EReal) = upOf a (g (ix2 t f)) := by
  pointwise [k0_pay5, k0_pay4]
  rfl

/-- The gate gradients, 128 columns to a group. -/
theorem pay8_apply (a b : FVec Ideal S8192x18944 .f32) (t : Fin 8192) (g : Fin 148) (x : Fin 128) :
    k0_pay8 a b (ix3 t g x) = (a (ix2 t ⟨128 * g.val + x.val, by omega⟩) * b (ix2 t ⟨128 * g.val + x.val, by omega⟩) : EReal) := by
  have e : g.val * 128 + x.val = 128 * g.val + x.val := by omega
  pointwise [k0_pay8]
  simp only [e]

/-- The up gradients, 128 columns to a group. -/
theorem pay11_apply (a b s : FVec Ideal S8192x18944 .f32) (t : Fin 8192) (g : Fin 148) (x : Fin 128) :
    k0_pay11 a b s (ix3 t g x) = (a (ix2 t ⟨128 * g.val + x.val, by omega⟩) * b (ix2 t ⟨128 * g.val + x.val, by omega⟩) * s (ix2 t ⟨128 * g.val + x.val, by omega⟩) : EReal) := by
  have e : g.val * 128 + x.val = 128 * g.val + x.val := by omega
  pointwise [k0_pay11]
  simp only [e]

/-- The largest absolute value of a group. -/
theorem max_apply (w : FVec Ideal S8192x148x128 .f32) (t : Fin 8192) (g : Fin 148) :
    multiReduction .maximumf [2] S8192x148 (absf w) 0xFF800000#32 reduces_S8192x148x128_S8192x148 (.inl rfl) rfl (ix2 t g)
      = Finset.fold max (Ideal.ofBits FTy.f32 4286578688#32) (fun x => FloatOps.absf (F := Ideal) (φ := .f32) (w (ix3 t g x))) Finset.univ := by
  pointwise []

/-- A product with the scaling constant. -/
theorem scaled_apply (v : FVec Ideal S8192x148 .f32) (t : Fin 8192) (g : Fin 148) :
    mulf v (broadcast S8192x148 (Scalar.ofBits (F := Ideal) .f32 0x3B124925#32)) (ix2 t g) = (v (ix2 t g) * Ideal.ofBits FTy.f32 991054117#32 : EReal) := by
  pointwise []

/-- The scaled maximum of a group. -/
theorem peak_apply (w : FVec Ideal S8192x148x128 .f32) (t : Fin 8192) (g : Fin 148) :
    mulf (multiReduction .maximumf [2] S8192x148 (absf w) 0xFF800000#32 reduces_S8192x148x128_S8192x148 (.inl rfl) rfl)
      (broadcast S8192x148 (Scalar.ofBits (F := Ideal) .f32 0x3B124925#32)) (ix2 t g) = peak fun x => w (ix3 t g x) := by
  rw [scaled_apply, max_apply]
  unfold peak
  rfl

/-- The scale from a scaled maximum. -/
theorem pay14_apply (v : FVec Ideal S8192x148 .f32) (t : Fin 8192) (g : Fin 148) :
    k0_pay14 v k0_pay13 (ix2 t g) = Quant.rscale (v (ix2 t g)) := by
  pointwise [k0_pay14, k0_pay13]
  rfl

/-- The scaled maxima of the gate groups. -/
abbrev gatePeaks (a b : FVec Ideal S8192x18944 .f32) : FVec Ideal S8192x148 .f32 :=
  mulf (multiReduction .maximumf [2] S8192x148 (absf (k0_pay8 a b)) 0xFF800000#32 reduces_S8192x148x128_S8192x148 (.inl rfl) rfl)
    (broadcast S8192x148 (Scalar.ofBits (F := Ideal) .f32 0x3B124925#32))

/-- The gate branch's scales are made as the up branch's. -/
theorem pay9_eq (a b : FVec Ideal S8192x18944 .f32) : k0_pay9 a b = k0_pay14 (gatePeaks a b) k0_pay13 := rfl

/-- The gate branch's codes are made as the up branch's. -/
theorem pay10_eq (a b : FVec Ideal S8192x18944 .f32) (v : FVec Ideal S8192x148 .f32) (p : FVec Ideal S1x1x252 .f32)
    (h : k0_pay14 v p = k0_pay9 a b) : k0_pay10 a b = k0_pay15 (k0_pay8 a b) v p := by
  unfold k0_pay10 k0_pay15
  rw [h]

/-- The scale of a gate group. -/
theorem pay9_apply (a b : FVec Ideal S8192x18944 .f32) (t : Fin 8192) (g : Fin 148) :
    k0_pay9 a b (ix2 t g) = scale fun x => k0_pay8 a b (ix3 t g x) := by
  rw [pay9_eq, pay14_apply]
  unfold gatePeaks
  rw [peak_apply]
  rfl

/-- The scaled maximum of an up group. -/
theorem pay12_apply (a b s : FVec Ideal S8192x18944 .f32) (t : Fin 8192) (g : Fin 148) :
    k0_pay12 a b s (ix2 t g) = peak fun x => k0_pay11 a b s (ix3 t g x) := by
  have e : k0_pay12 a b s = mulf (multiReduction .maximumf [2] S8192x148 (absf (k0_pay11 a b s)) 0xFF800000#32 reduces_S8192x148x128_S8192x148 (.inl rfl) rfl)
      (broadcast S8192x148 (Scalar.ofBits (F := Ideal) .f32 0x3B124925#32)) := rfl
  rw [e, peak_apply]

/-- The codes from the values and the scaled maxima. -/
theorem pay15_apply (w : FVec Ideal S8192x148x128 .f32) (v : FVec Ideal S8192x148 .f32) (p : FVec Ideal S1x1x252 .f32) (t : Fin 8192) (f : Fin 18944) :
    k0_pay15 w v p (ix2 t f) = min (Ideal.ofBits FTy.f32 1138753536#32) (max (Ideal.ofBits FTy.f32 3286237184#32)
      (w (ix3 t ⟨f.val / 128, by omega⟩ ⟨f.val % 128, by omega⟩) * Ideal.div 1 (k0_pay14 v p (ix2 t ⟨f.val / 128, by omega⟩)))) := by
  pointwise [k0_pay15]

/-- The code of a gate entry. -/
theorem pay10_apply (a b : FVec Ideal S8192x18944 .f32) (t : Fin 8192) (f : Fin 18944) :
    k0_pay10 a b (ix2 t f) = code (fun x => k0_pay8 a b (ix3 t ⟨f.val / 128, by omega⟩ x)) ⟨f.val % 128, by omega⟩ := by
  rw [pay10_eq a b (gatePeaks a b) k0_pay13 (pay9_eq a b).symm, pay15_apply, ← pay9_eq, pay9_apply]
  unfold code
  rfl

/-- The result from the codes, the scales and the dequantised weights. -/
theorem pay16_apply (v4 v9 : FVec Ideal S18944x3584 .bf16) (v59 : FVec Ideal S8192x148 .f32) (v70 : FVec Ideal S8192x18944 .fp8e4m3)
    (w : FVec Ideal S8192x148x128 .f32) (v : FVec Ideal S8192x148 .f32) (p : FVec Ideal S1x1x252 .f32) (t : Fin 8192) (e : Fin 3584) :
    k0_pay16 v4 v9 v59 v70 w v p (ix2 t e)
      = ((∑ f : Fin 18944, (v70 (ix2 t f) * v59 (ix2 t ⟨f.val / 128, by omega⟩)) * v4 (ix2 f e))
        + ∑ f : Fin 18944, (k0_pay15 w v p (ix2 t f) * k0_pay14 v p (ix2 t ⟨f.val / 128, by omega⟩)) * v9 (ix2 f e) : EReal) := by
  pointwise [k0_pay16]

/-- The gate weights' scales, one for each 128 by 128 block, spread over the weights. -/
theorem V_v3 (c : Dev nD) (f : Fin 18944) (e : Fin 3584) : V m c main_v3 (ix2 f e) = m ((c : Thread nD τ).loc main_arg3) (ix2 ⟨f.val / 128, by omega⟩ ⟨e.val / 128, by omega⟩) := by
  unfold V hostOps0
  after_results
  pointwise []

/-- The up weights' scales, one for each 128 by 128 block, spread over the weights. -/
theorem V_v7 (c : Dev nD) (f : Fin 18944) (e : Fin 3584) : V m c main_v7 (ix2 f e) = m ((c : Thread nD τ).loc main_arg5) (ix2 ⟨f.val / 128, by omega⟩ ⟨e.val / 128, by omega⟩) := by
  unfold V hostOps0
  after_results
  pointwise []

/-- The down weights' scales, one for each 128 by 128 block, spread over the weights. -/
theorem V_v11 (c : Dev nD) (f : Fin 3584) (e : Fin 18944) : V m c main_v11 (ix2 f e) = m ((c : Thread nD τ).loc main_arg7) (ix2 ⟨f.val / 128, by omega⟩ ⟨e.val / 128, by omega⟩) := by
  unfold V hostOps0
  after_results
  pointwise []

/-- The down projection's A matrices, one under another. -/
theorem V_v12 (c : Dev nD) : V m c main_v12 = shapeCast (α := EReal) S320x18944 (m ((c : Thread nD τ).loc main_arg10)) shapeCasts_S5x64x18944_S320x18944 := by
  unfold V hostOps0
  after_results
  rfl

end Cert.MainReferenceIdeal.Step

end
-- ==== Proof.MainReference.lean ====
/-
  What the reference of the main call leaves in its five result arrays, from the values of its one body.
-/
module

public import proofs.«01_k».proof.Proof.MainReferenceBody

@[expose] public section

set_option maxRecDepth 16384

noncomputable section

namespace Cert.MainReferenceIdeal.Step

open Cert.MainReferenceIdeal Cert.MainReferenceIdeal.Gen Idealize.ShloMosaic Idealize.ShloMosaic.TcCoe Idealize.ShloMosaic.Pointwise Idealize.SL.Sem
open Cert.MainIdeal.Step (peak scale code gateOf upOf)
open Cert.MainSpec (Arrays act gate up group codes scales term dn dnArray codeArray scaleArray)

section Body

variable (x0 : Vec Ideal S8192x3584 .bf16) (x1 : Vec Ideal S8192x320 .bf16) (x2 : Vec Ideal S18944x3584 .fp8e4m3) (x3 : Vec Ideal S18944x3584 .bf16)
  (x4 : Vec Ideal S18944x3584 .fp8e4m3) (x5 : Vec Ideal S18944x3584 .bf16) (x6 : Vec Ideal S3584x18944 .fp8e4m3) (x7 : Vec Ideal S3584x18944 .bf16)
  (x8 : Vec Ideal S320x18944 .bf16) (x9 x10 : Vec Ideal S8192x18944 .bf16)
  (sg su : S148x28.Idx → EReal) (sd : S28x148.Idx → EReal)
  (h3 : ∀ (f : Fin 18944) (e : Fin 3584), x3 (ix2 f e) = sg (ix2 ⟨f.val / 128, by omega⟩ ⟨e.val / 128, by omega⟩))
  (h5 : ∀ (f : Fin 18944) (e : Fin 3584), x5 (ix2 f e) = su (ix2 ⟨f.val / 128, by omega⟩ ⟨e.val / 128, by omega⟩))
  (h7 : ∀ (k : Fin 3584) (f : Fin 18944), x7 (ix2 k f) = sd (ix2 ⟨k.val / 128, by omega⟩ ⟨f.val / 128, by omega⟩))

/-- The body's loads as the arrays of the specification. -/
abbrev spec : Arrays := ⟨x0, x1, x2, sg, x4, su, x6, sd, x8, x9, x10⟩

include h7

/-- The gradient of the gated activation is the specification's. -/
theorem act_eq (t : Fin 8192) (f : Fin 18944) : k0_pay3 x6 x7 x0 x1 x8 (ix2 t f) = act (spec x0 x1 x2 x4 x6 x8 x9 x10 sg su sd) t f := by
  rw [pay3_apply]
  simp only [h7]
  rfl

/-- The gate groups are the specification's. -/
theorem gate_group (t : Fin 8192) (g : Fin 148) : (fun x => k0_pay8 (k0_pay6 x6 x7 x0 x1 x8 x9 x10) (k0_pay7 x9) (ix3 t g x))
    = group (gate (spec x0 x1 x2 x4 x6 x8 x9 x10 sg su sd)) t g := by
  funext x
  rw [pay8_apply, gate_apply, act_eq x0 x1 x2 x4 x6 x7 x8 x9 x10 sg su sd h7]
  rfl

/-- The up groups are the specification's. -/
theorem up_group (t : Fin 8192) (g : Fin 148) : (fun x => k0_pay11 (k0_pay3 x6 x7 x0 x1 x8) (k0_pay4 x9) (k0_pay5 x9) (ix3 t g x))
    = group (up (spec x0 x1 x2 x4 x6 x8 x9 x10 sg su sd)) t g := by
  funext x
  rw [pay11_apply, up_apply, act_eq x0 x1 x2 x4 x6 x7 x8 x9 x10 sg su sd h7]
  rfl

/-- The gate scales. -/
theorem gate_scales : k0_pay9 (k0_pay6 x6 x7 x0 x1 x8 x9 x10) (k0_pay7 x9) = scaleArray (gate (spec x0 x1 x2 x4 x6 x8 x9 x10 sg su sd)) := by
  funext j
  obtain ⟨t, g, rfl⟩ : ∃ (t : Fin 8192) (g : Fin 148), j = ix2 t g := ⟨j 0, j 1, eq_ix2 j⟩
  rw [pay9_apply, gate_group x0 x1 x2 x4 x6 x7 x8 x9 x10 sg su sd h7]
  rfl

/-- The gate codes. -/
theorem gate_codes : k0_pay10 (k0_pay6 x6 x7 x0 x1 x8 x9 x10) (k0_pay7 x9) = codeArray (gate (spec x0 x1 x2 x4 x6 x8 x9 x10 sg su sd)) := by
  funext j
  obtain ⟨t, f, rfl⟩ : ∃ (t : Fin 8192) (f : Fin 18944), j = ix2 t f := ⟨j 0, j 1, eq_ix2 j⟩
  rw [pay10_apply, gate_group x0 x1 x2 x4 x6 x7 x8 x9 x10 sg su sd h7]
  rfl

/-- The up scales. -/
theorem up_scales : k0_pay14 (k0_pay12 (k0_pay3 x6 x7 x0 x1 x8) (k0_pay4 x9) (k0_pay5 x9)) k0_pay13
    = scaleArray (up (spec x0 x1 x2 x4 x6 x8 x9 x10 sg su sd)) := by
  funext j
  obtain ⟨t, g, rfl⟩ : ∃ (t : Fin 8192) (g : Fin 148), j = ix2 t g := ⟨j 0, j 1, eq_ix2 j⟩
  rw [pay14_apply, pay12_apply, up_group x0 x1 x2 x4 x6 x7 x8 x9 x10 sg su sd h7]
  rfl

/-- The up codes. -/
theorem up_codes : k0_pay15 (k0_pay11 (k0_pay3 x6 x7 x0 x1 x8) (k0_pay4 x9) (k0_pay5 x9)) (k0_pay12 (k0_pay3 x6 x7 x0 x1 x8) (k0_pay4 x9) (k0_pay5 x9)) k0_pay13
    = codeArray (up (spec x0 x1 x2 x4 x6 x8 x9 x10 sg su sd)) := by
  funext j
  obtain ⟨t, f, rfl⟩ : ∃ (t : Fin 8192) (f : Fin 18944), j = ix2 t f := ⟨j 0, j 1, eq_ix2 j⟩
  have e := fun x => congrFun (up_group x0 x1 x2 x4 x6 x7 x8 x9 x10 sg su sd h7 t ⟨f.val / 128, by omega⟩) x
  rw [pay15_apply, up_scales x0 x1 x2 x4 x6 x7 x8 x9 x10 sg su sd h7, e]
  rfl

include h3 h5

/-- The result array. -/
theorem result_eq : k0_pay16 (k0_pay1 x2 x3) (k0_pay2 x4 x5) (k0_pay9 (k0_pay6 x6 x7 x0 x1 x8 x9 x10) (k0_pay7 x9))
      (k0_pay10 (k0_pay6 x6 x7 x0 x1 x8 x9 x10) (k0_pay7 x9)) (k0_pay11 (k0_pay3 x6 x7 x0 x1 x8) (k0_pay4 x9) (k0_pay5 x9))
      (k0_pay12 (k0_pay3 x6 x7 x0 x1 x8) (k0_pay4 x9) (k0_pay5 x9)) k0_pay13
    = dnArray (spec x0 x1 x2 x4 x6 x8 x9 x10 sg su sd) := by
  funext j
  obtain ⟨t, e, rfl⟩ : ∃ (t : Fin 8192) (e : Fin 3584), j = ix2 t e := ⟨j 0, j 1, eq_ix2 j⟩
  rw [pay16_apply, gate_scales x0 x1 x2 x4 x6 x7 x8 x9 x10 sg su sd h7, gate_codes x0 x1 x2 x4 x6 x7 x8 x9 x10 sg su sd h7,
    up_scales x0 x1 x2 x4 x6 x7 x8 x9 x10 sg su sd h7, up_codes x0 x1 x2 x4 x6 x7 x8 x9 x10 sg su sd h7]
  simp only [pay1_apply, pay2_apply, h3, h5]
  rfl

end Body

variable (m : (ℓ : Loc nD τ sig) → Buf (Elt Ideal) ℓ)

/-- The arrays the results depend on, as the call is given them. -/
def arrays (c : Dev nD) : Arrays where
  dy := m ((c : Thread nD τ).loc main_arg0)
  dz := m ((c : Thread nD τ).loc main_arg1)
  wg := m ((c : Thread nD τ).loc main_arg2)
  sg := m ((c : Thread nD τ).loc main_arg3)
  wu := m ((c : Thread nD τ).loc main_arg4)
  su := m ((c : Thread nD τ).loc main_arg5)
  wd := m ((c : Thread nD τ).loc main_arg6)
  sd := m ((c : Thread nD τ).loc main_arg7)
  ad := shapeCast (α := EReal) S320x18944 (m ((c : Thread nD τ).loc main_arg10)) shapeCasts_S5x64x18944_S320x18944
  gb := m ((c : Thread nD τ).loc main_arg16)
  ub := m ((c : Thread nD τ).loc main_arg17)

/-- The result, as the reference leaves it. -/
abbrev result0 (c : Dev nD) : Buf (Elt Ideal) ((c : Thread nD τ).loc main_v13_0) := dnArray (arrays m c)

/-- The gate codes, as the reference leaves them. -/
abbrev result1 (c : Dev nD) : Buf (Elt Ideal) ((c : Thread nD τ).loc main_v13_1) := codeArray (gate (arrays m c))

/-- The gate scales, as the reference leaves them. -/
abbrev result2 (c : Dev nD) : Buf (Elt Ideal) ((c : Thread nD τ).loc main_v13_2) := scaleArray (gate (arrays m c))

/-- The up codes, as the reference leaves them. -/
abbrev result3 (c : Dev nD) : Buf (Elt Ideal) ((c : Thread nD τ).loc main_v13_3) := codeArray (up (arrays m c))

/-- The up scales, as the reference leaves them. -/
abbrev result4 (c : Dev nD) : Buf (Elt Ideal) ((c : Thread nD τ).loc main_v13_4) := scaleArray (up (arrays m c))

/-- What the body is given in its window 0. -/
theorem iblk0 (c : Dev nD) (t : Fin cfg0.N) : iblk m c 0 t = m ((c : Thread nD τ).loc main_arg0) := by
  refine Eq.trans ?_ (V_main_arg0 m c)
  funext j
  unfold iblk
  rw [View.read_apply]
  show V m c main_arg0 _ = _
  exact congrArg (V m c main_arg0) (funext fun a => Fin.ext (win0_0.rect_emb_val_of_index_zero t a rfl j))

/-- What the body is given in its window 1. -/
theorem iblk1 (c : Dev nD) (t : Fin cfg0.N) : iblk m c 1 t = m ((c : Thread nD τ).loc main_arg1) := by
  refine Eq.trans ?_ (V_main_arg1 m c)
  funext j
  unfold iblk
  rw [View.read_apply]
  show V m c main_arg1 _ = _
  exact congrArg (V m c main_arg1) (funext fun a => Fin.ext (win0_1.rect_emb_val_of_index_zero t a rfl j))

/-- What the body is given in its window 2. -/
theorem iblk2 (c : Dev nD) (t : Fin cfg0.N) : iblk m c 2 t = m ((c : Thread nD τ).loc main_arg2) := by
  refine Eq.trans ?_ (V_main_arg2 m c)
  funext j
  unfold iblk
  rw [View.read_apply]
  show V m c main_arg2 _ = _
  exact congrArg (V m c main_arg2) (funext fun a => Fin.ext (win0_2.rect_emb_val_of_index_zero t a rfl j))

/-- What the body is given in its window 3. -/
theorem iblk3 (c : Dev nD) (t : Fin cfg0.N) : iblk m c 3 t = V m c main_v3 := by
  funext j
  unfold iblk
  rw [View.read_apply]
  show V m c main_v3 _ = _
  exact congrArg (V m c main_v3) (funext fun a => Fin.ext (win0_3.rect_emb_val_of_index_zero t a rfl j))

/-- What the body is given in its window 4. -/
theorem iblk4 (c : Dev nD) (t : Fin cfg0.N) : iblk m c 4 t = m ((c : Thread nD τ).loc main_arg4) := by
  refine Eq.trans ?_ (V_main_arg4 m c)
  funext j
  unfold iblk
  rw [View.read_apply]
  show V m c main_arg4 _ = _
  exact congrArg (V m c main_arg4) (funext fun a => Fin.ext (win0_4.rect_emb_val_of_index_zero t a rfl j))

/-- What the body is given in its window 5. -/
theorem iblk5 (c : Dev nD) (t : Fin cfg0.N) : iblk m c 5 t = V m c main_v7 := by
  funext j
  unfold iblk
  rw [View.read_apply]
  show V m c main_v7 _ = _
  exact congrArg (V m c main_v7) (funext fun a => Fin.ext (win0_5.rect_emb_val_of_index_zero t a rfl j))

/-- What the body is given in its window 6. -/
theorem iblk6 (c : Dev nD) (t : Fin cfg0.N) : iblk m c 6 t = m ((c : Thread nD τ).loc main_arg6) := by
  refine Eq.trans ?_ (V_main_arg6 m c)
  funext j
  unfold iblk
  rw [View.read_apply]
  show V m c main_arg6 _ = _
  exact congrArg (V m c main_arg6) (funext fun a => Fin.ext (win0_6.rect_emb_val_of_index_zero t a rfl j))

/-- What the body is given in its window 7. -/
theorem iblk7 (c : Dev nD) (t : Fin cfg0.N) : iblk m c 7 t = V m c main_v11 := by
  funext j
  unfold iblk
  rw [View.read_apply]
  show V m c main_v11 _ = _
  exact congrArg (V m c main_v11) (funext fun a => Fin.ext (win0_7.rect_emb_val_of_index_zero t a rfl j))

/-- What the body is given in its window 8. -/
theorem iblk8 (c : Dev nD) (t : Fin cfg0.N) : iblk m c 8 t = shapeCast (α := EReal) S320x18944 (m ((c : Thread nD τ).loc main_arg10)) shapeCasts_S5x64x18944_S320x18944 := by
  refine Eq.trans ?_ (V_v12 m c)
  funext j
  unfold iblk
  rw [View.read_apply]
  show V m c main_v12 _ = _
  exact congrArg (V m c main_v12) (funext fun a => Fin.ext (win0_8.rect_emb_val_of_index_zero t a rfl j))

/-- What the body is given in its window 9. -/
theorem iblk9 (c : Dev nD) (t : Fin cfg0.N) : iblk m c 9 t = m ((c : Thread nD τ).loc main_arg16) := by
  refine Eq.trans ?_ (V_main_arg16 m c)
  funext j
  unfold iblk
  rw [View.read_apply]
  show V m c main_arg16 _ = _
  exact congrArg (V m c main_arg16) (funext fun a => Fin.ext (win0_9.rect_emb_val_of_index_zero t a rfl j))

/-- What the body is given in its window 10. -/
theorem iblk10 (c : Dev nD) (t : Fin cfg0.N) : iblk m c 10 t = m ((c : Thread nD τ).loc main_arg17) := by
  refine Eq.trans ?_ (V_main_arg17 m c)
  funext j
  unfold iblk
  rw [View.read_apply]
  show V m c main_arg17 _ = _
  exact congrArg (V m c main_arg17) (funext fun a => Fin.ext (win0_10.rect_emb_val_of_index_zero t a rfl j))

/-- The result the body stores. -/
theorem flushed11 (c : Dev nD) (t : Fin cfg0.N) (_ : (cfg0.win 11).flush t = true) :
    (dats m 0 c).flushed 11 t = ((cfg0.win 11).blk t).view.read (Elt Ideal) (result0 m c) := by
  rw [Value.flushed11, iblk0, iblk1, iblk2, iblk3, iblk4, iblk5, iblk6, iblk7, iblk8, iblk9, iblk10]
  unfold out0_11 k0_pay26 k0_pay25 k0_pay24 k0_pay23 k0_pay22 k0_pay21 k0_pay20 k0_pay19 k0_pay18 k0_pay17
  rw [View.canon_unit_zero hz]
  simp only [View.ld_unit_zero (S := S8192x3584) hz, View.ld_unit_zero (S := S8192x320) hz, View.ld_unit_zero (S := S18944x3584) hz,
    View.ld_unit_zero (S := S3584x18944) hz, View.ld_unit_zero (S := S320x18944) hz, View.ld_unit_zero (S := S8192x18944) hz]
  rw [result_eq (m ((c : Thread nD τ).loc main_arg0)) (m ((c : Thread nD τ).loc main_arg1)) (m ((c : Thread nD τ).loc main_arg2)) (V m c main_v3) (m ((c : Thread nD τ).loc main_arg4)) (V m c main_v7) (m ((c : Thread nD τ).loc main_arg6)) (V m c main_v11) (shapeCast (α := EReal) S320x18944 (m ((c : Thread nD τ).loc main_arg10)) shapeCasts_S5x64x18944_S320x18944)
      (m ((c : Thread nD τ).loc main_arg16)) (m ((c : Thread nD τ).loc main_arg17)) (m ((c : Thread nD τ).loc main_arg3)) (m ((c : Thread nD τ).loc main_arg5)) (m ((c : Thread nD τ).loc main_arg7)) (V_v3 m c) (V_v7 m c) (V_v11 m c)]
  funext j
  rw [View.read_apply]
  show result0 m c _ = result0 m c _
  exact congrArg (result0 m c) (funext fun a => Fin.ext (win0_11.rect_emb_val_of_index_zero t a rfl j)).symm

/-- The result: the array after the run. -/
theorem final11 (c : Dev nD) : (dats m 0 c).arrAt 11 cfg0.N = result0 m c :=
  (dats m 0 c).arrAt_eq_of_cover 11 (result0 m c) (flushed11 m c) fun i => by
    have h0 : (i 0 : Nat) < 8192 := (i 0).isLt
    have h1 : (i 1 : Nat) < 3584 := (i 1).isLt
    let t : Fin cfg0.N := ⟨0, by decide⟩
    refine ⟨t, by decide, ?_⟩
    show i ∈ ((View.whole main_v13_0).slice (win0_11.rect t)).set
    rw [View.set_slice_whole, Rect.mem_set_unit]
    intro a
    match a with
    | ⟨0, _⟩ =>
      show 0 * 8192 ≤ (i 0 : Nat) ∧ (i 0 : Nat) < 0 * 8192 + 8192
      omega
    | ⟨1, _⟩ =>
      show 0 * 3584 ≤ (i 1 : Nat) ∧ (i 1 : Nat) < 0 * 3584 + 3584
      omega

/-- The gate codes the body stores. -/
theorem flushed12 (c : Dev nD) (t : Fin cfg0.N) (_ : (cfg0.win 12).flush t = true) :
    (dats m 0 c).flushed 12 t = ((cfg0.win 12).blk t).view.read (Elt Ideal) (result1 m c) := by
  rw [Value.flushed12, iblk0, iblk1, iblk2, iblk3, iblk4, iblk5, iblk6, iblk7, iblk8, iblk9, iblk10]
  unfold out0_12 k0_pay23 k0_pay21 k0_pay20
  rw [View.canon_unit_zero hz]
  simp only [View.ld_unit_zero (S := S8192x3584) hz, View.ld_unit_zero (S := S8192x320) hz, View.ld_unit_zero (S := S18944x3584) hz,
    View.ld_unit_zero (S := S3584x18944) hz, View.ld_unit_zero (S := S320x18944) hz, View.ld_unit_zero (S := S8192x18944) hz]
  rw [gate_codes (m ((c : Thread nD τ).loc main_arg0)) (m ((c : Thread nD τ).loc main_arg1)) (m ((c : Thread nD τ).loc main_arg2)) (m ((c : Thread nD τ).loc main_arg4)) (m ((c : Thread nD τ).loc main_arg6)) (V m c main_v11) (shapeCast (α := EReal) S320x18944 (m ((c : Thread nD τ).loc main_arg10)) shapeCasts_S5x64x18944_S320x18944)
      (m ((c : Thread nD τ).loc main_arg16)) (m ((c : Thread nD τ).loc main_arg17)) (m ((c : Thread nD τ).loc main_arg3)) (m ((c : Thread nD τ).loc main_arg5)) (m ((c : Thread nD τ).loc main_arg7)) (V_v11 m c)]
  funext j
  rw [View.read_apply]
  show result1 m c _ = result1 m c _
  exact congrArg (result1 m c) (funext fun a => Fin.ext (win0_12.rect_emb_val_of_index_zero t a rfl j)).symm

/-- The gate codes: the array after the run. -/
theorem final12 (c : Dev nD) : (dats m 0 c).arrAt 12 cfg0.N = result1 m c :=
  (dats m 0 c).arrAt_eq_of_cover 12 (result1 m c) (flushed12 m c) fun i => by
    have h0 : (i 0 : Nat) < 8192 := (i 0).isLt
    have h1 : (i 1 : Nat) < 18944 := (i 1).isLt
    let t : Fin cfg0.N := ⟨0, by decide⟩
    refine ⟨t, by decide, ?_⟩
    show i ∈ ((View.whole main_v13_1).slice (win0_12.rect t)).set
    rw [View.set_slice_whole, Rect.mem_set_unit]
    intro a
    match a with
    | ⟨0, _⟩ =>
      show 0 * 8192 ≤ (i 0 : Nat) ∧ (i 0 : Nat) < 0 * 8192 + 8192
      omega
    | ⟨1, _⟩ =>
      show 0 * 18944 ≤ (i 1 : Nat) ∧ (i 1 : Nat) < 0 * 18944 + 18944
      omega

/-- The gate scales the body stores. -/
theorem flushed13 (c : Dev nD) (t : Fin cfg0.N) (_ : (cfg0.win 13).flush t = true) :
    (dats m 0 c).flushed 13 t = ((cfg0.win 13).blk t).view.read (Elt Ideal) (result2 m c) := by
  rw [Value.flushed13, iblk0, iblk1, iblk2, iblk3, iblk4, iblk5, iblk6, iblk7, iblk8, iblk9, iblk10]
  unfold out0_13 k0_pay22 k0_pay21 k0_pay20
  rw [View.canon_unit_zero hz]
  simp only [View.ld_unit_zero (S := S8192x3584) hz, View.ld_unit_zero (S := S8192x320) hz, View.ld_unit_zero (S := S18944x3584) hz,
    View.ld_unit_zero (S := S3584x18944) hz, View.ld_unit_zero (S := S320x18944) hz, View.ld_unit_zero (S := S8192x18944) hz]
  rw [gate_scales (m ((c : Thread nD τ).loc main_arg0)) (m ((c : Thread nD τ).loc main_arg1)) (m ((c : Thread nD τ).loc main_arg2)) (m ((c : Thread nD τ).loc main_arg4)) (m ((c : Thread nD τ).loc main_arg6)) (V m c main_v11) (shapeCast (α := EReal) S320x18944 (m ((c : Thread nD τ).loc main_arg10)) shapeCasts_S5x64x18944_S320x18944)
      (m ((c : Thread nD τ).loc main_arg16)) (m ((c : Thread nD τ).loc main_arg17)) (m ((c : Thread nD τ).loc main_arg3)) (m ((c : Thread nD τ).loc main_arg5)) (m ((c : Thread nD τ).loc main_arg7)) (V_v11 m c)]
  funext j
  rw [View.read_apply]
  show result2 m c _ = result2 m c _
  exact congrArg (result2 m c) (funext fun a => Fin.ext (win0_13.rect_emb_val_of_index_zero t a rfl j)).symm

/-- The gate scales: the array after the run. -/
theorem final13 (c : Dev nD) : (dats m 0 c).arrAt 13 cfg0.N = result2 m c :=
  (dats m 0 c).arrAt_eq_of_cover 13 (result2 m c) (flushed13 m c) fun i => by
    have h0 : (i 0 : Nat) < 8192 := (i 0).isLt
    have h1 : (i 1 : Nat) < 148 := (i 1).isLt
    let t : Fin cfg0.N := ⟨0, by decide⟩
    refine ⟨t, by decide, ?_⟩
    show i ∈ ((View.whole main_v13_2).slice (win0_13.rect t)).set
    rw [View.set_slice_whole, Rect.mem_set_unit]
    intro a
    match a with
    | ⟨0, _⟩ =>
      show 0 * 8192 ≤ (i 0 : Nat) ∧ (i 0 : Nat) < 0 * 8192 + 8192
      omega
    | ⟨1, _⟩ =>
      show 0 * 148 ≤ (i 1 : Nat) ∧ (i 1 : Nat) < 0 * 148 + 148
      omega

/-- The up codes the body stores. -/
theorem flushed14 (c : Dev nD) (t : Fin cfg0.N) (_ : (cfg0.win 14).flush t = true) :
    (dats m 0 c).flushed 14 t = ((cfg0.win 14).blk t).view.read (Elt Ideal) (result3 m c) := by
  rw [Value.flushed14, iblk0, iblk1, iblk2, iblk3, iblk4, iblk5, iblk6, iblk7, iblk8, iblk9, iblk10]
  unfold out0_14 k0_pay26 k0_pay25 k0_pay24 k0_pay19 k0_pay18 k0_pay17
  rw [View.canon_unit_zero hz]
  simp only [View.ld_unit_zero (S := S8192x3584) hz, View.ld_unit_zero (S := S8192x320) hz, View.ld_unit_zero (S := S18944x3584) hz,
    View.ld_unit_zero (S := S3584x18944) hz, View.ld_unit_zero (S := S320x18944) hz, View.ld_unit_zero (S := S8192x18944) hz]
  rw [up_codes (m ((c : Thread nD τ).loc main_arg0)) (m ((c : Thread nD τ).loc main_arg1)) (m ((c : Thread nD τ).loc main_arg2)) (m ((c : Thread nD τ).loc main_arg4)) (m ((c : Thread nD τ).loc main_arg6)) (V m c main_v11) (shapeCast (α := EReal) S320x18944 (m ((c : Thread nD τ).loc main_arg10)) shapeCasts_S5x64x18944_S320x18944)
      (m ((c : Thread nD τ).loc main_arg16)) (m ((c : Thread nD τ).loc main_arg17)) (m ((c : Thread nD τ).loc main_arg3)) (m ((c : Thread nD τ).loc main_arg5)) (m ((c : Thread nD τ).loc main_arg7)) (V_v11 m c)]
  funext j
  rw [View.read_apply]
  show result3 m c _ = result3 m c _
  exact congrArg (result3 m c) (funext fun a => Fin.ext (win0_14.rect_emb_val_of_index_zero t a rfl j)).symm

/-- The up codes: the array after the run. -/
theorem final14 (c : Dev nD) : (dats m 0 c).arrAt 14 cfg0.N = result3 m c :=
  (dats m 0 c).arrAt_eq_of_cover 14 (result3 m c) (flushed14 m c) fun i => by
    have h0 : (i 0 : Nat) < 8192 := (i 0).isLt
    have h1 : (i 1 : Nat) < 18944 := (i 1).isLt
    let t : Fin cfg0.N := ⟨0, by decide⟩
    refine ⟨t, by decide, ?_⟩
    show i ∈ ((View.whole main_v13_3).slice (win0_14.rect t)).set
    rw [View.set_slice_whole, Rect.mem_set_unit]
    intro a
    match a with
    | ⟨0, _⟩ =>
      show 0 * 8192 ≤ (i 0 : Nat) ∧ (i 0 : Nat) < 0 * 8192 + 8192
      omega
    | ⟨1, _⟩ =>
      show 0 * 18944 ≤ (i 1 : Nat) ∧ (i 1 : Nat) < 0 * 18944 + 18944
      omega

/-- The up scales the body stores. -/
theorem flushed15 (c : Dev nD) (t : Fin cfg0.N) (_ : (cfg0.win 15).flush t = true) :
    (dats m 0 c).flushed 15 t = ((cfg0.win 15).blk t).view.read (Elt Ideal) (result4 m c) := by
  rw [Value.flushed15, iblk0, iblk1, iblk2, iblk3, iblk4, iblk5, iblk6, iblk7, iblk8, iblk9, iblk10]
  unfold out0_15 k0_pay26 k0_pay25 k0_pay19 k0_pay18 k0_pay17
  rw [View.canon_unit_zero hz]
  simp only [View.ld_unit_zero (S := S8192x3584) hz, View.ld_unit_zero (S := S8192x320) hz, View.ld_unit_zero (S := S18944x3584) hz,
    View.ld_unit_zero (S := S3584x18944) hz, View.ld_unit_zero (S := S320x18944) hz, View.ld_unit_zero (S := S8192x18944) hz]
  rw [up_scales (m ((c : Thread nD τ).loc main_arg0)) (m ((c : Thread nD τ).loc main_arg1)) (m ((c : Thread nD τ).loc main_arg2)) (m ((c : Thread nD τ).loc main_arg4)) (m ((c : Thread nD τ).loc main_arg6)) (V m c main_v11) (shapeCast (α := EReal) S320x18944 (m ((c : Thread nD τ).loc main_arg10)) shapeCasts_S5x64x18944_S320x18944)
      (m ((c : Thread nD τ).loc main_arg16)) (m ((c : Thread nD τ).loc main_arg17)) (m ((c : Thread nD τ).loc main_arg3)) (m ((c : Thread nD τ).loc main_arg5)) (m ((c : Thread nD τ).loc main_arg7)) (V_v11 m c)]
  funext j
  rw [View.read_apply]
  show result4 m c _ = result4 m c _
  exact congrArg (result4 m c) (funext fun a => Fin.ext (win0_15.rect_emb_val_of_index_zero t a rfl j)).symm

/-- The up scales: the array after the run. -/
theorem final15 (c : Dev nD) : (dats m 0 c).arrAt 15 cfg0.N = result4 m c :=
  (dats m 0 c).arrAt_eq_of_cover 15 (result4 m c) (flushed15 m c) fun i => by
    have h0 : (i 0 : Nat) < 8192 := (i 0).isLt
    have h1 : (i 1 : Nat) < 148 := (i 1).isLt
    let t : Fin cfg0.N := ⟨0, by decide⟩
    refine ⟨t, by decide, ?_⟩
    show i ∈ ((View.whole main_v13_4).slice (win0_15.rect t)).set
    rw [View.set_slice_whole, Rect.mem_set_unit]
    intro a
    match a with
    | ⟨0, _⟩ =>
      show 0 * 8192 ≤ (i 0 : Nat) ∧ (i 0 : Nat) < 0 * 8192 + 8192
      omega
    | ⟨1, _⟩ =>
      show 0 * 148 ≤ (i 1 : Nat) ∧ (i 1 : Nat) < 0 * 148 + 148
      omega

/-- The run: the five result arrays hold the formulas and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v13_0) = result0 m c
      ∧ r.2.mem ((c : Thread nD τ).loc main_v13_1) = result1 m c
      ∧ r.2.mem ((c : Thread nD τ).loc main_v13_2) = result2 m c
      ∧ r.2.mem ((c : Thread nD τ).loc main_v13_3) = result3 m c
      ∧ r.2.mem ((c : Thread nD τ).loc main_v13_4) = result4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).1.trans (final11 m c), (h c).2.1.trans (final12 m c), (h c).2.2.1.trans (final13 m c),
      (h c).2.2.2.1.trans (final14 m c), (h c).2.2.2.2.1.trans (final15 m c), (h c).2.2.2.2.2⟩) (Value.run_blocks m ρ)

end Cert.MainReferenceIdeal.Step

end
-- ==== Proof.MainClaim.lean ====
/-
  The main call against its reference: both end with the same five arrays, the formulas of `MainMath`.
-/
module

public import proofs.«01_k».proof.Defs
public import proofs.«01_k».proof.Proof.MainValue
public import proofs.«01_k».proof.Proof.MainReference

@[expose] public section

noncomputable section

namespace Cert.MainCall

open Idealize.ShloMosaic Idealize.SL.Sem

/-- The tiled main call and its reference compute the same five arrays over the extended reals. -/
theorem algebraic : Cert.algebraic_MainIdeal_MainReferenceIdeal := by
  intro m ρ m' ρ' _ h
  refine ⟨fun c => MainIdeal.Result.result0 m c, fun c => MainIdeal.Result.result1 m c, fun c => MainIdeal.Result.result2 m c,
    fun c => MainIdeal.Result.result3 m c, fun c => MainIdeal.Result.result4 m c, MainIdeal.Result.run m ρ, ?_⟩
  have e : ∀ c, MainReferenceIdeal.Step.arrays m' c = MainIdeal.Result.arrays m c := by
    intro c
    obtain ⟨h0, h1, h2, h3, h4, h5, h6, h7, _, _, h10, _, _, _, _, _, h16, h17⟩ := h c
    unfold MainReferenceIdeal.Step.arrays MainIdeal.Result.arrays
    rw [h0, h1, h2, h3, h4, h5, h6, h7, h10, h16, h17]
  refine (θ_run _ _ _).mono (fun r hr c => ?_) (MainReferenceIdeal.Step.run m' ρ')
  obtain ⟨r0, r1, r2, r3, r4, rest⟩ := hr c
  refine ⟨r0.trans ?_, r1.trans ?_, r2.trans ?_, r3.trans ?_, r4.trans ?_, rest⟩
  · exact congrArg MainSpec.dnArray (e c)
  · exact congrArg (fun A => MainSpec.codeArray (MainSpec.gate A)) (e c)
  · exact congrArg (fun A => MainSpec.scaleArray (MainSpec.gate A)) (e c)
  · exact congrArg (fun A => MainSpec.codeArray (MainSpec.up A)) (e c)
  · exact congrArg (fun A => MainSpec.scaleArray (MainSpec.up A)) (e c)

end Cert.MainCall

end
-- ==== Proof.lean ====
/-
  The certificate: the frames of the four calls, their ideal programs and their references; the value claims.
-/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownReferenceIdeal.Value
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyIdeal.Value
public import proofs.«01_k».proof.Proof.Gen.DyReferenceIdeal
public import proofs.«01_k».proof.Proof.Gen.DyReferenceIdeal.Skeleton
public import proofs.«01_k».proof.Proof.Gen.DyReferenceIdeal.Launch
public import proofs.«01_k».proof.Proof.Gen.DyReferenceIdeal.Points
public import proofs.«01_k».proof.Proof.Gen.DyReferenceIdeal.Frame
public import proofs.«01_k».proof.Proof.Gen.DyReferenceIdeal.Value
public import proofs.«01_k».proof.Proof.Gen.Tail
public import proofs.«01_k».proof.Proof.Gen.Tail.Skeleton
public import proofs.«01_k».proof.Proof.Gen.Tail.Loops
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Loops
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Skeleton
public import proofs.«01_k».proof.Proof.Gen.TailReferenceIdeal.Launch
public import proofs.«01_k».proof.Proof.Gen.TailReferenceIdeal.Points
public import proofs.«01_k».proof.Proof.Gen.TailReferenceIdeal.Frame
public import proofs.«01_k».proof.Proof.Gen.TailReferenceIdeal.Value
public import proofs.«01_k».proof.Proof.Gen.Main
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.MainFrame
public import proofs.«01_k».proof.Proof.Gen.MainReferenceIdeal
public import proofs.«01_k».proof.Proof.Gen.MainReferenceIdeal.Frame
public import proofs.«01_k».proof.Proof.Gen.MainReferenceIdeal.Value
public import proofs.«01_k».proof.Proof.DownClaim
public import proofs.«01_k».proof.Proof.MainBits
public import proofs.«01_k».proof.Proof.MainClaim
public import Idealize.ShloMosaic.Adequacy
public import Idealize.ShloMosaic.Init

@[expose] public section

noncomputable section

namespace Cert.Proof

open Idealize.ShloMosaic Idealize.SL.Sem Cert.Down

/-- Everything that is claimed. -/
theorem claim : Cert.Claim := ⟨Cert.Down.Gen.facts, Cert.DownIdeal.Gen.facts, Cert.DownReferenceIdeal.Gen.facts, Cert.Dy.Gen.facts, Cert.DyIdeal.Gen.facts, Cert.DyReferenceIdeal.Gen.facts, Cert.Tail.Gen.facts, Cert.TailIdeal.Gen.facts, Cert.TailReferenceIdeal.Gen.facts,
  Cert.MainIdeal.Gen.facts, Cert.MainReferenceIdeal.Gen.facts, Cert.Main.Gen.facts,
  fun m ρ _ => Cert.Down.Gen.frame m ρ, fun m ρ _ => Cert.DownIdeal.Gen.frame m ρ, fun m ρ _ => Cert.DownReferenceIdeal.Gen.frame m ρ,
  fun m ρ _ => Cert.Dy.Gen.frame m ρ, fun m ρ _ => Cert.DyIdeal.Gen.frame m ρ, fun m ρ _ => Cert.DyReferenceIdeal.Gen.frame m ρ,
  fun m ρ _ => Cert.Tail.Gen.frame m ρ, fun m ρ _ => Cert.TailIdeal.Gen.frame m ρ, fun m ρ _ => Cert.TailReferenceIdeal.Gen.frame m ρ,
  fun m ρ _ => Cert.MainIdeal.Gen.frame m ρ, fun m ρ _ => Cert.MainReferenceIdeal.Gen.frame m ρ, Cert.MainBits.frame,
  trivial, Cert.Down.algebraic, trivial, trivial, trivial, Cert.MainCall.algebraic⟩

end Cert.Proof

end
